-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x768 : Shape := ⟨3, ![1, 2048, 768]⟩
abbrev S768 : Shape := ⟨1, ![768]⟩
abbrev S768x768 : Shape := ⟨2, ![768, 768]⟩
abbrev S8x768x768 : Shape := ⟨3, ![8, 768, 768]⟩
abbrev S768x8 : Shape := ⟨2, ![768, 8]⟩
abbrev S16x768x128 : Shape := ⟨3, ![16, 768, 128]⟩
abbrev S16x128x768 : Shape := ⟨3, ![16, 128, 768]⟩
abbrev S768x16 : Shape := ⟨2, ![768, 16]⟩
abbrev S_ : Shape := ⟨0, ![]⟩

class Facts : Prop where
  bcast_S_S768 : S_.BroadcastsInDim S768 (![] : Fin 0 → Fin S768.rank)
  reducesTo_S768_S_d0 : S768.ReducesTo [0] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S1x2048x768 .f32) (main_arg1 : FVec F S768 .f32) (main_arg2 : FVec F S768 .f32) (main_arg3 : FVec F S768x768 .f32) (main_arg4 : FVec F S768x768 .f32) (main_arg5 : FVec F S8x768x768 .f32) (main_arg6 : FVec F S8x768x768 .f32) (main_arg7 : FVec F S768x8 .f32) (main_arg8 : FVec F S768x8 .f32) (main_arg9 : FVec F S16x768x128 .f32) (main_arg10 : FVec F S16x128x768 .f32) (main_arg11 : FVec F S768x16 .f32) : IVec S_ 1 :=
  let main_v0 : FVec F S768 .f32 := Host.absf main_arg1
  let main_cst : FVec F S_ .f32 := constant S_ .f32 0x7F800000#32
  let main_v1 : FVec F S768 .f32 := broadcastInDim S768 ![] bcast_S_S768 main_cst
  let main_v2 : IVec S768 1 := cmpf .olt main_v0 main_v1
  let main_c : IVec S_ 1 := constantI S_ 1 1#1
  let main_v3 : IVec S_ 1 := (fun x v => Host.reduce IntOp.andi x v reducesTo_S768_S_d0 h_S_) main_v2 main_c
  let main_v4 : FVec F S768x768 .f32 := Host.absf main_arg3
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg4
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  main_v13
-- ==== Kernel.lean ====
abbrev S1x2048x768 : Shape := ⟨3, ![1, 2048, 768]⟩
abbrev S768 : Shape := ⟨1, ![768]⟩
abbrev S768x768 : Shape := ⟨2, ![768, 768]⟩
abbrev S8x768x768 : Shape := ⟨3, ![8, 768, 768]⟩
abbrev S768x8 : Shape := ⟨2, ![768, 8]⟩
abbrev S16x768x128 : Shape := ⟨3, ![16, 768, 128]⟩
abbrev S16x128x768 : Shape := ⟨3, ![16, 128, 768]⟩
abbrev S768x16 : Shape := ⟨2, ![768, 16]⟩
abbrev S2048x768 : Shape := ⟨2, ![2048, 768]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S64x64 : Shape := ⟨2, ![64, 64]⟩
abbrev S1x64x1x64 : Shape := ⟨4, ![1, 64, 1, 64]⟩
abbrev S1x64x12x64 : Shape := ⟨4, ![1, 64, 12, 64]⟩
abbrev S64x768 : Shape := ⟨2, ![64, 768]⟩
abbrev S1x768 : Shape := ⟨2, ![1, 768]⟩
abbrev S768x3072 : Shape := ⟨2, ![768, 3072]⟩
abbrev S8x768x256 : Shape := ⟨3, ![8, 768, 256]⟩
abbrev S8x256x768 : Shape := ⟨3, ![8, 256, 768]⟩
abbrev S1x768x768 : Shape := ⟨3, ![1, 768, 768]⟩
abbrev S2x768x128 : Shape := ⟨3, ![2, 768, 128]⟩
abbrev S2x128x768 : Shape := ⟨3, ![2, 128, 768]⟩
abbrev S1x768x256 : Shape := ⟨3, ![1, 768, 256]⟩
abbrev S1x256x768 : Shape := ⟨3, ![1, 256, 768]⟩
abbrev S1x768x128 : Shape := ⟨3, ![1, 768, 128]⟩
abbrev S768x128 : Shape := ⟨2, ![768, 128]⟩
abbrev S768x256 : Shape := ⟨2, ![768, 256]⟩
abbrev S1x128x768 : Shape := ⟨3, ![1, 128, 768]⟩
abbrev S128x768 : Shape := ⟨2, ![128, 768]⟩
abbrev S256x768 : Shape := ⟨2, ![256, 768]⟩
abbrev S768x32 : Shape := ⟨2, ![768, 32]⟩
abbrev S512x768 : Shape := ⟨2, ![512, 768]⟩
abbrev S512x64 : Shape := ⟨2, ![512, 64]⟩
abbrev S12x4x64x512 : Shape := ⟨4, ![12, 4, 64, 512]⟩
abbrev S12x4x512x64 : Shape := ⟨4, ![12, 4, 512, 64]⟩
abbrev S512 : Shape := ⟨1, ![512]⟩
abbrev S512x1 : Shape := ⟨2, ![512, 1]⟩
abbrev S768x1536 : Shape := ⟨2, ![768, 1536]⟩
abbrev S512x1536 : Shape := ⟨2, ![512, 1536]⟩
abbrev S768x512 : Shape := ⟨2, ![768, 512]⟩
abbrev S64x512 : Shape := ⟨2, ![64, 512]⟩
abbrev S1x1x64x512 : Shape := ⟨4, ![1, 1, 64, 512]⟩
abbrev S512x8 : Shape := ⟨2, ![512, 8]⟩
abbrev S512x8x1 : Shape := ⟨3, ![512, 8, 1]⟩
abbrev S512x1x8 : Shape := ⟨3, ![512, 1, 8]⟩
abbrev S512x8x8 : Shape := ⟨3, ![512, 8, 8]⟩
abbrev S1x1x512x64 : Shape := ⟨4, ![1, 1, 512, 64]⟩
abbrev S512x512 : Shape := ⟨2, ![512, 512]⟩
abbrev S512x16 : Shape := ⟨2, ![512, 16]⟩
abbrev S512x16x1 : Shape := ⟨3, ![512, 16, 1]⟩
abbrev S512x1x16 : Shape := ⟨3, ![512, 1, 16]⟩
abbrev S512x16x16 : Shape := ⟨3, ![512, 16, 16]⟩
abbrev S512x256 : Shape := ⟨2, ![512, 256]⟩

abbrev nBuf : Space → Nat
  | .hbm => 52
  | .vmem => 40
  | .smem => 0
  | _ => 0

abbrev bufTy : (tb : Table) → Fin (tcTables nBuf tb) → BufTy
  | .hbm, ⟨0, _⟩ => ⟨S1x2048x768, .f32⟩
  | .hbm, ⟨1, _⟩ => ⟨S768, .f32⟩
  | .hbm, ⟨2, _⟩ => ⟨S768, .f32⟩
  | .hbm, ⟨3, _⟩ => ⟨S768x768, .f32⟩
  | .hbm, ⟨4, _⟩ => ⟨S768x768, .f32⟩
  | .hbm, ⟨5, _⟩ => ⟨S8x768x768, .f32⟩
  | .hbm, ⟨6, _⟩ => ⟨S8x768x768, .f32⟩
  | .hbm, ⟨7, _⟩ => ⟨S768x8, .f32⟩
  | .hbm, ⟨8, _⟩ => ⟨S768x8, .f32⟩
  | .hbm, ⟨9, _⟩ => ⟨S16x768x128, .f32⟩
  | .hbm, ⟨10, _⟩ => ⟨S16x128x768, .f32⟩
  | .hbm, ⟨11, _⟩ => ⟨S768x16, .f32⟩
  | .hbm, ⟨12, _⟩ => ⟨S2048x768, .f32⟩
  | .hbm, ⟨13, _⟩ => ⟨S2048, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S2048x1, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x64, .f32⟩
  | .hbm, ⟨32, _⟩ => ⟨S2048x64, .f32⟩
  | .hbm, ⟨33, _⟩ => ⟨S64x64, .i32⟩
  | .hbm, ⟨34, _⟩ => ⟨S64x64, .i32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S64x64, .i1⟩
  | .hbm, ⟨39, _⟩ => ⟨S64x64, .f32⟩
  | .hbm, ⟨40, _⟩ => ⟨S1x64x1x64, .f32⟩
  | .hbm, ⟨41, _⟩ => ⟨S1x64x12x64, .f32⟩
  | .hbm, ⟨42, _⟩ => ⟨S64x768, .f32⟩
  | .hbm, ⟨43, _⟩ => ⟨S1x768, .f32⟩
  | .hbm, ⟨44, _⟩ => ⟨S1x768, .f32⟩
  | .hbm, ⟨45, _⟩ => ⟨S768x3072, .bf16⟩
  | .hbm, ⟨46, _⟩ => ⟨S8x768x768, .bf16⟩
  | .hbm, ⟨47, _⟩ => ⟨S8x768x768, .bf16⟩
  | .hbm, ⟨48, _⟩ => ⟨S8x768x256, .bf16⟩
  | .hbm, ⟨49, _⟩ => ⟨S8x256x768, .bf16⟩
  | .hbm, ⟨50, _⟩ => ⟨S2048x768, .f32⟩
  | .hbm, ⟨51, _⟩ => ⟨S1x2048x768, .f32⟩
  | .local _ .vmem, ⟨0, _⟩ => ⟨S768x768, .f32⟩
  | .local _ .vmem, ⟨1, _⟩ => ⟨S768x768, .f32⟩
  | .local _ .vmem, ⟨2, _⟩ => ⟨S1x768x768, .f32⟩
  | .local _ .vmem, ⟨3, _⟩ => ⟨S1x768x768, .f32⟩
  | .local _ .vmem, ⟨4, _⟩ => ⟨S1x768x768, .f32⟩
  | .local _ .vmem, ⟨5, _⟩ => ⟨S1x768x768, .f32⟩
  | .local _ .vmem, ⟨6, _⟩ => ⟨S2x768x128, .f32⟩
  | .local _ .vmem, ⟨7, _⟩ => ⟨S2x768x128, .f32⟩
  | .local _ .vmem, ⟨8, _⟩ => ⟨S2x128x768, .f32⟩
  | .local _ .vmem, ⟨9, _⟩ => ⟨S2x128x768, .f32⟩
  | .local _ .vmem, ⟨10, _⟩ => ⟨S768x3072, .bf16⟩
  | .local _ .vmem, ⟨11, _⟩ => ⟨S1x768x768, .bf16⟩
  | .local _ .vmem, ⟨12, _⟩ => ⟨S1x768x768, .bf16⟩
  | .local _ .vmem, ⟨13, _⟩ => ⟨S1x768x768, .bf16⟩
  | .local _ .vmem, ⟨14, _⟩ => ⟨S1x768x768, .bf16⟩
  | .local _ .vmem, ⟨15, _⟩ => ⟨S1x768x256, .bf16⟩
  | .local _ .vmem, ⟨16, _⟩ => ⟨S1x768x256, .bf16⟩
  | .local _ .vmem, ⟨17, _⟩ => ⟨S1x256x768, .bf16⟩
  | .local _ .vmem, ⟨18, _⟩ => ⟨S1x256x768, .bf16⟩
  | .local _ .vmem, ⟨19, _⟩ => ⟨S512x768, .f32⟩
  | .local _ .vmem, ⟨20, _⟩ => ⟨S512x768, .f32⟩
  | .local _ .vmem, ⟨21, _⟩ => ⟨S1x768, .f32⟩
  | .local _ .vmem, ⟨22, _⟩ => ⟨S1x768, .f32⟩
  | .local _ .vmem, ⟨23, _⟩ => ⟨S512x64, .f32⟩
  | .local _ .vmem, ⟨24, _⟩ => ⟨S512x64, .f32⟩
  | .local _ .vmem, ⟨25, _⟩ => ⟨S512x64, .f32⟩
  | .local _ .vmem, ⟨26, _⟩ => ⟨S512x64, .f32⟩
  | .local _ .vmem, ⟨27, _⟩ => ⟨S64x768, .f32⟩
  | .local _ .vmem, ⟨28, _⟩ => ⟨S768x3072, .bf16⟩
  | .local _ .vmem, ⟨29, _⟩ => ⟨S8x768x768, .bf16⟩
  | .local _ .vmem, ⟨30, _⟩ => ⟨S768x8, .f32⟩
  | .local _ .vmem, ⟨31, _⟩ => ⟨S8x768x768, .bf16⟩
  | .local _ .vmem, ⟨32, _⟩ => ⟨S768x8, .f32⟩
  | .local _ .vmem, ⟨33, _⟩ => ⟨S8x768x256, .bf16⟩
  | .local _ .vmem, ⟨34, _⟩ => ⟨S8x256x768, .bf16⟩
  | .local _ .vmem, ⟨35, _⟩ => ⟨S768x16, .f32⟩
  | .local _ .vmem, ⟨36, _⟩ => ⟨S512x768, .f32⟩
  | .local _ .vmem, ⟨37, _⟩ => ⟨S512x768, .f32⟩
  | .local _ .vmem, ⟨38, _⟩ => ⟨S12x4x64x512, .bf16⟩
  | .local _ .vmem, ⟨39, _⟩ => ⟨S12x4x512x64, .bf16⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v29_3 : Ref sig .tc := ⟨.hbm, 48, rfl⟩
abbrev main_v29_4 : Ref sig .tc := ⟨.hbm, 49, rfl⟩
abbrev main_v30 : Ref sig .tc := ⟨.hbm, 50, rfl⟩
abbrev main_v31 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc1_stg13_0 : Ref sig .tc := ⟨.vmem, 35, rfl⟩
abbrev cc1_stg14_0 : Ref sig .tc := ⟨.vmem, 36, rfl⟩
abbrev cc1_stg14_1 : Ref sig .tc := ⟨.vmem, 37, rfl⟩
abbrev cc1_scratch0 : Ref sig .tc := ⟨.vmem, 38, rfl⟩
abbrev cc1_scratch1 : Ref sig .tc := ⟨.vmem, 39, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem12_0 : DmaSem sig := 34
abbrev cc1_sem13_0 : DmaSem sig := 35
abbrev cc1_sem14_0 : DmaSem sig := 36
abbrev cc1_sem14_1 : DmaSem sig := 37

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_23 : BitVec 32 := 0#32
  let v28 : BitVec 1 := Scalar.cmpi .ne v27 c0_i32_23
  v28

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S768x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x768x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x768x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![4], ![false]⟩

def k1_off1 (i : grid1.Coords) : Fin 4 → Nat :=
  let c0_20 : Index := 0#32
  let arg0 : BitVec 32 := BitVec.ofNat 32 (i 0).val
  let v47 : Index := Scalar.indexCast arg0
  let c0_21 : Index := 0#32
  let c0_22 : Index := 0#32
  ![0, v47.toNat, 0, 0]
def k1_off2 (i : grid1.Coords) : Fin 4 → Nat :=
  let c1 : Index := 1#32
  let arg0 : BitVec 32 := BitVec.ofNat 32 (i 0).val
  let v52 : Index := Scalar.indexCast arg0
  let c0_23 : Index := 0#32
  let c0_24 : Index := 0#32
  ![1, v52.toNat, 0, 0]
def k1_off3 (i : grid1.Coords) : Fin 4 → Nat :=
  let c2 : Index := 2#32
  let arg0 : BitVec 32 := BitVec.ofNat 32 (i 0).val
  let v57 : Index := Scalar.indexCast arg0
  let c0_25 : Index := 0#32
  let c0_26 : Index := 0#32
  ![2, v57.toNat, 0, 0]
def k1_off4 (i : grid1.Coords) : Fin 4 → Nat :=
  let c3 : Index := 3#32
  let arg0 : BitVec 32 := BitVec.ofNat 32 (i 0).val
  let v62 : Index := Scalar.indexCast arg0
  let c0_27 : Index := 0#32
  let c0_28 : Index := 0#32
  ![3, v62.toNat, 0, 0]
def k1_off5 (i : grid1.Coords) : Fin 4 → Nat :=
  let c4 : Index := 4#32
  let arg0 : BitVec 32 := BitVec.ofNat 32 (i 0).val
  let v67 : Index := Scalar.indexCast arg0
  let c0_29 : Index := 0#32
  let c0_30 : Index := 0#32
  ![4, v67.toNat, 0, 0]
def k1_off6 (i : grid1.Coords) : Fin 4 → Nat :=
  let c5 : Index := 5#32
  let arg0 : BitVec 32 := BitVec.ofNat 32 (i 0).val
  let v72 : Index := Scalar.indexCast arg0
  let c0_31 : Index := 0#32
  let c0_32 : Index := 0#32
  ![5, v72.toNat, 0, 0]
def k1_off7 (i : grid1.Coords) : Fin 4 → Nat :=
  let c6 : Index := 6#32
  let arg0 : BitVec 32 := BitVec.ofNat 32 (i 0).val
  let v77 : Index := Scalar.indexCast arg0
  let c0_33 : Index := 0#32
  let c0_34 : Index := 0#32
  ![6, v77.toNat, 0, 0]
def k1_off8 (i : grid1.Coords) : Fin 4 → Nat :=
  let c7 : Index := 7#32
  let arg0 : BitVec 32 := BitVec.ofNat 32 (i 0).val
  let v82 : Index := Scalar.indexCast arg0
  let c0_35 : Index := 0#32
  let c0_36 : Index := 0#32
  ![7, v82.toNat, 0, 0]
def k1_off9 (i : grid1.Coords) : Fin 4 → Nat :=
  let c8 : Index := 8#32
  let arg0 : BitVec 32 := BitVec.ofNat 32 (i 0).val
  let v87 : Index := Scalar.indexCast arg0
  let c0_37 : Index := 0#32
  let c0_38 : Index := 0#32
  ![8, v87.toNat, 0, 0]
def k1_off10 (i : grid1.Coords) : Fin 4 → Nat :=
  let c9 : Index := 9#32
  let arg0 : BitVec 32 := BitVec.ofNat 32 (i 0).val
  let v92 : Index := Scalar.indexCast arg0
  let c0_39 : Index := 0#32
  let c0_40 : Index := 0#32
  ![9, v92.toNat, 0, 0]
def k1_off11 (i : grid1.Coords) : Fin 4 → Nat :=
  let c10 : Index := 10#32
  let arg0 : BitVec 32 := BitVec.ofNat 32 (i 0).val
  let v97 : Index := Scalar.indexCast arg0
  let c0_41 : Index := 0#32
  let c0_42 : Index := 0#32
  ![10, v97.toNat, 0, 0]
def k1_off12 (i : grid1.Coords) : Fin 4 → Nat :=
  let c11 : Index := 11#32
  let arg0 : BitVec 32 := BitVec.ofNat 32 (i 0).val
  let v102 : Index := Scalar.indexCast arg0
  let c0_43 : Index := 0#32
  let c0_44 : Index := 0#32
  ![11, v102.toNat, 0, 0]
def k1_off13 (i : grid1.Coords) : Fin 4 → Nat :=
  let c0_83 : Index := 0#32
  let arg0 : BitVec 32 := BitVec.ofNat 32 (i 0).val
  let v191 : Index := Scalar.indexCast arg0
  let c0_84 : Index := 0#32
  let c0_85 : Index := 0#32
  ![0, v191.toNat, 0, 0]
def k1_off14 (i : grid1.Coords) : Fin 4 → Nat :=
  let c1_86 : Index := 1#32
  let arg0 : BitVec 32 := BitVec.ofNat 32 (i 0).val
  let v196 : Index := Scalar.indexCast arg0
  let c0_87 : Index := 0#32
  let c0_88 : Index := 0#32
  ![1, v196.toNat, 0, 0]
def k1_off15 (i : grid1.Coords) : Fin 4 → Nat :=
  let c2_89 : Index := 2#32
  let arg0 : BitVec 32 := BitVec.ofNat 32 (i 0).val
  let v201 : Index := Scalar.indexCast arg0
  let c0_90 : Index := 0#32
  let c0_91 : Index := 0#32
  ![2, v201.toNat, 0, 0]
def k1_off16 (i : grid1.Coords) : Fin 4 → Nat :=
  let c3_92 : Index := 3#32
  let arg0 : BitVec 32 := BitVec.ofNat 32 (i 0).val
  let v206 : Index := Scalar.indexCast arg0
  let c0_93 : Index := 0#32
  let c0_94 : Index := 0#32
  ![3, v206.toNat, 0, 0]
def k1_off17 (i : grid1.Coords) : Fin 4 → Nat :=
  let c4_95 : Index := 4#32
  let arg0 : BitVec 32 := BitVec.ofNat 32 (i 0).val
  let v211 : Index := Scalar.indexCast arg0
  let c0_96 : Index := 0#32
  let c0_97 : Index := 0#32
  ![4, v211.toNat, 0, 0]
def k1_off18 (i : grid1.Coords) : Fin 4 → Nat :=
  let c5_98 : Index := 5#32
  let arg0 : BitVec 32 := BitVec.ofNat 32 (i 0).val
  let v216 : Index := Scalar.indexCast arg0
  let c0_99 : Index := 0#32
  let c0_100 : Index := 0#32
  ![5, v216.toNat, 0, 0]
def k1_off19 (i : grid1.Coords) : Fin 4 → Nat :=
  let c6_101 : Index := 6#32
  let arg0 : BitVec 32 := BitVec.ofNat 32 (i 0).val
  let v221 : Index := Scalar.indexCast arg0
  let c0_102 : Index := 0#32
  let c0_103 : Index := 0#32
  ![6, v221.toNat, 0, 0]
def k1_off20 (i : grid1.Coords) : Fin 4 → Nat :=
  let c7_104 : Index := 7#32
  let arg0 : BitVec 32 := BitVec.ofNat 32 (i 0).val
  let v226 : Index := Scalar.indexCast arg0
  let c0_105 : Index := 0#32
  let c0_106 : Index := 0#32
  ![7, v226.toNat, 0, 0]
def k1_off21 (i : grid1.Coords) : Fin 4 → Nat :=
  let c8_107 : Index := 8#32
  let arg0 : BitVec 32 := BitVec.ofNat 32 (i 0).val
  let v231 : Index := Scalar.indexCast arg0
  let c0_108 : Index := 0#32
  let c0_109 : Index := 0#32
  ![8, v231.toNat, 0, 0]
def k1_off22 (i : grid1.Coords) : Fin 4 → Nat :=
  let c9_110 : Index := 9#32
  let arg0 : BitVec 32 := BitVec.ofNat 32 (i 0).val
  let v236 : Index := Scalar.indexCast arg0
  let c0_111 : Index := 0#32
  let c0_112 : Index := 0#32
  ![9, v236.toNat, 0, 0]
def k1_off23 (i : grid1.Coords) : Fin 4 → Nat :=
  let c10_113 : Index := 10#32
  let arg0 : BitVec 32 := BitVec.ofNat 32 (i 0).val
  let v241 : Index := Scalar.indexCast arg0
  let c0_114 : Index := 0#32
  let c0_115 : Index := 0#32
  ![10, v241.toNat, 0, 0]
def k1_off24 (i : grid1.Coords) : Fin 4 → Nat :=
  let c11_116 : Index := 11#32
  let arg0 : BitVec 32 := BitVec.ofNat 32 (i 0).val
  let v246 : Index := Scalar.indexCast arg0
  let c0_117 : Index := 0#32
  let c0_118 : Index := 0#32
  ![11, v246.toNat, 0, 0]
@[reducible] def k1_t1_loop (i : grid1.Coords) : Scf.Loop 32 :=
  let c0_i32 : BitVec 32 := 0#32
  let arg0 : BitVec 32 := BitVec.ofNat 32 (i 0).val
  let c1_i32 : BitVec 32 := 1#32
  let v270 : BitVec 32 := Scalar.addi arg0 c1_i32
  let v271 : BitVec 32 := Scalar.subi v270 c0_i32
  let c1_i32_122 : BitVec 32 := 1#32
  let v273 : BitVec 32 := Scalar.divsi v271 c1_i32_122
  let v274 : BitVec 32 := Scalar.muli v273 c1_i32_122
  let v275 : BitVec 32 := Scalar.addi c0_i32 v274
  let c1_i32_123 : BitVec 32 := 1#32
  ⟨c0_i32, v275, c1_i32_123⟩
def k1_off25 (i : grid1.Coords) (k1_t1 : Fin (k1_t1_loop i).trips) : Fin 4 → Nat :=
  let c0_281 : Index := 0#32
  let c0_i32 : BitVec 32 := 0#32
  let c1_i32_123 : BitVec 32 := 1#32
  let arg18 : BitVec 32 := Scf.iv c0_i32 c1_i32_123 k1_t1
  let v648 : Index := Scalar.indexCast arg18
  let c0_282 : Index := 0#32
  let c0_283 : Index := 0#32
  ![0, v648.toNat, 0, 0]
def k1_off26 (i : grid1.Coords) (k1_t1 : Fin (k1_t1_loop i).trips) : Fin 4 → Nat :=
  let c0_288 : Index := 0#32
  let c0_i32 : BitVec 32 := 0#32
  let c1_i32_123 : BitVec 32 := 1#32
  let arg18 : BitVec 32 := Scf.iv c0_i32 c1_i32_123 k1_t1
  let v670 : Index := Scalar.indexCast arg18
  let c0_289 : Index := 0#32
  let c0_290 : Index := 0#32
  ![0, v670.toNat, 0, 0]
def k1_off27 (i : grid1.Coords) (k1_t1 : Fin (k1_t1_loop i).trips) : Fin 4 → Nat :=
  let c1_292 : Index := 1#32
  let c0_i32 : BitVec 32 := 0#32
  let c1_i32_123 : BitVec 32 := 1#32
  let arg18 : BitVec 32 := Scf.iv c0_i32 c1_i32_123 k1_t1
  let v675 : Index := Scalar.indexCast arg18
  let c0_293 : Index := 0#32
  let c0_294 : Index := 0#32
  ![1, v675.toNat, 0, 0]
def k1_off28 (i : grid1.Coords) (k1_t1 : Fin (k1_t1_loop i).trips) : Fin 4 → Nat :=
  let c1_299 : Index := 1#32
  let c0_i32 : BitVec 32 := 0#32
  let c1_i32_123 : BitVec 32 := 1#32
  let arg18 : BitVec 32 := Scf.iv c0_i32 c1_i32_123 k1_t1
  let v697 : Index := Scalar.indexCast arg18
  let c0_300 : Index := 0#32
  let c0_301 : Index := 0#32
  ![1, v697.toNat, 0, 0]
@[reducible] def k1_t2_loop (i : grid1.Coords) : Scf.Loop 32 :=
  let c0_i32 : BitVec 32 := 0#32
  let arg0 : BitVec 32 := BitVec.ofNat 32 (i 0).val
  let c1_i32 : BitVec 32 := 1#32
  let v270 : BitVec 32 := Scalar.addi arg0 c1_i32
  let v271 : BitVec 32 := Scalar.subi v270 c0_i32
  let c1_i32_122 : BitVec 32 := 1#32
  let v273 : BitVec 32 := Scalar.divsi v271 c1_i32_122
  let v274 : BitVec 32 := Scalar.muli v273 c1_i32_122
  let v275 : BitVec 32 := Scalar.addi c0_i32 v274
  let v272 : BitVec 32 := Scalar.addi c0_i32 v271
  let c1_i32_124 : BitVec 32 := 1#32
  ⟨v275, v272, c1_i32_124⟩
def k1_off29 (i : grid1.Coords) (k1_t2 : Fin (k1_t2_loop i).trips) : Fin 4 → Nat :=
  let c0_281 : Index := 0#32
  let c0_i32 : BitVec 32 := 0#32
  let arg0 : BitVec 32 := BitVec.ofNat 32 (i 0).val
  let c1_i32 : BitVec 32 := 1#32
  let v270 : BitVec 32 := Scalar.addi arg0 c1_i32
  let v271 : BitVec 32 := Scalar.subi v270 c0_i32
  let c1_i32_122 : BitVec 32 := 1#32
  let v273 : BitVec 32 := Scalar.divsi v271 c1_i32_122
  let v274 : BitVec 32 := Scalar.muli v273 c1_i32_122
  let v275 : BitVec 32 := Scalar.addi c0_i32 v274
  let c1_i32_124 : BitVec 32 := 1#32
  let arg18 : BitVec 32 := Scf.iv v275 c1_i32_124 k1_t2
  let v648 : Index := Scalar.indexCast arg18
  let c0_282 : Index := 0#32
  let c0_283 : Index := 0#32
  ![0, v648.toNat, 0, 0]
def k1_off30 (i : grid1.Coords) (k1_t2 : Fin (k1_t2_loop i).trips) : Fin 4 → Nat :=
  let c0_288 : Index := 0#32
  let c0_i32 : BitVec 32 := 0#32
  let arg0 : BitVec 32 := BitVec.ofNat 32 (i 0).val
  let c1_i32 : BitVec 32 := 1#32
  let v270 : BitVec 32 := Scalar.addi arg0 c1_i32
  let v271 : BitVec 32 := Scalar.subi v270 c0_i32
  let c1_i32_122 : BitVec 32 := 1#32
  let v273 : BitVec 32 := Scalar.divsi v271 c1_i32_122
  let v274 : BitVec 32 := Scalar.muli v273 c1_i32_122
  let v275 : BitVec 32 := Scalar.addi c0_i32 v274
  let c1_i32_124 : BitVec 32 := 1#32
  let arg18 : BitVec 32 := Scf.iv v275 c1_i32_124 k1_t2
  let v670 : Index := Scalar.indexCast arg18
  let c0_289 : Index := 0#32
  let c0_290 : Index := 0#32
  ![0, v670.toNat, 0, 0]
def k1_off31 (i : grid1.Coords) (k1_t2 : Fin (k1_t2_loop i).trips) : Fin 4 → Nat :=
  let c1_292 : Index := 1#32
  let c0_i32 : BitVec 32 := 0#32
  let arg0 : BitVec 32 := BitVec.ofNat 32 (i 0).val
  let c1_i32 : BitVec 32 := 1#32
  let v270 : BitVec 32 := Scalar.addi arg0 c1_i32
  let v271 : BitVec 32 := Scalar.subi v270 c0_i32
  let c1_i32_122 : BitVec 32 := 1#32
  let v273 : BitVec 32 := Scalar.divsi v271 c1_i32_122
  let v274 : BitVec 32 := Scalar.muli v273 c1_i32_122
  let v275 : BitVec 32 := Scalar.addi c0_i32 v274
  let c1_i32_124 : BitVec 32 := 1#32
  let arg18 : BitVec 32 := Scf.iv v275 c1_i32_124 k1_t2
  let v675 : Index := Scalar.indexCast arg18
  let c0_293 : Index := 0#32
  let c0_294 : Index := 0#32
  ![1, v675.toNat, 0, 0]
def k1_off32 (i : grid1.Coords) (k1_t2 : Fin (k1_t2_loop i).trips) : Fin 4 → Nat :=
  let c1_299 : Index := 1#32
  let c0_i32 : BitVec 32 := 0#32
  let arg0 : BitVec 32 := BitVec.ofNat 32 (i 0).val
  let c1_i32 : BitVec 32 := 1#32
  let v270 : BitVec 32 := Scalar.addi arg0 c1_i32
  let v271 : BitVec 32 := Scalar.subi v270 c0_i32
  let c1_i32_122 : BitVec 32 := 1#32
  let v273 : BitVec 32 := Scalar.divsi v271 c1_i32_122
  let v274 : BitVec 32 := Scalar.muli v273 c1_i32_122
  let v275 : BitVec 32 := Scalar.addi c0_i32 v274
  let c1_i32_124 : BitVec 32 := 1#32
  let arg18 : BitVec 32 := Scf.iv v275 c1_i32_124 k1_t2
  let v697 : Index := Scalar.indexCast arg18
  let c0_300 : Index := 0#32
  let c0_301 : Index := 0#32
  ![1, v697.toNat, 0, 0]
@[reducible] def k1_t3_loop (i : grid1.Coords) : Scf.Loop 32 :=
  let c0_i32_126 : BitVec 32 := 0#32
  let arg0 : BitVec 32 := BitVec.ofNat 32 (i 0).val
  let c1_i32_125 : BitVec 32 := 1#32
  let v284 : BitVec 32 := Scalar.addi arg0 c1_i32_125
  let v285 : BitVec 32 := Scalar.subi v284 c0_i32_126
  let c1_i32_127 : BitVec 32 := 1#32
  let v287 : BitVec 32 := Scalar.divsi v285 c1_i32_127
  let v288 : BitVec 32 := Scalar.muli v287 c1_i32_127
  let v289 : BitVec 32 := Scalar.addi c0_i32_126 v288
  let c1_i32_128 : BitVec 32 := 1#32
  ⟨c0_i32_126, v289, c1_i32_128⟩
def k1_off33 (i : grid1.Coords) (k1_t3 : Fin (k1_t3_loop i).trips) : Fin 4 → Nat :=
  let c2_281 : Index := 2#32
  let c0_i32_126 : BitVec 32 := 0#32
  let c1_i32_128 : BitVec 32 := 1#32
  let arg18 : BitVec 32 := Scf.iv c0_i32_126 c1_i32_128 k1_t3
  let v648 : Index := Scalar.indexCast arg18
  let c0_282 : Index := 0#32
  let c0_283 : Index := 0#32
  ![2, v648.toNat, 0, 0]
def k1_off34 (i : grid1.Coords) (k1_t3 : Fin (k1_t3_loop i).trips) : Fin 4 → Nat :=
  let c2_288 : Index := 2#32
  let c0_i32_126 : BitVec 32 := 0#32
  let c1_i32_128 : BitVec 32 := 1#32
  let arg18 : BitVec 32 := Scf.iv c0_i32_126 c1_i32_128 k1_t3
  let v670 : Index := Scalar.indexCast arg18
  let c0_289 : Index := 0#32
  let c0_290 : Index := 0#32
  ![2, v670.toNat, 0, 0]
def k1_off35 (i : grid1.Coords) (k1_t3 : Fin (k1_t3_loop i).trips) : Fin 4 → Nat :=
  let c3_292 : Index := 3#32
  let c0_i32_126 : BitVec 32 := 0#32
  let c1_i32_128 : BitVec 32 := 1#32
  let arg18 : BitVec 32 := Scf.iv c0_i32_126 c1_i32_128 k1_t3
  let v675 : Index := Scalar.indexCast arg18
  let c0_293 : Index := 0#32
  let c0_294 : Index := 0#32
  ![3, v675.toNat, 0, 0]
def k1_off36 (i : grid1.Coords) (k1_t3 : Fin (k1_t3_loop i).trips) : Fin 4 → Nat :=
  let c3_299 : Index := 3#32
  let c0_i32_126 : BitVec 32 := 0#32
  let c1_i32_128 : BitVec 32 := 1#32
  let arg18 : BitVec 32 := Scf.iv c0_i32_126 c1_i32_128 k1_t3
  let v697 : Index := Scalar.indexCast arg18
  let c0_300 : Index := 0#32
  let c0_301 : Index := 0#32
  ![3, v697.toNat, 0, 0]
@[reducible] def k1_t4_loop (i : grid1.Coords) : Scf.Loop 32 :=
  let c0_i32_126 : BitVec 32 := 0#32
  let arg0 : BitVec 32 := BitVec.ofNat 32 (i 0).val
  let c1_i32_125 : BitVec 32 := 1#32
  let v284 : BitVec 32 := Scalar.addi arg0 c1_i32_125
  let v285 : BitVec 32 := Scalar.subi v284 c0_i32_126
  let c1_i32_127 : BitVec 32 := 1#32
  let v287 : BitVec 32 := Scalar.divsi v285 c1_i32_127
  let v288 : BitVec 32 := Scalar.muli v287 c1_i32_127
  let v289 : BitVec 32 := Scalar.addi c0_i32_126 v288
  let v286 : BitVec 32 := Scalar.addi c0_i32_126 v285
  let c1_i32_129 : BitVec 32 := 1#32
  ⟨v289, v286, c1_i32_129⟩
def k1_off37 (i : grid1.Coords) (k1_t4 : Fin (k1_t4_loop i).trips) : Fin 4 → Nat :=
  let c2_281 : Index := 2#32
  let c0_i32_126 : BitVec 32 := 0#32
  let arg0 : BitVec 32 := BitVec.ofNat 32 (i 0).val
  let c1_i32_125 : BitVec 32 := 1#32
  let v284 : BitVec 32 := Scalar.addi arg0 c1_i32_125
  let v285 : BitVec 32 := Scalar.subi v284 c0_i32_126
  let c1_i32_127 : BitVec 32 := 1#32
  let v287 : BitVec 32 := Scalar.divsi v285 c1_i32_127
  let v288 : BitVec 32 := Scalar.muli v287 c1_i32_127
  let v289 : BitVec 32 := Scalar.addi c0_i32_126 v288
  let c1_i32_129 : BitVec 32 := 1#32
  let arg18 : BitVec 32 := Scf.iv v289 c1_i32_129 k1_t4
  let v648 : Index := Scalar.indexCast arg18
  let c0_282 : Index := 0#32
  let c0_283 : Index := 0#32
  ![2, v648.toNat, 0, 0]
def k1_off38 (i : grid1.Coords) (k1_t4 : Fin (k1_t4_loop i).trips) : Fin 4 → Nat :=
  let c2_288 : Index := 2#32
  let c0_i32_126 : BitVec 32 := 0#32
  let arg0 : BitVec 32 := BitVec.ofNat 32 (i 0).val
  let c1_i32_125 : BitVec 32 := 1#32
  let v284 : BitVec 32 := Scalar.addi arg0 c1_i32_125
  let v285 : BitVec 32 := Scalar.subi v284 c0_i32_126
  let c1_i32_127 : BitVec 32 := 1#32
  let v287 : BitVec 32 := Scalar.divsi v285 c1_i32_127
  let v288 : BitVec 32 := Scalar.muli v287 c1_i32_127
  let v289 : BitVec 32 := Scalar.addi c0_i32_126 v288
  let c1_i32_129 : BitVec 32 := 1#32
  let arg18 : BitVec 32 := Scf.iv v289 c1_i32_129 k1_t4
  let v670 : Index := Scalar.indexCast arg18
  let c0_289 : Index := 0#32
  let c0_290 : Index := 0#32
  ![2, v670.toNat, 0, 0]
def k1_off39 (i : grid1.Coords) (k1_t4 : Fin (k1_t4_loop i).trips) : Fin 4 → Nat :=
  let c3_292 : Index := 3#32
  let c0_i32_126 : BitVec 32 := 0#32
  let arg0 : BitVec 32 := BitVec.ofNat 32 (i 0).val
  let c1_i32_125 : BitVec 32 := 1#32
  let v284 : BitVec 32 := Scalar.addi arg0 c1_i32_125
  let v285 : BitVec 32 := Scalar.subi v284 c0_i32_126
  let c1_i32_127 : BitVec 32 := 1#32
  let v287 : BitVec 32 := Scalar.divsi v285 c1_i32_127
  let v288 : BitVec 32 := Scalar.muli v287 c1_i32_127
  let v289 : BitVec 32 := Scalar.addi c0_i32_126 v288
  let c1_i32_129 : BitVec 32 := 1#32
  let arg18 : BitVec 32 := Scf.iv v289 c1_i32_129 k1_t4
  let v675 : Index := Scalar.indexCast arg18
  let c0_293 : Index := 0#32
  let c0_294 : Index := 0#32
  ![3, v675.toNat, 0, 0]
def k1_off40 (i : grid1.Coords) (k1_t4 : Fin (k1_t4_loop i).trips) : Fin 4 → Nat :=
  let c3_299 : Index := 3#32
  let c0_i32_126 : BitVec 32 := 0#32
  let arg0 : BitVec 32 := BitVec.ofNat 32 (i 0).val
  let c1_i32_125 : BitVec 32 := 1#32
  let v284 : BitVec 32 := Scalar.addi arg0 c1_i32_125
  let v285 : BitVec 32 := Scalar.subi v284 c0_i32_126
  let c1_i32_127 : BitVec 32 := 1#32
  let v287 : BitVec 32 := Scalar.divsi v285 c1_i32_127
  let v288 : BitVec 32 := Scalar.muli v287 c1_i32_127
  let v289 : BitVec 32 := Scalar.addi c0_i32_126 v288
  let c1_i32_129 : BitVec 32 := 1#32
  let arg18 : BitVec 32 := Scf.iv v289 c1_i32_129 k1_t4
  let v697 : Index := Scalar.indexCast arg18
  let c0_300 : Index := 0#32
  let c0_301 : Index := 0#32
  ![3, v697.toNat, 0, 0]
@[reducible] def k1_t5_loop (i : grid1.Coords) : Scf.Loop 32 :=
  let c0_i32_131 : BitVec 32 := 0#32
  let arg0 : BitVec 32 := BitVec.ofNat 32 (i 0).val
  let c1_i32_130 : BitVec 32 := 1#32
  let v298 : BitVec 32 := Scalar.addi arg0 c1_i32_130
  let v299 : BitVec 32 := Scalar.subi v298 c0_i32_131
  let c1_i32_132 : BitVec 32 := 1#32
  let v301 : BitVec 32 := Scalar.divsi v299 c1_i32_132
  let v302 : BitVec 32 := Scalar.muli v301 c1_i32_132
  let v303 : BitVec 32 := Scalar.addi c0_i32_131 v302
  let c1_i32_133 : BitVec 32 := 1#32
  ⟨c0_i32_131, v303, c1_i32_133⟩
def k1_off41 (i : grid1.Coords) (k1_t5 : Fin (k1_t5_loop i).trips) : Fin 4 → Nat :=
  let c4_281 : Index := 4#32
  let c0_i32_131 : BitVec 32 := 0#32
  let c1_i32_133 : BitVec 32 := 1#32
  let arg18 : BitVec 32 := Scf.iv c0_i32_131 c1_i32_133 k1_t5
  let v648 : Index := Scalar.indexCast arg18
  let c0_282 : Index := 0#32
  let c0_283 : Index := 0#32
  ![4, v648.toNat, 0, 0]
def k1_off42 (i : grid1.Coords) (k1_t5 : Fin (k1_t5_loop i).trips) : Fin 4 → Nat :=
  let c4_288 : Index := 4#32
  let c0_i32_131 : BitVec 32 := 0#32
  let c1_i32_133 : BitVec 32 := 1#32
  let arg18 : BitVec 32 := Scf.iv c0_i32_131 c1_i32_133 k1_t5
  let v670 : Index := Scalar.indexCast arg18
  let c0_289 : Index := 0#32
  let c0_290 : Index := 0#32
  ![4, v670.toNat, 0, 0]
def k1_off43 (i : grid1.Coords) (k1_t5 : Fin (k1_t5_loop i).trips) : Fin 4 → Nat :=
  let c5_292 : Index := 5#32
  let c0_i32_131 : BitVec 32 := 0#32
  let c1_i32_133 : BitVec 32 := 1#32
  let arg18 : BitVec 32 := Scf.iv c0_i32_131 c1_i32_133 k1_t5
  let v675 : Index := Scalar.indexCast arg18
  let c0_293 : Index := 0#32
  let c0_294 : Index := 0#32
  ![5, v675.toNat, 0, 0]
def k1_off44 (i : grid1.Coords) (k1_t5 : Fin (k1_t5_loop i).trips) : Fin 4 → Nat :=
  let c5_299 : Index := 5#32
  let c0_i32_131 : BitVec 32 := 0#32
  let c1_i32_133 : BitVec 32 := 1#32
  let arg18 : BitVec 32 := Scf.iv c0_i32_131 c1_i32_133 k1_t5
  let v697 : Index := Scalar.indexCast arg18
  let c0_300 : Index := 0#32
  let c0_301 : Index := 0#32
  ![5, v697.toNat, 0, 0]
@[reducible] def k1_t6_loop (i : grid1.Coords) : Scf.Loop 32 :=
  let c0_i32_131 : BitVec 32 := 0#32
  let arg0 : BitVec 32 := BitVec.ofNat 32 (i 0).val
  let c1_i32_130 : BitVec 32 := 1#32
  let v298 : BitVec 32 := Scalar.addi arg0 c1_i32_130
  let v299 : BitVec 32 := Scalar.subi v298 c0_i32_131
  let c1_i32_132 : BitVec 32 := 1#32
  let v301 : BitVec 32 := Scalar.divsi v299 c1_i32_132
  let v302 : BitVec 32 := Scalar.muli v301 c1_i32_132
  let v303 : BitVec 32 := Scalar.addi c0_i32_131 v302
  let v300 : BitVec 32 := Scalar.addi c0_i32_131 v299
  let c1_i32_134 : BitVec 32 := 1#32
  ⟨v303, v300, c1_i32_134⟩
def k1_off45 (i : grid1.Coords) (k1_t6 : Fin (k1_t6_loop i).trips) : Fin 4 → Nat :=
  let c4_281 : Index := 4#32
  let c0_i32_131 : BitVec 32 := 0#32
  let arg0 : BitVec 32 := BitVec.ofNat 32 (i 0).val
  let c1_i32_130 : BitVec 32 := 1#32
  let v298 : BitVec 32 := Scalar.addi arg0 c1_i32_130
  let v299 : BitVec 32 := Scalar.subi v298 c0_i32_131
  let c1_i32_132 : BitVec 32 := 1#32
  let v301 : BitVec 32 := Scalar.divsi v299 c1_i32_132
  let v302 : BitVec 32 := Scalar.muli v301 c1_i32_132
  let v303 : BitVec 32 := Scalar.addi c0_i32_131 v302
  let c1_i32_134 : BitVec 32 := 1#32
  let arg18 : BitVec 32 := Scf.iv v303 c1_i32_134 k1_t6
  let v648 : Index := Scalar.indexCast arg18
  let c0_282 : Index := 0#32
  let c0_283 : Index := 0#32
  ![4, v648.toNat, 0, 0]
def k1_off46 (i : grid1.Coords) (k1_t6 : Fin (k1_t6_loop i).trips) : Fin 4 → Nat :=
  let c4_288 : Index := 4#32
  let c0_i32_131 : BitVec 32 := 0#32
  let arg0 : BitVec 32 := BitVec.ofNat 32 (i 0).val
  let c1_i32_130 : BitVec 32 := 1#32
  let v298 : BitVec 32 := Scalar.addi arg0 c1_i32_130
  let v299 : BitVec 32 := Scalar.subi v298 c0_i32_131
  let c1_i32_132 : BitVec 32 := 1#32
  let v301 : BitVec 32 := Scalar.divsi v299 c1_i32_132
  let v302 : BitVec 32 := Scalar.muli v301 c1_i32_132
  let v303 : BitVec 32 := Scalar.addi c0_i32_131 v302
  let c1_i32_134 : BitVec 32 := 1#32
  let arg18 : BitVec 32 := Scf.iv v303 c1_i32_134 k1_t6
  let v670 : Index := Scalar.indexCast arg18
  let c0_289 : Index := 0#32
  let c0_290 : Index := 0#32
  ![4, v670.toNat, 0, 0]
def k1_off47 (i : grid1.Coords) (k1_t6 : Fin (k1_t6_loop i).trips) : Fin 4 → Nat :=
  let c5_292 : Index := 5#32
  let c0_i32_131 : BitVec 32 := 0#32
  let arg0 : BitVec 32 := BitVec.ofNat 32 (i 0).val
  let c1_i32_130 : BitVec 32 := 1#32
  let v298 : BitVec 32 := Scalar.addi arg0 c1_i32_130
  let v299 : BitVec 32 := Scalar.subi v298 c0_i32_131
  let c1_i32_132 : BitVec 32 := 1#32
  let v301 : BitVec 32 := Scalar.divsi v299 c1_i32_132
  let v302 : BitVec 32 := Scalar.muli v301 c1_i32_132
  let v303 : BitVec 32 := Scalar.addi c0_i32_131 v302
  let c1_i32_134 : BitVec 32 := 1#32
  let arg18 : BitVec 32 := Scf.iv v303 c1_i32_134 k1_t6
  let v675 : Index := Scalar.indexCast arg18
  let c0_293 : Index := 0#32
  let c0_294 : Index := 0#32
  ![5, v675.toNat, 0, 0]
def k1_off48 (i : grid1.Coords) (k1_t6 : Fin (k1_t6_loop i).trips) : Fin 4 → Nat :=
  let c5_299 : Index := 5#32
  let c0_i32_131 : BitVec 32 := 0#32
  let arg0 : BitVec 32 := BitVec.ofNat 32 (i 0).val
  let c1_i32_130 : BitVec 32 := 1#32
  let v298 : BitVec 32 := Scalar.addi arg0 c1_i32_130
  let v299 : BitVec 32 := Scalar.subi v298 c0_i32_131
  let c1_i32_132 : BitVec 32 := 1#32
  let v301 : BitVec 32 := Scalar.divsi v299 c1_i32_132
  let v302 : BitVec 32 := Scalar.muli v301 c1_i32_132
  let v303 : BitVec 32 := Scalar.addi c0_i32_131 v302
  let c1_i32_134 : BitVec 32 := 1#32
  let arg18 : BitVec 32 := Scf.iv v303 c1_i32_134 k1_t6
  let v697 : Index := Scalar.indexCast arg18
  let c0_300 : Index := 0#32
  let c0_301 : Index := 0#32
  ![5, v697.toNat, 0, 0]
@[reducible] def k1_t7_loop (i : grid1.Coords) : Scf.Loop 32 :=
  let c0_i32_136 : BitVec 32 := 0#32
  let arg0 : BitVec 32 := BitVec.ofNat 32 (i 0).val
  let c1_i32_135 : BitVec 32 := 1#32
  let v312 : BitVec 32 := Scalar.addi arg0 c1_i32_135
  let v313 : BitVec 32 := Scalar.subi v312 c0_i32_136
  let c1_i32_137 : BitVec 32 := 1#32
  let v315 : BitVec 32 := Scalar.divsi v313 c1_i32_137
  let v316 : BitVec 32 := Scalar.muli v315 c1_i32_137
  let v317 : BitVec 32 := Scalar.addi c0_i32_136 v316
  let c1_i32_138 : BitVec 32 := 1#32
  ⟨c0_i32_136, v317, c1_i32_138⟩
def k1_off49 (i : grid1.Coords) (k1_t7 : Fin (k1_t7_loop i).trips) : Fin 4 → Nat :=
  let c6_281 : Index := 6#32
  let c0_i32_136 : BitVec 32 := 0#32
  let c1_i32_138 : BitVec 32 := 1#32
  let arg18 : BitVec 32 := Scf.iv c0_i32_136 c1_i32_138 k1_t7
  let v648 : Index := Scalar.indexCast arg18
  let c0_282 : Index := 0#32
  let c0_283 : Index := 0#32
  ![6, v648.toNat, 0, 0]
def k1_off50 (i : grid1.Coords) (k1_t7 : Fin (k1_t7_loop i).trips) : Fin 4 → Nat :=
  let c6_288 : Index := 6#32
  let c0_i32_136 : BitVec 32 := 0#32
  let c1_i32_138 : BitVec 32 := 1#32
  let arg18 : BitVec 32 := Scf.iv c0_i32_136 c1_i32_138 k1_t7
  let v670 : Index := Scalar.indexCast arg18
  let c0_289 : Index := 0#32
  let c0_290 : Index := 0#32
  ![6, v670.toNat, 0, 0]
def k1_off51 (i : grid1.Coords) (k1_t7 : Fin (k1_t7_loop i).trips) : Fin 4 → Nat :=
  let c7_292 : Index := 7#32
  let c0_i32_136 : BitVec 32 := 0#32
  let c1_i32_138 : BitVec 32 := 1#32
  let arg18 : BitVec 32 := Scf.iv c0_i32_136 c1_i32_138 k1_t7
  let v675 : Index := Scalar.indexCast arg18
  let c0_293 : Index := 0#32
  let c0_294 : Index := 0#32
  ![7, v675.toNat, 0, 0]
def k1_off52 (i : grid1.Coords) (k1_t7 : Fin (k1_t7_loop i).trips) : Fin 4 → Nat :=
  let c7_299 : Index := 7#32
  let c0_i32_136 : BitVec 32 := 0#32
  let c1_i32_138 : BitVec 32 := 1#32
  let arg18 : BitVec 32 := Scf.iv c0_i32_136 c1_i32_138 k1_t7
  let v697 : Index := Scalar.indexCast arg18
  let c0_300 : Index := 0#32
  let c0_301 : Index := 0#32
  ![7, v697.toNat, 0, 0]
@[reducible] def k1_t8_loop (i : grid1.Coords) : Scf.Loop 32 :=
  let c0_i32_136 : BitVec 32 := 0#32
  let arg0 : BitVec 32 := BitVec.ofNat 32 (i 0).val
  let c1_i32_135 : BitVec 32 := 1#32
  let v312 : BitVec 32 := Scalar.addi arg0 c1_i32_135
  let v313 : BitVec 32 := Scalar.subi v312 c0_i32_136
  let c1_i32_137 : BitVec 32 := 1#32
  let v315 : BitVec 32 := Scalar.divsi v313 c1_i32_137
  let v316 : BitVec 32 := Scalar.muli v315 c1_i32_137
  let v317 : BitVec 32 := Scalar.addi c0_i32_136 v316
  let v314 : BitVec 32 := Scalar.addi c0_i32_136 v313
  let c1_i32_139 : BitVec 32 := 1#32
  ⟨v317, v314, c1_i32_139⟩
def k1_off53 (i : grid1.Coords) (k1_t8 : Fin (k1_t8_loop i).trips) : Fin 4 → Nat :=
  let c6_281 : Index := 6#32
  let c0_i32_136 : BitVec 32 := 0#32
  let arg0 : BitVec 32 := BitVec.ofNat 32 (i 0).val
  let c1_i32_135 : BitVec 32 := 1#32
  let v312 : BitVec 32 := Scalar.addi arg0 c1_i32_135
  let v313 : BitVec 32 := Scalar.subi v312 c0_i32_136
  let c1_i32_137 : BitVec 32 := 1#32
  let v315 : BitVec 32 := Scalar.divsi v313 c1_i32_137
  let v316 : BitVec 32 := Scalar.muli v315 c1_i32_137
  let v317 : BitVec 32 := Scalar.addi c0_i32_136 v316
  let c1_i32_139 : BitVec 32 := 1#32
  let arg18 : BitVec 32 := Scf.iv v317 c1_i32_139 k1_t8
  let v648 : Index := Scalar.indexCast arg18
  let c0_282 : Index := 0#32
  let c0_283 : Index := 0#32
  ![6, v648.toNat, 0, 0]
def k1_off54 (i : grid1.Coords) (k1_t8 : Fin (k1_t8_loop i).trips) : Fin 4 → Nat :=
  let c6_288 : Index := 6#32
  let c0_i32_136 : BitVec 32 := 0#32
  let arg0 : BitVec 32 := BitVec.ofNat 32 (i 0).val
  let c1_i32_135 : BitVec 32 := 1#32
  let v312 : BitVec 32 := Scalar.addi arg0 c1_i32_135
  let v313 : BitVec 32 := Scalar.subi v312 c0_i32_136
  let c1_i32_137 : BitVec 32 := 1#32
  let v315 : BitVec 32 := Scalar.divsi v313 c1_i32_137
  let v316 : BitVec 32 := Scalar.muli v315 c1_i32_137
  let v317 : BitVec 32 := Scalar.addi c0_i32_136 v316
  let c1_i32_139 : BitVec 32 := 1#32
  let arg18 : BitVec 32 := Scf.iv v317 c1_i32_139 k1_t8
  let v670 : Index := Scalar.indexCast arg18
  let c0_289 : Index := 0#32
  let c0_290 : Index := 0#32
  ![6, v670.toNat, 0, 0]
def k1_off55 (i : grid1.Coords) (k1_t8 : Fin (k1_t8_loop i).trips) : Fin 4 → Nat :=
  let c7_292 : Index := 7#32
  let c0_i32_136 : BitVec 32 := 0#32
  let arg0 : BitVec 32 := BitVec.ofNat 32 (i 0).val
  let c1_i32_135 : BitVec 32 := 1#32
  let v312 : BitVec 32 := Scalar.addi arg0 c1_i32_135
  let v313 : BitVec 32 := Scalar.subi v312 c0_i32_136
  let c1_i32_137 : BitVec 32 := 1#32
  let v315 : BitVec 32 := Scalar.divsi v313 c1_i32_137
  let v316 : BitVec 32 := Scalar.muli v315 c1_i32_137
  let v317 : BitVec 32 := Scalar.addi c0_i32_136 v316
  let c1_i32_139 : BitVec 32 := 1#32
  let arg18 : BitVec 32 := Scf.iv v317 c1_i32_139 k1_t8
  let v675 : Index := Scalar.indexCast arg18
  let c0_293 : Index := 0#32
  let c0_294 : Index := 0#32
  ![7, v675.toNat, 0, 0]
def k1_off56 (i : grid1.Coords) (k1_t8 : Fin (k1_t8_loop i).trips) : Fin 4 → Nat :=
  let c7_299 : Index := 7#32
  let c0_i32_136 : BitVec 32 := 0#32
  let arg0 : BitVec 32 := BitVec.ofNat 32 (i 0).val
  let c1_i32_135 : BitVec 32 := 1#32
  let v312 : BitVec 32 := Scalar.addi arg0 c1_i32_135
  let v313 : BitVec 32 := Scalar.subi v312 c0_i32_136
  let c1_i32_137 : BitVec 32 := 1#32
  let v315 : BitVec 32 := Scalar.divsi v313 c1_i32_137
  let v316 : BitVec 32 := Scalar.muli v315 c1_i32_137
  let v317 : BitVec 32 := Scalar.addi c0_i32_136 v316
  let c1_i32_139 : BitVec 32 := 1#32
  let arg18 : BitVec 32 := Scf.iv v317 c1_i32_139 k1_t8
  let v697 : Index := Scalar.indexCast arg18
  let c0_300 : Index := 0#32
  let c0_301 : Index := 0#32
  ![7, v697.toNat, 0, 0]
@[reducible] def k1_t9_loop (i : grid1.Coords) : Scf.Loop 32 :=
  let c0_i32_141 : BitVec 32 := 0#32
  let arg0 : BitVec 32 := BitVec.ofNat 32 (i 0).val
  let c1_i32_140 : BitVec 32 := 1#32
  let v326 : BitVec 32 := Scalar.addi arg0 c1_i32_140
  let v327 : BitVec 32 := Scalar.subi v326 c0_i32_141
  let c1_i32_142 : BitVec 32 := 1#32
  let v329 : BitVec 32 := Scalar.divsi v327 c1_i32_142
  let v330 : BitVec 32 := Scalar.muli v329 c1_i32_142
  let v331 : BitVec 32 := Scalar.addi c0_i32_141 v330
  let c1_i32_143 : BitVec 32 := 1#32
  ⟨c0_i32_141, v331, c1_i32_143⟩
def k1_off57 (i : grid1.Coords) (k1_t9 : Fin (k1_t9_loop i).trips) : Fin 4 → Nat :=
  let c8_281 : Index := 8#32
  let c0_i32_141 : BitVec 32 := 0#32
  let c1_i32_143 : BitVec 32 := 1#32
  let arg18 : BitVec 32 := Scf.iv c0_i32_141 c1_i32_143 k1_t9
  let v648 : Index := Scalar.indexCast arg18
  let c0_282 : Index := 0#32
  let c0_283 : Index := 0#32
  ![8, v648.toNat, 0, 0]
def k1_off58 (i : grid1.Coords) (k1_t9 : Fin (k1_t9_loop i).trips) : Fin 4 → Nat :=
  let c8_288 : Index := 8#32
  let c0_i32_141 : BitVec 32 := 0#32
  let c1_i32_143 : BitVec 32 := 1#32
  let arg18 : BitVec 32 := Scf.iv c0_i32_141 c1_i32_143 k1_t9
  let v670 : Index := Scalar.indexCast arg18
  let c0_289 : Index := 0#32
  let c0_290 : Index := 0#32
  ![8, v670.toNat, 0, 0]
def k1_off59 (i : grid1.Coords) (k1_t9 : Fin (k1_t9_loop i).trips) : Fin 4 → Nat :=
  let c9_292 : Index := 9#32
  let c0_i32_141 : BitVec 32 := 0#32
  let c1_i32_143 : BitVec 32 := 1#32
  let arg18 : BitVec 32 := Scf.iv c0_i32_141 c1_i32_143 k1_t9
  let v675 : Index := Scalar.indexCast arg18
  let c0_293 : Index := 0#32
  let c0_294 : Index := 0#32
  ![9, v675.toNat, 0, 0]
def k1_off60 (i : grid1.Coords) (k1_t9 : Fin (k1_t9_loop i).trips) : Fin 4 → Nat :=
  let c9_299 : Index := 9#32
  let c0_i32_141 : BitVec 32 := 0#32
  let c1_i32_143 : BitVec 32 := 1#32
  let arg18 : BitVec 32 := Scf.iv c0_i32_141 c1_i32_143 k1_t9
  let v697 : Index := Scalar.indexCast arg18
  let c0_300 : Index := 0#32
  let c0_301 : Index := 0#32
  ![9, v697.toNat, 0, 0]
@[reducible] def k1_t10_loop (i : grid1.Coords) : Scf.Loop 32 :=
  let c0_i32_141 : BitVec 32 := 0#32
  let arg0 : BitVec 32 := BitVec.ofNat 32 (i 0).val
  let c1_i32_140 : BitVec 32 := 1#32
  let v326 : BitVec 32 := Scalar.addi arg0 c1_i32_140
  let v327 : BitVec 32 := Scalar.subi v326 c0_i32_141
  let c1_i32_142 : BitVec 32 := 1#32
  let v329 : BitVec 32 := Scalar.divsi v327 c1_i32_142
  let v330 : BitVec 32 := Scalar.muli v329 c1_i32_142
  let v331 : BitVec 32 := Scalar.addi c0_i32_141 v330
  let v328 : BitVec 32 := Scalar.addi c0_i32_141 v327
  let c1_i32_144 : BitVec 32 := 1#32
  ⟨v331, v328, c1_i32_144⟩
def k1_off61 (i : grid1.Coords) (k1_t10 : Fin (k1_t10_loop i).trips) : Fin 4 → Nat :=
  let c8_281 : Index := 8#32
  let c0_i32_141 : BitVec 32 := 0#32
  let arg0 : BitVec 32 := BitVec.ofNat 32 (i 0).val
  let c1_i32_140 : BitVec 32 := 1#32
  let v326 : BitVec 32 := Scalar.addi arg0 c1_i32_140
  let v327 : BitVec 32 := Scalar.subi v326 c0_i32_141
  let c1_i32_142 : BitVec 32 := 1#32
  let v329 : BitVec 32 := Scalar.divsi v327 c1_i32_142
  let v330 : BitVec 32 := Scalar.muli v329 c1_i32_142
  let v331 : BitVec 32 := Scalar.addi c0_i32_141 v330
  let c1_i32_144 : BitVec 32 := 1#32
  let arg18 : BitVec 32 := Scf.iv v331 c1_i32_144 k1_t10
  let v648 : Index := Scalar.indexCast arg18
  let c0_282 : Index := 0#32
  let c0_283 : Index := 0#32
  ![8, v648.toNat, 0, 0]
def k1_off62 (i : grid1.Coords) (k1_t10 : Fin (k1_t10_loop i).trips) : Fin 4 → Nat :=
  let c8_288 : Index := 8#32
  let c0_i32_141 : BitVec 32 := 0#32
  let arg0 : BitVec 32 := BitVec.ofNat 32 (i 0).val
  let c1_i32_140 : BitVec 32 := 1#32
  let v326 : BitVec 32 := Scalar.addi arg0 c1_i32_140
  let v327 : BitVec 32 := Scalar.subi v326 c0_i32_141
  let c1_i32_142 : BitVec 32 := 1#32
  let v329 : BitVec 32 := Scalar.divsi v327 c1_i32_142
  let v330 : BitVec 32 := Scalar.muli v329 c1_i32_142
  let v331 : BitVec 32 := Scalar.addi c0_i32_141 v330
  let c1_i32_144 : BitVec 32 := 1#32
  let arg18 : BitVec 32 := Scf.iv v331 c1_i32_144 k1_t10
  let v670 : Index := Scalar.indexCast arg18
  let c0_289 : Index := 0#32
  let c0_290 : Index := 0#32
  ![8, v670.toNat, 0, 0]
def k1_off63 (i : grid1.Coords) (k1_t10 : Fin (k1_t10_loop i).trips) : Fin 4 → Nat :=
  let c9_292 : Index := 9#32
  let c0_i32_141 : BitVec 32 := 0#32
  let arg0 : BitVec 32 := BitVec.ofNat 32 (i 0).val
  let c1_i32_140 : BitVec 32 := 1#32
  let v326 : BitVec 32 := Scalar.addi arg0 c1_i32_140
  let v327 : BitVec 32 := Scalar.subi v326 c0_i32_141
  let c1_i32_142 : BitVec 32 := 1#32
  let v329 : BitVec 32 := Scalar.divsi v327 c1_i32_142
  let v330 : BitVec 32 := Scalar.muli v329 c1_i32_142
  let v331 : BitVec 32 := Scalar.addi c0_i32_141 v330
  let c1_i32_144 : BitVec 32 := 1#32
  let arg18 : BitVec 32 := Scf.iv v331 c1_i32_144 k1_t10
  let v675 : Index := Scalar.indexCast arg18
  let c0_293 : Index := 0#32
  let c0_294 : Index := 0#32
  ![9, v675.toNat, 0, 0]
def k1_off64 (i : grid1.Coords) (k1_t10 : Fin (k1_t10_loop i).trips) : Fin 4 → Nat :=
  let c9_299 : Index := 9#32
  let c0_i32_141 : BitVec 32 := 0#32
  let arg0 : BitVec 32 := BitVec.ofNat 32 (i 0).val
  let c1_i32_140 : BitVec 32 := 1#32
  let v326 : BitVec 32 := Scalar.addi arg0 c1_i32_140
  let v327 : BitVec 32 := Scalar.subi v326 c0_i32_141
  let c1_i32_142 : BitVec 32 := 1#32
  let v329 : BitVec 32 := Scalar.divsi v327 c1_i32_142
  let v330 : BitVec 32 := Scalar.muli v329 c1_i32_142
  let v331 : BitVec 32 := Scalar.addi c0_i32_141 v330
  let c1_i32_144 : BitVec 32 := 1#32
  let arg18 : BitVec 32 := Scf.iv v331 c1_i32_144 k1_t10
  let v697 : Index := Scalar.indexCast arg18
  let c0_300 : Index := 0#32
  let c0_301 : Index := 0#32
  ![9, v697.toNat, 0, 0]
@[reducible] def k1_t11_loop (i : grid1.Coords) : Scf.Loop 32 :=
  let c0_i32_146 : BitVec 32 := 0#32
  let arg0 : BitVec 32 := BitVec.ofNat 32 (i 0).val
  let c1_i32_145 : BitVec 32 := 1#32
  let v340 : BitVec 32 := Scalar.addi arg0 c1_i32_145
  let v341 : BitVec 32 := Scalar.subi v340 c0_i32_146
  let c1_i32_147 : BitVec 32 := 1#32
  let v343 : BitVec 32 := Scalar.divsi v341 c1_i32_147
  let v344 : BitVec 32 := Scalar.muli v343 c1_i32_147
  let v345 : BitVec 32 := Scalar.addi c0_i32_146 v344
  let c1_i32_148 : BitVec 32 := 1#32
  ⟨c0_i32_146, v345, c1_i32_148⟩
def k1_off65 (i : grid1.Coords) (k1_t11 : Fin (k1_t11_loop i).trips) : Fin 4 → Nat :=
  let c10_281 : Index := 10#32
  let c0_i32_146 : BitVec 32 := 0#32
  let c1_i32_148 : BitVec 32 := 1#32
  let arg18 : BitVec 32 := Scf.iv c0_i32_146 c1_i32_148 k1_t11
  let v648 : Index := Scalar.indexCast arg18
  let c0_282 : Index := 0#32
  let c0_283 : Index := 0#32
  ![10, v648.toNat, 0, 0]
def k1_off66 (i : grid1.Coords) (k1_t11 : Fin (k1_t11_loop i).trips) : Fin 4 → Nat :=
  let c10_288 : Index := 10#32
  let c0_i32_146 : BitVec 32 := 0#32
  let c1_i32_148 : BitVec 32 := 1#32
  let arg18 : BitVec 32 := Scf.iv c0_i32_146 c1_i32_148 k1_t11
  let v670 : Index := Scalar.indexCast arg18
  let c0_289 : Index := 0#32
  let c0_290 : Index := 0#32
  ![10, v670.toNat, 0, 0]
def k1_off67 (i : grid1.Coords) (k1_t11 : Fin (k1_t11_loop i).trips) : Fin 4 → Nat :=
  let c11_292 : Index := 11#32
  let c0_i32_146 : BitVec 32 := 0#32
  let c1_i32_148 : BitVec 32 := 1#32
  let arg18 : BitVec 32 := Scf.iv c0_i32_146 c1_i32_148 k1_t11
  let v675 : Index := Scalar.indexCast arg18
  let c0_293 : Index := 0#32
  let c0_294 : Index := 0#32
  ![11, v675.toNat, 0, 0]
def k1_off68 (i : grid1.Coords) (k1_t11 : Fin (k1_t11_loop i).trips) : Fin 4 → Nat :=
  let c11_299 : Index := 11#32
  let c0_i32_146 : BitVec 32 := 0#32
  let c1_i32_148 : BitVec 32 := 1#32
  let arg18 : BitVec 32 := Scf.iv c0_i32_146 c1_i32_148 k1_t11
  let v697 : Index := Scalar.indexCast arg18
  let c0_300 : Index := 0#32
  let c0_301 : Index := 0#32
  ![11, v697.toNat, 0, 0]
@[reducible] def k1_t12_loop (i : grid1.Coords) : Scf.Loop 32 :=
  let c0_i32_146 : BitVec 32 := 0#32
  let arg0 : BitVec 32 := BitVec.ofNat 32 (i 0).val
  let c1_i32_145 : BitVec 32 := 1#32
  let v340 : BitVec 32 := Scalar.addi arg0 c1_i32_145
  let v341 : BitVec 32 := Scalar.subi v340 c0_i32_146
  let c1_i32_147 : BitVec 32 := 1#32
  let v343 : BitVec 32 := Scalar.divsi v341 c1_i32_147
  let v344 : BitVec 32 := Scalar.muli v343 c1_i32_147
  let v345 : BitVec 32 := Scalar.addi c0_i32_146 v344
  let v342 : BitVec 32 := Scalar.addi c0_i32_146 v341
  let c1_i32_149 : BitVec 32 := 1#32
  ⟨v345, v342, c1_i32_149⟩
def k1_off69 (i : grid1.Coords) (k1_t12 : Fin (k1_t12_loop i).trips) : Fin 4 → Nat :=
  let c10_281 : Index := 10#32
  let c0_i32_146 : BitVec 32 := 0#32
  let arg0 : BitVec 32 := BitVec.ofNat 32 (i 0).val
  let c1_i32_145 : BitVec 32 := 1#32
  let v340 : BitVec 32 := Scalar.addi arg0 c1_i32_145
  let v341 : BitVec 32 := Scalar.subi v340 c0_i32_146
  let c1_i32_147 : BitVec 32 := 1#32
  let v343 : BitVec 32 := Scalar.divsi v341 c1_i32_147
  let v344 : BitVec 32 := Scalar.muli v343 c1_i32_147
  let v345 : BitVec 32 := Scalar.addi c0_i32_146 v344
  let c1_i32_149 : BitVec 32 := 1#32
  let arg18 : BitVec 32 := Scf.iv v345 c1_i32_149 k1_t12
  let v648 : Index := Scalar.indexCast arg18
  let c0_282 : Index := 0#32
  let c0_283 : Index := 0#32
  ![10, v648.toNat, 0, 0]
def k1_off70 (i : grid1.Coords) (k1_t12 : Fin (k1_t12_loop i).trips) : Fin 4 → Nat :=
  let c10_288 : Index := 10#32
  let c0_i32_146 : BitVec 32 := 0#32
  let arg0 : BitVec 32 := BitVec.ofNat 32 (i 0).val
  let c1_i32_145 : BitVec 32 := 1#32
  let v340 : BitVec 32 := Scalar.addi arg0 c1_i32_145
  let v341 : BitVec 32 := Scalar.subi v340 c0_i32_146
  let c1_i32_147 : BitVec 32 := 1#32
  let v343 : BitVec 32 := Scalar.divsi v341 c1_i32_147
  let v344 : BitVec 32 := Scalar.muli v343 c1_i32_147
  let v345 : BitVec 32 := Scalar.addi c0_i32_146 v344
  let c1_i32_149 : BitVec 32 := 1#32
  let arg18 : BitVec 32 := Scf.iv v345 c1_i32_149 k1_t12
  let v670 : Index := Scalar.indexCast arg18
  let c0_289 : Index := 0#32
  let c0_290 : Index := 0#32
  ![10, v670.toNat, 0, 0]
def k1_off71 (i : grid1.Coords) (k1_t12 : Fin (k1_t12_loop i).trips) : Fin 4 → Nat :=
  let c11_292 : Index := 11#32
  let c0_i32_146 : BitVec 32 := 0#32
  let arg0 : BitVec 32 := BitVec.ofNat 32 (i 0).val
  let c1_i32_145 : BitVec 32 := 1#32
  let v340 : BitVec 32 := Scalar.addi arg0 c1_i32_145
  let v341 : BitVec 32 := Scalar.subi v340 c0_i32_146
  let c1_i32_147 : BitVec 32 := 1#32
  let v343 : BitVec 32 := Scalar.divsi v341 c1_i32_147
  let v344 : BitVec 32 := Scalar.muli v343 c1_i32_147
  let v345 : BitVec 32 := Scalar.addi c0_i32_146 v344
  let c1_i32_149 : BitVec 32 := 1#32
  let arg18 : BitVec 32 := Scf.iv v345 c1_i32_149 k1_t12
  let v675 : Index := Scalar.indexCast arg18
  let c0_293 : Index := 0#32
  let c0_294 : Index := 0#32
  ![11, v675.toNat, 0, 0]
def k1_off72 (i : grid1.Coords) (k1_t12 : Fin (k1_t12_loop i).trips) : Fin 4 → Nat :=
  let c11_299 : Index := 11#32
  let c0_i32_146 : BitVec 32 := 0#32
  let arg0 : BitVec 32 := BitVec.ofNat 32 (i 0).val
  let c1_i32_145 : BitVec 32 := 1#32
  let v340 : BitVec 32 := Scalar.addi arg0 c1_i32_145
  let v341 : BitVec 32 := Scalar.subi v340 c0_i32_146
  let c1_i32_147 : BitVec 32 := 1#32
  let v343 : BitVec 32 := Scalar.divsi v341 c1_i32_147
  let v344 : BitVec 32 := Scalar.muli v343 c1_i32_147
  let v345 : BitVec 32 := Scalar.addi c0_i32_146 v344
  let c1_i32_149 : BitVec 32 := 1#32
  let arg18 : BitVec 32 := Scf.iv v345 c1_i32_149 k1_t12
  let v697 : Index := Scalar.indexCast arg18
  let c0_300 : Index := 0#32
  let c0_301 : Index := 0#32
  ![11, v697.toNat, 0, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S768x3072 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x768x768 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S768x8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x768x768 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S768x8 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S8x768x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S8x256x768 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S768x16 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S512x768 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S1x2048x768 : Shape := ⟨3, ![1, 2048, 768]⟩
abbrev S768 : Shape := ⟨1, ![768]⟩
abbrev S768x768 : Shape := ⟨2, ![768, 768]⟩
abbrev S8x768x768 : Shape := ⟨3, ![8, 768, 768]⟩
abbrev S768x8 : Shape := ⟨2, ![768, 8]⟩
abbrev S16x768x128 : Shape := ⟨3, ![16, 768, 128]⟩
abbrev S16x128x768 : Shape := ⟨3, ![16, 128, 768]⟩
abbrev S768x16 : Shape := ⟨2, ![768, 16]⟩
abbrev S_ : Shape := ⟨0, ![]⟩
abbrev S1x2048 : Shape := ⟨2, ![1, 2048]⟩
abbrev S1x2048x1 : Shape := ⟨3, ![1, 2048, 1]⟩
abbrev S1x1x768 : Shape := ⟨3, ![1, 1, 768]⟩
abbrev S1x2048x12x64 : Shape := ⟨4, ![1, 2048, 12, 64]⟩
abbrev S1x12x2048x64 : Shape := ⟨4, ![1, 12, 2048, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x1x2048x32 : Shape := ⟨4, ![1, 1, 2048, 32]⟩
abbrev S1x12x2048x32 : Shape := ⟨4, ![1, 12, 2048, 32]⟩
abbrev S1x2048x8 : Shape := ⟨3, ![1, 2048, 8]⟩
abbrev S1x2048x2 : Shape := ⟨3, ![1, 2048, 2]⟩
abbrev S1x2048x2x1 : Shape := ⟨4, ![1, 2048, 2, 1]⟩
abbrev S1x1x1x8 : Shape := ⟨4, ![1, 1, 1, 8]⟩
abbrev S1x2048x2x8 : Shape := ⟨4, ![1, 2048, 2, 8]⟩
abbrev S1x2048x8x768 : Shape := ⟨4, ![1, 2048, 8, 768]⟩
abbrev S1x12x2048x2048 : Shape := ⟨4, ![1, 12, 2048, 2048]⟩
abbrev S2048x2048 : Shape := ⟨2, ![2048, 2048]⟩
abbrev S1x1x2048x2048 : Shape := ⟨4, ![1, 1, 2048, 2048]⟩
abbrev S1x12x2048 : Shape := ⟨3, ![1, 12, 2048]⟩
abbrev S1x12x2048x1 : Shape := ⟨4, ![1, 12, 2048, 1]⟩
abbrev S1x2048x16 : Shape := ⟨3, ![1, 2048, 16]⟩
abbrev S1x2048x8x1 : Shape := ⟨4, ![1, 2048, 8, 1]⟩
abbrev S1x1x1x16 : Shape := ⟨4, ![1, 1, 1, 16]⟩
abbrev S1x2048x8x16 : Shape := ⟨4, ![1, 2048, 8, 16]⟩
abbrev S1x2048x16x128 : Shape := ⟨4, ![1, 2048, 16, 128]⟩
abbrev S16x768x1x2048 : Shape := ⟨4, ![16, 768, 1, 2048]⟩
abbrev S1x2048x16x768 : Shape := ⟨4, ![1, 2048, 16, 768]⟩

abbrev nBuf : Space → Nat
  | .hbm => 216
  | .vmem => 0
  | .smem => 0
  | _ => 0

abbrev hbmTy0_0 (i : Nat) : BufTy := match i % 128 with
  | 0 => ⟨S1x2048x768, .f32⟩
  | 1 => ⟨S768, .f32⟩
  | 2 => ⟨S768, .f32⟩
  | 3 => ⟨S768x768, .f32⟩
  | 4 => ⟨S768x768, .f32⟩
  | 5 => ⟨S8x768x768, .f32⟩
  | 6 => ⟨S8x768x768, .f32⟩
  | 7 => ⟨S768x8, .f32⟩
  | 8 => ⟨S768x8, .f32⟩
  | 9 => ⟨S16x768x128, .f32⟩
  | 10 => ⟨S16x128x768, .f32⟩
  | 11 => ⟨S768x16, .f32⟩
  | 12 => ⟨S1x2048x768, .f32⟩
  | 13 => ⟨S_, .f32⟩
  | 14 => ⟨S1x2048, .f32⟩
  | 15 => ⟨S1x2048x1, .f32⟩
  | 16 => ⟨S_, .f32⟩
  | 17 => ⟨S1x2048x1, .f32⟩
  | 18 => ⟨S1x2048x1, .f32⟩
  | 19 => ⟨S_, .f32⟩
  | 20 => ⟨S1x2048x1, .f32⟩
  | 21 => ⟨S1x2048x1, .f32⟩
  | 22 => ⟨S1x2048x1, .f32⟩
  | 23 => ⟨S1x2048x768, .f32⟩
  | 24 => ⟨S1x2048x768, .f32⟩
  | 25 => ⟨S1x1x768, .f32⟩
  | 26 => ⟨S1x2048x768, .f32⟩
  | 27 => ⟨S1x2048x768, .f32⟩
  | 28 => ⟨S1x2048x768, .f32⟩
  | 29 => ⟨S1x2048x12x64, .f32⟩
  | 30 => ⟨S1x12x2048x64, .f32⟩
  | 31 => ⟨S1x2048x768, .f32⟩
  | 32 => ⟨S1x2048x12x64, .f32⟩
  | 33 => ⟨S1x12x2048x64, .f32⟩
  | 34 => ⟨S2048, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S2048x1, .f32⟩
  | 46 => ⟨S1x32, .f32⟩
  | 47 => ⟨S2048x32, .f32⟩
  | 48 => ⟨S2048x32, .f32⟩
  | 49 => ⟨S2048x32, .f32⟩
  | 50 => ⟨S2048x32, .f32⟩
  | 51 => ⟨S1x1x2048x32, .f32⟩
  | 52 => ⟨S2048x32, .f32⟩
  | 53 => ⟨S1x1x2048x32, .f32⟩
  | 54 => ⟨S1x12x2048x32, .f32⟩
  | 55 => ⟨S1x12x2048x32, .f32⟩
  | 56 => ⟨S1x12x2048x32, .f32⟩
  | 57 => ⟨S1x12x2048x32, .f32⟩
  | 58 => ⟨S1x12x2048x32, .f32⟩
  | 59 => ⟨S1x12x2048x32, .f32⟩
  | 60 => ⟨S1x12x2048x32, .f32⟩
  | 61 => ⟨S1x12x2048x32, .f32⟩
  | 62 => ⟨S1x12x2048x32, .f32⟩
  | 63 => ⟨S1x12x2048x32, .f32⟩
  | 64 => ⟨S1x12x2048x32, .f32⟩
  | 65 => ⟨S1x12x2048x32, .f32⟩
  | 66 => ⟨S1x12x2048x64, .f32⟩
  | 67 => ⟨S1x12x2048x32, .f32⟩
  | 68 => ⟨S1x12x2048x32, .f32⟩
  | 69 => ⟨S1x12x2048x32, .f32⟩
  | 70 => ⟨S1x12x2048x32, .f32⟩
  | 71 => ⟨S1x12x2048x32, .f32⟩
  | 72 => ⟨S1x12x2048x32, .f32⟩
  | 73 => ⟨S1x12x2048x32, .f32⟩
  | 74 => ⟨S1x12x2048x32, .f32⟩
  | 75 => ⟨S1x12x2048x32, .f32⟩
  | 76 => ⟨S1x12x2048x32, .f32⟩
  | 77 => ⟨S1x12x2048x32, .f32⟩
  | 78 => ⟨S1x12x2048x32, .f32⟩
  | 79 => ⟨S1x12x2048x64, .f32⟩
  | 80 => ⟨S1x2048x8, .f32⟩
  | 81 => ⟨S1x2048x8, .f32⟩
  | 82 => ⟨S1x2048x8, .f32⟩
  | 83 => ⟨S_, .f32⟩
  | 84 => ⟨S1x2048x8, .f32⟩
  | 85 => ⟨S1x2048x8, .f32⟩
  | 86 => ⟨S_, .f32⟩
  | 87 => ⟨S1x2048x8, .f32⟩
  | 88 => ⟨S1x2048x8, .f32⟩
  | 89 => ⟨S1x2048x2, .f32⟩
  | 90 => ⟨S1x2048x2, .i32⟩
  | 91 => ⟨S1x2048x2x1, .i32⟩
  | 92 => ⟨S1x1x1x8, .i32⟩
  | 93 => ⟨S1x2048x2x8, .i32⟩
  | 94 => ⟨S1x2048x2x8, .i32⟩
  | 95 => ⟨S1x2048x2x8, .i1⟩
  | 96 => ⟨S1x2048x2x8, .f32⟩
  | 97 => ⟨S1x2048x2x1, .f32⟩
  | 98 => ⟨S1x2048x2x8, .f32⟩
  | 99 => ⟨S1x2048x2x8, .f32⟩
  | 100 => ⟨S_, .f32⟩
  | 101 => ⟨S1x2048x8, .f32⟩
  | 102 => ⟨S1x2048x8x768, .f32⟩
  | 103 => ⟨S1x2048x768, .f32⟩
  | 104 => ⟨S1x2048x12x64, .f32⟩
  | 105 => ⟨S1x12x2048x64, .f32⟩
  | 106 => ⟨S1x12x2048x2048, .f32⟩
  | 107 => ⟨S_, .f32⟩
  | 108 => ⟨S_, .f32⟩
  | 109 => ⟨S1x12x2048x2048, .f32⟩
  | 110 => ⟨S1x12x2048x2048, .f32⟩
  | 111 => ⟨S_, .i1⟩
  | 112 => ⟨S2048x2048, .i1⟩
  | 113 => ⟨S2048x2048, .i32⟩
  | 114 => ⟨S_, .i32⟩
  | 115 => ⟨S2048x2048, .i32⟩
  | 116 => ⟨S2048x2048, .i32⟩
  | 117 => ⟨S2048x2048, .i32⟩
  | 118 => ⟨S2048x2048, .i1⟩
  | 119 => ⟨S_, .i1⟩
  | 120 => ⟨S2048x2048, .i1⟩
  | 121 => ⟨S2048x2048, .i1⟩
  | 122 => ⟨S1x1x2048x2048, .i1⟩
  | 123 => ⟨S_, .f32⟩
  | 124 => ⟨S_, .f32⟩
  | 125 => ⟨S1x12x2048x2048, .i1⟩
  | 126 => ⟨S1x12x2048x2048, .f32⟩
  | 127 => ⟨S1x12x2048x2048, .f32⟩
  | _ => ⟨S1x2048x768, .f32⟩

abbrev hbmTy0_1 (i : Nat) : BufTy := match i % 128 with
  | 0 => ⟨S_, .f32⟩
  | 1 => ⟨S1x12x2048, .f32⟩
  | 2 => ⟨S_, .f32⟩
  | 3 => ⟨S1x12x2048, .f32⟩
  | 4 => ⟨S1x12x2048, .f32⟩
  | 5 => ⟨S1x12x2048x1, .f32⟩
  | 6 => ⟨S1x12x2048x2048, .f32⟩
  | 7 => ⟨S1x12x2048x2048, .f32⟩
  | 8 => ⟨S1x12x2048x2048, .f32⟩
  | 9 => ⟨S_, .f32⟩
  | 10 => ⟨S1x12x2048, .f32⟩
  | 11 => ⟨S1x12x2048x1, .f32⟩
  | 12 => ⟨S1x12x2048x2048, .f32⟩
  | 13 => ⟨S1x12x2048x2048, .f32⟩
  | 14 => ⟨S1x12x2048x64, .f32⟩
  | 15 => ⟨S1x2048x12x64, .f32⟩
  | 16 => ⟨S1x2048x768, .f32⟩
  | 17 => ⟨S1x2048x8, .f32⟩
  | 18 => ⟨S1x2048x8, .f32⟩
  | 19 => ⟨S1x2048x8, .f32⟩
  | 20 => ⟨S_, .f32⟩
  | 21 => ⟨S1x2048x8, .f32⟩
  | 22 => ⟨S1x2048x8, .f32⟩
  | 23 => ⟨S_, .f32⟩
  | 24 => ⟨S1x2048x8, .f32⟩
  | 25 => ⟨S1x2048x8, .f32⟩
  | 26 => ⟨S1x2048x2, .f32⟩
  | 27 => ⟨S1x2048x2, .i32⟩
  | 28 => ⟨S1x2048x2x1, .i32⟩
  | 29 => ⟨S1x1x1x8, .i32⟩
  | 30 => ⟨S1x2048x2x8, .i32⟩
  | 31 => ⟨S1x2048x2x8, .i32⟩
  | 32 => ⟨S1x2048x2x8, .i1⟩
  | 33 => ⟨S1x2048x2x8, .f32⟩
  | 34 => ⟨S1x2048x2x1, .f32⟩
  | 35 => ⟨S1x2048x2x8, .f32⟩
  | 36 => ⟨S1x2048x2x8, .f32⟩
  | 37 => ⟨S_, .f32⟩
  | 38 => ⟨S1x2048x8, .f32⟩
  | 39 => ⟨S1x2048x8x768, .f32⟩
  | 40 => ⟨S1x2048x768, .f32⟩
  | 41 => ⟨S1x2048x768, .f32⟩
  | 42 => ⟨S1x2048x768, .f32⟩
  | 43 => ⟨S_, .f32⟩
  | 44 => ⟨S1x2048, .f32⟩
  | 45 => ⟨S1x2048x1, .f32⟩
  | 46 => ⟨S_, .f32⟩
  | 47 => ⟨S1x2048x1, .f32⟩
  | 48 => ⟨S1x2048x1, .f32⟩
  | 49 => ⟨S_, .f32⟩
  | 50 => ⟨S1x2048x1, .f32⟩
  | 51 => ⟨S1x2048x1, .f32⟩
  | 52 => ⟨S1x2048x1, .f32⟩
  | 53 => ⟨S1x2048x768, .f32⟩
  | 54 => ⟨S1x2048x768, .f32⟩
  | 55 => ⟨S1x1x768, .f32⟩
  | 56 => ⟨S1x2048x768, .f32⟩
  | 57 => ⟨S1x2048x768, .f32⟩
  | 58 => ⟨S1x2048x16, .f32⟩
  | 59 => ⟨S1x2048x16, .f32⟩
  | 60 => ⟨S1x2048x16, .f32⟩
  | 61 => ⟨S_, .f32⟩
  | 62 => ⟨S1x2048x16, .f32⟩
  | 63 => ⟨S1x2048x16, .f32⟩
  | 64 => ⟨S_, .f32⟩
  | 65 => ⟨S1x2048x16, .f32⟩
  | 66 => ⟨S1x2048x16, .f32⟩
  | 67 => ⟨S1x2048x8, .f32⟩
  | 68 => ⟨S1x2048x8, .i32⟩
  | 69 => ⟨S1x2048x8x1, .i32⟩
  | 70 => ⟨S1x1x1x16, .i32⟩
  | 71 => ⟨S1x2048x8x16, .i32⟩
  | 72 => ⟨S1x2048x8x16, .i32⟩
  | 73 => ⟨S1x2048x8x16, .i1⟩
  | 74 => ⟨S1x2048x8x16, .f32⟩
  | 75 => ⟨S1x2048x8x1, .f32⟩
  | 76 => ⟨S1x2048x8x16, .f32⟩
  | 77 => ⟨S1x2048x8x16, .f32⟩
  | 78 => ⟨S_, .f32⟩
  | 79 => ⟨S1x2048x16, .f32⟩
  | 80 => ⟨S1x2048x16x128, .f32⟩
  | 81 => ⟨S_, .f32⟩
  | 82 => ⟨S1x2048x16x128, .f32⟩
  | 83 => ⟨S1x2048x16x128, .f32⟩
  | 84 => ⟨S16x768x1x2048, .f32⟩
  | 85 => ⟨S1x2048x16x768, .f32⟩
  | 86 => ⟨S1x2048x768, .f32⟩
  | 87 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_5 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_values : Ref sig .tc := ⟨.hbm, 89, rfl⟩
abbrev main_indices : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_7 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_8 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c : Ref sig .tc := ⟨.hbm, 111, rfl⟩
abbrev main_v82 : Ref sig .tc := ⟨.hbm, 112, rfl⟩
abbrev main_call1_v0 : Ref sig .tc := ⟨.hbm, 113, rfl⟩
abbrev main_call1_c : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_c_0 : Ref sig .tc := ⟨.hbm, 119, rfl⟩
abbrev main_call1_v5 : Ref sig .tc := ⟨.hbm, 120, rfl⟩
abbrev main_v83 : Ref sig .tc := ⟨.hbm, 121, rfl⟩
abbrev main_v84 : Ref sig .tc := ⟨.hbm, 122, rfl⟩
abbrev main_cst_9 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_v85 : Ref sig .tc := ⟨.hbm, 127, rfl⟩
abbrev main_cst_10 : Ref sig .tc := ⟨.hbm, 128, rfl⟩
abbrev main_v86 : Ref sig .tc := ⟨.hbm, 129, rfl⟩
abbrev main_cst_11 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_12 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_13 : Ref sig .tc := ⟨.hbm, 148, rfl⟩
abbrev main_v103 : Ref sig .tc := ⟨.hbm, 149, rfl⟩
abbrev main_v104 : Ref sig .tc := ⟨.hbm, 150, rfl⟩
abbrev main_cst_14 : Ref sig .tc := ⟨.hbm, 151, rfl⟩
abbrev main_v105 : Ref sig .tc := ⟨.hbm, 152, rfl⟩
abbrev main_v106 : Ref sig .tc := ⟨.hbm, 153, rfl⟩
abbrev main_values_15 : Ref sig .tc := ⟨.hbm, 154, rfl⟩
abbrev main_indices_16 : Ref sig .tc := ⟨.hbm, 155, rfl⟩
abbrev main_call3_v0 : Ref sig .tc := ⟨.hbm, 156, rfl⟩
abbrev main_call3_v1 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_17 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_18 : Ref sig .tc := ⟨.hbm, 171, rfl⟩
abbrev main_v116 : Ref sig .tc := ⟨.hbm, 172, rfl⟩
abbrev main_v117 : Ref sig .tc := ⟨.hbm, 173, rfl⟩
abbrev main_cst_19 : Ref sig .tc := ⟨.hbm, 174, rfl⟩
abbrev main_v118 : Ref sig .tc := ⟨.hbm, 175, rfl⟩
abbrev main_v119 : Ref sig .tc := ⟨.hbm, 176, rfl⟩
abbrev main_cst_20 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_cst_21 : Ref sig .tc := ⟨.hbm, 189, rfl⟩
abbrev main_v131 : Ref sig .tc := ⟨.hbm, 190, rfl⟩
abbrev main_v132 : Ref sig .tc := ⟨.hbm, 191, rfl⟩
abbrev main_cst_22 : Ref sig .tc := ⟨.hbm, 192, rfl⟩
abbrev main_v133 : Ref sig .tc := ⟨.hbm, 193, rfl⟩
abbrev main_v134 : Ref sig .tc := ⟨.hbm, 194, rfl⟩
abbrev main_values_23 : Ref sig .tc := ⟨.hbm, 195, rfl⟩
abbrev main_indices_24 : Ref sig .tc := ⟨.hbm, 196, rfl⟩
abbrev main_call4_v0 : Ref sig .tc := ⟨.hbm, 197, rfl⟩
abbrev main_call4_v1 : Ref sig .tc := ⟨.hbm, 198, rfl⟩
abbrev main_call4_v2 : Ref sig .tc := ⟨.hbm, 199, rfl⟩
abbrev main_call4_v3 : Ref sig .tc := ⟨.hbm, 200, rfl⟩
abbrev main_call4_v4 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_cst_25 : Ref sig .tc := ⟨.hbm, 206, rfl⟩
abbrev main_v139 : Ref sig .tc := ⟨.hbm, 207, rfl⟩
abbrev main_v140 : Ref sig .tc := ⟨.hbm, 208, rfl⟩
abbrev main_call5_cst : Ref sig .tc := ⟨.hbm, 209, rfl⟩
abbrev main_call5_v0 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩

abbrev nD : Nat := 1
abbrev τ : Topo := Topo.v7x

variable {F : FTy → Type} [FloatOps F]
-- ==== Proof.KernelIdeal.Region0.lean ====
/- The first call at one grid point: the casts and packings of the weights, and the query and key weights written at the first point only and kept in place until the last. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions

-- what the core's buffers hold when the call begins
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x768x768 := Rect.unit (s := S1x768x768) ![0, 0, 0] S1x768x768.size inb_S1x768x768_S1x768x768_0_0_0
abbrev r0_1 : Rect S2x768x128 := Rect.unit (s := S2x768x128) ![0, 0, 0] S2x768x128.size inb_S2x768x128_S2x768x128_0_0_0
abbrev r0_2 : Rect S1x768x256 := Rect.unit (s := S1x768x256) ![0, 0, 0] S1x768x256.size inb_S1x768x256_S1x768x256_0_0_0
abbrev r0_3 : Rect S2x128x768 := Rect.unit (s := S2x128x768) ![0, 0, 0] S2x128x768.size inb_S2x128x768_S2x128x768_0_0_0
abbrev r0_4 : Rect S1x256x768 := Rect.unit (s := S1x256x768) ![0, 0, 0] S1x256x768.size inb_S1x256x768_S1x256x768_0_0_0
abbrev r0_5 : Rect S768x768 := Rect.unit (s := S768x768) ![0, 0] S768x768.size inb_S768x768_S768x768_0_0
abbrev r0_6 : Rect S768x3072 := Rect.unit (s := S768x3072) ![0, 0] S768x3072.size inb_S768x3072_S768x3072_0_0

/-- The query and key weights and their rotated copies, side by side. -/
def wqkPay (v29 v30 : Vec F S768x768 .f32) : FVec F S768x3072 .bf16 :=
  k0_pay3 v30 (k0_pay4 v29) (k0_pay26 v29 (k0_pay5 v29) (k0_pay6 v29) (k0_pay7 v29) (k0_pay8 v29) (k0_pay9 v29) (k0_pay10 v29) (k0_pay11 v29) (k0_pay12 v29) (k0_pay13 v29) (k0_pay14 v29) (k0_pay15 v29) (k0_pay16 v29) (k0_pay17 v29) (k0_pay18 v29) (k0_pay19 v29) (k0_pay20 v29) (k0_pay21 v29) (k0_pay22 v29) (k0_pay23 v29) (k0_pay24 v29) (k0_pay25 v29))
    (k0_pay2 v30 (k0_pay27 v30) (k0_pay28 v30) (k0_pay29 v30) (k0_pay30 v30) (k0_pay31 v30) (k0_pay32 v30) (k0_pay33 v30) (k0_pay34 v30) (k0_pay35 v30) (k0_pay36 v30) (k0_pay37 v30) (k0_pay38 v30) (k0_pay39 v30) (k0_pay40 v30) (k0_pay41 v30) (k0_pay42 v30) (k0_pay43 v30) (k0_pay44 v30) (k0_pay1 (k0_pay45 v30) (Scalar.ofBits .f32 0x00000000#32)))

/-! ## What the body leaves in each output window's buffer -/

def out0_6 (x0 : Vec F S768x768 .f32) (x1 : Vec F S768x768 .f32) (x2 : Vec F S1x768x768 .f32) (x3 : Vec F S1x768x768 .f32) (x4 : Vec F S2x768x128 .f32) (x5 : Vec F S2x128x768 .f32) : Vec F S768x3072 .bf16 :=
  View.canon [⟨r0_6, wqkPay (View.ld x0 r0_5) (View.ld x1 r0_5)⟩]

theorem cover0_6 (p0 : Vec F S768x3072 .bf16) (y : S768x3072.Idx) :
    ∃ pc ∈ ([⟨r0_6, p0⟩] : List (View.Piece (Elt F) S768x3072 .bf16)), y ∈ pc.1.set :=
  View.cover_of_tiled [⟨r0_6, p0⟩] S768x3072.size (by rfl) y

def out0_7 (x0 : Vec F S768x768 .f32) (x1 : Vec F S768x768 .f32) (x2 : Vec F S1x768x768 .f32) (x3 : Vec F S1x768x768 .f32) (x4 : Vec F S2x768x128 .f32) (x5 : Vec F S2x128x768 .f32) : Vec F S1x768x768 .bf16 :=
  View.canon [⟨r0_0, k0_pay46 (View.ld x2 r0_0)⟩]

theorem cover0_7 (p0 : Vec F S1x768x768 .bf16) (y : S1x768x768.Idx) :
    ∃ pc ∈ ([⟨r0_0, p0⟩] : List (View.Piece (Elt F) S1x768x768 .bf16)), y ∈ pc.1.set :=
  View.cover_of_tiled [⟨r0_0, p0⟩] S1x768x768.size (by rfl) y

def out0_8 (x0 : Vec F S768x768 .f32) (x1 : Vec F S768x768 .f32) (x2 : Vec F S1x768x768 .f32) (x3 : Vec F S1x768x768 .f32) (x4 : Vec F S2x768x128 .f32) (x5 : Vec F S2x128x768 .f32) : Vec F S1x768x768 .bf16 :=
  View.canon [⟨r0_0, k0_pay47 (View.ld x3 r0_0)⟩]

theorem cover0_8 (p0 : Vec F S1x768x768 .bf16) (y : S1x768x768.Idx) :
    ∃ pc ∈ ([⟨r0_0, p0⟩] : List (View.Piece (Elt F) S1x768x768 .bf16)), y ∈ pc.1.set :=
  View.cover_of_tiled [⟨r0_0, p0⟩] S1x768x768.size (by rfl) y

def out0_9 (x0 : Vec F S768x768 .f32) (x1 : Vec F S768x768 .f32) (x2 : Vec F S1x768x768 .f32) (x3 : Vec F S1x768x768 .f32) (x4 : Vec F S2x768x128 .f32) (x5 : Vec F S2x128x768 .f32) : Vec F S1x768x256 .bf16 :=
  View.canon [⟨r0_2, k0_pay48 (View.ld x4 r0_1)⟩]

theorem cover0_9 (p0 : Vec F S1x768x256 .bf16) (y : S1x768x256.Idx) :
    ∃ pc ∈ ([⟨r0_2, p0⟩] : List (View.Piece (Elt F) S1x768x256 .bf16)), y ∈ pc.1.set :=
  View.cover_of_tiled [⟨r0_2, p0⟩] S1x768x256.size (by rfl) y

def out0_10 (x0 : Vec F S768x768 .f32) (x1 : Vec F S768x768 .f32) (x2 : Vec F S1x768x768 .f32) (x3 : Vec F S1x768x768 .f32) (x4 : Vec F S2x768x128 .f32) (x5 : Vec F S2x128x768 .f32) : Vec F S1x256x768 .bf16 :=
  View.canon [⟨r0_4, k0_pay49 (View.ld x5 r0_3)⟩]

theorem cover0_10 (p0 : Vec F S1x256x768 .bf16) (y : S1x256x768.Idx) :
    ∃ pc ∈ ([⟨r0_4, p0⟩] : List (View.Piece (Elt F) S1x256x768 .bf16)), y ∈ pc.1.set :=
  View.cover_of_tiled [⟨r0_4, p0⟩] S1x256x768.size (by rfl) y

set_option maxHeartbeats 2000000 in
/-- At the first point the body fills every output. -/
theorem sound_kernel0_A (c : Dev nD) (E : Set ℕ) (i : grid0.Coords) (arg1 : Memref sig .tc .vmem S768x768 .f32) (harg1 : arg1.IsWhole) (arg2 : Memref sig .tc .vmem S768x768 .f32) (harg2 : arg2.IsWhole) (arg3 : Memref sig .tc .vmem S1x768x768 .f32) (harg3 : arg3.IsWhole) (arg4 : Memref sig .tc .vmem S1x768x768 .f32) (harg4 : arg4.IsWhole) (arg5 : Memref sig .tc .vmem S2x768x128 .f32) (harg5 : arg5.IsWhole) (arg6 : Memref sig .tc .vmem S2x128x768 .f32) (harg6 : arg6.IsWhole) (arg7 : Memref sig .tc .vmem S768x3072 .bf16) (harg7 : arg7.IsWhole) (arg8 : Memref sig .tc .vmem S1x768x768 .bf16) (harg8 : arg8.IsWhole) (arg9 : Memref sig .tc .vmem S1x768x768 .bf16) (harg9 : arg9.IsWhole) (arg10 : Memref sig .tc .vmem S1x768x256 .bf16) (harg10 : arg10.IsWhole) (arg11 : Memref sig .tc .vmem S1x256x768 .bf16) (harg11 : arg11.IsWhole)
    (x0 : Vec F S768x768 .f32) (x1 : Vec F S768x768 .f32) (x2 : Vec F S1x768x768 .f32) (x3 : Vec F S1x768x768 .f32) (x4 : Vec F S2x768x128 .f32) (x5 : Vec F S2x128x768 .f32) (K : PUnit → sProp 𝕄) (hc0 : k0_cond1 i = 1#1) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5) ∗ owns (c : Thread nD τ) arg10 fullShare (out0_9 x0 x1 x2 x3 x4 x5) ∗ owns (c : Thread nD τ) arg11 fullShare (out0_10 x0 x1 x2 x3 x4 x5)) -∗ K ⟨⟩))
      ⊢ wp frame (wpE (defs₀ (F := F)) Variants.none c none) E (cc0__prep_body i arg1 harg1 arg2 harg2 arg3 harg3 arg4 harg4 arg5 harg5 arg6 harg6 arg7 harg7 arg8 harg8 arg9 harg9 arg10 harg10 arg11 harg11) K := by
  simp only [cc0__prep_body_eq_skeleton]; unfold cc0__prep_body_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4 hf5
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

set_option maxHeartbeats 2000000 in
/-- At a later point it leaves the query and key weights as they are. -/
theorem sound_kernel0_B (c : Dev nD) (E : Set ℕ) (i : grid0.Coords) (arg1 : Memref sig .tc .vmem S768x768 .f32) (harg1 : arg1.IsWhole) (arg2 : Memref sig .tc .vmem S768x768 .f32) (harg2 : arg2.IsWhole) (arg3 : Memref sig .tc .vmem S1x768x768 .f32) (harg3 : arg3.IsWhole) (arg4 : Memref sig .tc .vmem S1x768x768 .f32) (harg4 : arg4.IsWhole) (arg5 : Memref sig .tc .vmem S2x768x128 .f32) (harg5 : arg5.IsWhole) (arg6 : Memref sig .tc .vmem S2x128x768 .f32) (harg6 : arg6.IsWhole) (arg7 : Memref sig .tc .vmem S768x3072 .bf16) (harg7 : arg7.IsWhole) (arg8 : Memref sig .tc .vmem S1x768x768 .bf16) (harg8 : arg8.IsWhole) (arg9 : Memref sig .tc .vmem S1x768x768 .bf16) (harg9 : arg9.IsWhole) (arg10 : Memref sig .tc .vmem S1x768x256 .bf16) (harg10 : arg10.IsWhole) (arg11 : Memref sig .tc .vmem S1x256x768 .bf16) (harg11 : arg11.IsWhole)
    (x0 : Vec F S768x768 .f32) (x1 : Vec F S768x768 .f32) (x2 : Vec F S1x768x768 .f32) (x3 : Vec F S1x768x768 .f32) (x4 : Vec F S2x768x128 .f32) (x5 : Vec F S2x128x768 .f32) (K : PUnit → sProp 𝕄) (x6 : Vec F S768x3072 .bf16) (hc0 : ¬ k0_cond1 i = 1#1) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5) ∗ owns (c : Thread nD τ) arg9 fullShare (out0_8 x0 x1 x2 x3 x4 x5) ∗ owns (c : Thread nD τ) arg10 fullShare (out0_9 x0 x1 x2 x3 x4 x5) ∗ owns (c : Thread nD τ) arg11 fullShare (out0_10 x0 x1 x2 x3 x4 x5)) -∗ K ⟨⟩))
      ⊢ wp frame (wpE (defs₀ (F := F)) Variants.none c none) E (cc0__prep_body i arg1 harg1 arg2 harg2 arg3 harg3 arg4 harg4 arg5 harg5 arg6 harg6 arg7 harg7 arg8 harg8 arg9 harg9 arg10 harg10 arg11 harg11) K := by
  simp only [cc0__prep_body_eq_skeleton]; unfold cc0__prep_body_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rfl
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

theorem N0_eq : cfg0.N = 8 := N_0

/-- The branch is taken at the first point only. -/
theorem hcond0 (t : Fin cfg0.N) : k0_cond1 (grid0.coords t) = 1#1 ↔ t.val = 0 := by
  revert t; decide +kernel

/-- The query and key weights, as the first point computes them. -/
def wqk0 (c : Dev nD) : Vec F S768x3072 .bf16 :=
  out0_6 (iblk0 V c 0 ⟨0, by decide⟩) (iblk0 V c 1 ⟨0, by decide⟩) (iblk0 V c 2 ⟨0, by decide⟩) (iblk0 V c 3 ⟨0, by decide⟩) (iblk0 V c 4 ⟨0, by decide⟩) (iblk0 V c 5 ⟨0, by decide⟩)

theorem fresh0_6 (t : Fin cfg0.N) (h : t.val ≠ 0) : cfg0.fresh 6 t.val = false := by
  have H : ∀ t : Fin cfg0.N, t.val ≠ 0 → cfg0.fresh 6 t.val = false := by decide +kernel
  exact H t h

/-- The proof data of the first call. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => wqk0 V c
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
    | ⟨10, _⟩ => out0_10 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = wqk0 V c := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- After the first point the query and key weights are in place. -/
theorem before0_6 (c : Dev nD) (t : Fin cfg0.N) (h : t.val ≠ 0) (d) : (dat0 V c).before 6 t d = wqk0 V c := by
  rw [(dat0 V c).before_out_traj 6 rfl (fun _ _ => rfl) (fun t _ _ _ => by rw [after0_6, after0_6]) t.val t rfl d,
    fresh0_6 t h, if_neg Bool.false_ne_true, after0_6]

theorem idle0_6 (t : Fin cfg0.N) (h : t.val = 0) : cfg0.idle 6 (cfg0.grid.coords t) = false := by
  have H : ∀ t : Fin cfg0.N, t.val = 0 → cfg0.idle 6 (cfg0.grid.coords t) = false := by decide +kernel
  exact H t h

theorem leaves0_6 (c : Dev nD) (t : Fin cfg0.N) : owns (c : Thread nD τ) (st0_6 t) fullShare (wqk0 V c) ⊢ (dat0 V c).leavesExact 6 t := by
  by_cases h : t.val = 0
  · unfold Dat.leavesExact; rw [idle0_6 t h, after0_6]
  · unfold Dat.leavesExact
    split
    · split
      · iintro H; iexists (wqk0 V c); rw [before0_6 V c t h]; iexact H
      · rw [after0_6]
    · rw [after0_6]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ (dat0 V c).leavesExact 6 t
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 2000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_7, after0_8, after0_9, after0_10]
  by_cases h0 : t.val = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_A c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) _ ((hcond0 t).mpr h0))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · rw [show out0_6 (iblk0 V c 0 t) (iblk0 V c 1 t) (iblk0 V c 2 t) (iblk0 V c 3 t) (iblk0 V c 4 t) (iblk0 V c 5 t) = wqk0 V c from by
        obtain rfl : t = ⟨0, by decide⟩ := Fin.ext h0
        rfl]
      iapply (leaves0_6 V c t); iexact H6
    isplitl [H7]; · iexact H7
    isplitl [H8]; · iexact H8
    isplitl [H9]; · iexact H9
    iexact H10
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_B c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) _ (wqk0 V c) (fun h => h0 ((hcond0 t).mp h)))
    isplitl [H0]; · iexact H0
    isplitl [H1]; · iexact H1
    isplitl [H2]; · iexact H2
    isplitl [H3]; · iexact H3
    isplitl [H4]; · iexact H4
    isplitl [H5]; · iexact H5
    isplitl [H6]; · rw [before0_6 V c t h0]; iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 V c t); iexact H6
    isplitl [H7]; · iexact H7
    isplitl [H8]; · iexact H8
    isplitl [H9]; · iexact H9
    iexact H10

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand

end
-- ==== Proof.KernelIdeal.Body.lean ====
/- The main call's body at one grid point, run from its operands' contents: what its stores leave in the output block and in the two carried buffers. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def bodyRun (c : Dev nD) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole)
    (x0 : Vec F S512x768 .f32) (x1 : Vec F S1x768 .f32) (x2 : Vec F S1x768 .f32) (x3 : Vec F S512x64 .f32) (x4 : Vec F S512x64 .f32) (x5 : Vec F S64x768 .f32) (x6 : Vec F S768x3072 .bf16) (x7 : Vec F S8x768x768 .bf16) (x8 : Vec F S768x8 .f32) (x9 : Vec F S8x768x768 .bf16) (x10 : Vec F S768x8 .f32) (x11 : Vec F S8x768x256 .bf16) (x12 : Vec F S8x256x768 .bf16) (x13 : Vec F S768x16 .f32) (y0 : Vec F S12x4x64x512 .bf16) (y1 : Vec F S12x4x512x64 .bf16) :
    { L : List (View.Piece (Elt F) S512x768 .f32) × List (View.Piece (Elt F) S12x4x64x512 .bf16) × List (View.Piece (Elt F) S12x4x512x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare y0 ∗ owns (c : Thread nD τ) arg17 fullShare y1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L.1) ∗ (arg16.view.loc (c : Thread nD τ) ↦[arg16.view.set]{fullShare} arg16.view.writes (Elt F) (harg16.unread y0) L.2.1) ∗ (arg17.view.loc (c : Thread nD τ) ↦[arg17.view.set]{fullShare} arg17.view.writes (Elt F) (harg17.unread y1) L.2.2)) -∗ K ⟨⟩))
          ⊢ wp frame (wpE (defs₀ (F := F)) Variants.none c none) E (cc1__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_, ?_), fun E K => ?run⟩
  case run =>
    simp only [cc1__body_eq_skeleton]; unfold cc1__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hfs0; obtain rfl := harg17.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [HS0]; · iexact HS0
    iexact HS1

end Cert.KernelIdeal.Hand

end
-- ==== Proof.KernelIdeal.Heads.lean ====
/- The six key loops of the main body: one trip is one online-softmax step of each of its two heads, so a loop ends at a recursion over the key blocks it reads. -/
module

public import proofs.«01_k».proof.Proof.KernelIdeal.Body
public import Idealize.ShloMosaic.Lib.Pipeline.ValueKit.Tiles

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The masked scores of one head against one key block: the query rows against the block's keys, and the mask
constant where the key's position is after the query's. -/
def hScore (v253 v254 : IVec S512x512 32) (q : FVec F S512x64 .bf16) (k : ℕ) (K : Vec F S1x1x64x512 .bf16) : FVec F S512x512 .f32 :=
  select (cmpi .sle (addi (broadcast S512x512 (Scalar.muli (Scf.iv 0#32 1#32 k) 512#32)) v254) v253)
    (matmul dot_S512x64_S64x512_S512x512_1_0_0_1_n_n none q (shapeCast S64x512 K shapeCasts_S1x1x64x512_S64x512)
      (constant S512x512 .f32 0x00000000#32))
    (broadcast S512x512 (Named.named κ "mask" 0xCE6E6B28#32 : F .f32))

/-- The running maximum after a block's scores. -/
def hMax (m : FVec F S512x1 .f32) (s : FVec F S512x512 .f32) : FVec F S512x1 .f32 :=
  maximumf m (shapeCast S512x1 (multiReduction .maximumf [1] S512 s 0xFF800000#32 reduces_S512x512_S512 (.inl rfl) rfl)
    shapeCasts_S512_S512x1)

/-- The factor that rescales what was accumulated under the old maximum. -/
def hCorr (m m' : FVec F S512x1 .f32) : FVec F S512x1 .f32 := exp (subf m m')

/-- The block's weights under the new maximum. -/
def hProb (s : FVec F S512x512 .f32) (m' : FVec F S512x1 .f32) : FVec F S512x512 .bf16 :=
  exp (truncf .bf16 (subf s (broadcastTo S512x512 m' broadcasts_S512x1_S512x512)) bitsLt_bf16_f32)

/-- The running sum of the weights. -/
def hSum (l c : FVec F S512x1 .f32) (p : FVec F S512x512 .bf16) : FVec F S512x1 .f32 :=
  addf (mulf l c) (shapeCast S512x1
    (multiReduction .add [1] S512 (extf .f32 p bitsLt_bf16_f32) 0x00000000#32 reduces_S512x512_S512 (.inl rfl) rfl)
    shapeCasts_S512_S512x1)

/-- The running weighted sum of the block's values. -/
def hAcc (a : FVec F S512x64 .f32) (c : FVec F S512x1 .f32) (p : FVec F S512x512 .bf16) (V : Vec F S1x1x512x64 .bf16) : FVec F S512x64 .f32 :=
  addf (mulf a (broadcastTo S512x64 c broadcasts_S512x1_S512x64))
    (matmul dot_S512x512_S512x64_S512x64_1_0_0_1_n_n none p (shapeCast S512x64 V shapeCasts_S1x1x512x64_S512x64)
      (constant S512x64 .f32 0x00000000#32))

/-- What one head carries through its key loop: the maximum, the sum and the weighted sum so far. -/
abbrev HSt (F : FTy → Type) [FloatOps F] : Type := FVec F S512x1 .f32 × FVec F S512x1 .f32 × FVec F S512x64 .f32

/-- One online-softmax step of one head on key block `k`. -/
def hStep (v253 v254 : IVec S512x512 32) (q : FVec F S512x64 .bf16) (k : ℕ) (K : Vec F S1x1x64x512 .bf16) (V : Vec F S1x1x512x64 .bf16)
    (x : HSt F) : HSt F :=
  let s := hScore v253 v254 q k K
  let m' := hMax x.1 s
  let c := hCorr x.1 m'
  let p := hProb s m'
  (m', hSum x.2.1 c p, hAcc x.2.2 c p V)

/-- What one head carries before key block `n`. -/
def hState (v253 v254 : IVec S512x512 32) (q : FVec F S512x64 .bf16) (Ks : ℕ → Vec F S1x1x64x512 .bf16) (Vs : ℕ → Vec F S1x1x512x64 .bf16) : ℕ → HSt F
  | 0 => (k1_pay172 (F := F), k1_pay173 (F := F), k1_pay174 (F := F))
  | n + 1 => hStep v253 v254 q n (Ks n) (Vs n) (hState v253 v254 q Ks Vs n)

theorem hState_congr (v253 v254 : IVec S512x512 32) (q : FVec F S512x64 .bf16) {Ks Ks' : ℕ → Vec F S1x1x64x512 .bf16} {Vs Vs' : ℕ → Vec F S1x1x512x64 .bf16}
    (n : ℕ) (hK : ∀ k < n, Ks k = Ks' k) (hV : ∀ k < n, Vs k = Vs' k) :
    hState v253 v254 q Ks Vs n = hState v253 v254 q Ks' Vs' n := by
  induction n with
  | zero => rfl
  | succ n ih =>
    rw [hState, hState, ih (fun k hk => hK k (Nat.lt_succ_of_lt hk)) (fun k hk => hV k (Nat.lt_succ_of_lt hk)),
      hK n (Nat.lt_succ_self n), hV n (Nat.lt_succ_self n)]

/-- What a head ends with: the weighted sum over the sum of the weights. -/
def hFin (x : HSt F) : FVec F S512x64 .bf16 :=
  truncf .bf16 (divf x.2.2 (broadcastTo S512x64 x.2.1 broadcasts_S512x1_S512x64)) bitsLt_bf16_f32

/-- Head `h`'s transposed keys of block `k`, from the carried key buffer. -/
def kSl (X : Vec F S12x4x64x512 .bf16) (h : Fin 12) (k : ℕ) : Vec F S1x1x64x512 .bf16 :=
  fun y => X (Fin.cons h (Fin.cons (Fin.ofNat 4 k) (Fin.cons (y 2) (Fin.cons (y 3) finZeroElim))))

/-- Head `h`'s values of block `k`, from the carried value buffer. -/
def vSl (X : Vec F S12x4x512x64 .bf16) (h : Fin 12) (k : ℕ) : Vec F S1x1x512x64 .bf16 :=
  fun y => X (Fin.cons h (Fin.cons (Fin.ofNat 4 k) (Fin.cons (y 2) (Fin.cons (y 3) finZeroElim))))

theorem ld_kSl (X : Vec F S12x4x64x512 .bf16) (h : Fin 12) (k : ℕ) (off : Fin 4 → ℕ) (hoff : off = ![h.val, k, 0, 0]) (hk : k < 4)
    (inb : ∀ a, off a + S1x1x64x512.size a ≤ S12x4x64x512.size a) :
    View.ld (S := S12x4x64x512) (Val := Elt F) (e' := .bf16) X (Rect.unit off S1x1x64x512.size inb) = kSl X h k := by
  subst hoff
  funext y
  refine congrArg X (funext fun a => Fin.ext ?_)
  rw [Rect.idx_unit_val]
  have h0 : (y 0).val < 1 := (y 0).isLt
  have h1 : (y 1).val < 1 := (y 1).isLt
  fin_cases a
  · show h.val + (y 0).val = h.val; omega
  · show k + (y 1).val = k % 4; omega
  · show 0 + (y 2).val = (y 2).val; omega
  · show 0 + (y 3).val = (y 3).val; omega

theorem ld_vSl (X : Vec F S12x4x512x64 .bf16) (h : Fin 12) (k : ℕ) (off : Fin 4 → ℕ) (hoff : off = ![h.val, k, 0, 0]) (hk : k < 4)
    (inb : ∀ a, off a + S1x1x512x64.size a ≤ S12x4x512x64.size a) :
    View.ld (S := S12x4x512x64) (Val := Elt F) (e' := .bf16) X (Rect.unit off S1x1x512x64.size inb) = vSl X h k := by
  subst hoff
  funext y
  refine congrArg X (funext fun a => Fin.ext ?_)
  rw [Rect.idx_unit_val]
  have h0 : (y 0).val < 1 := (y 0).isLt
  have h1 : (y 1).val < 1 := (y 1).isLt
  fin_cases a
  · show h.val + (y 0).val = h.val; omega
  · show k + (y 1).val = k % 4; omega
  · show 0 + (y 2).val = (y 2).val; omega
  · show 0 + (y 3).val = (y 3).val; omega

/-- Two heads' states side by side, as a key loop carries them. -/
abbrev pair2 (x y : HSt F) : FVec F S512x1 .f32 × FVec F S512x1 .f32 × FVec F S512x64 .f32 × FVec F S512x1 .f32 × FVec F S512x1 .f32 × FVec F S512x64 .f32 :=
  (x.1, x.2.1, x.2.2, y.1, y.2.1, y.2.2)

/-- The block number a trip works on is below four. -/
theorem trips_lt {i : grid1.Coords} {n k : ℕ} (h : n ≤ 4) (hk : k < n) : k < 4 := lt_of_lt_of_le hk h

theorem off_1 : ∀ (i : grid1.Coords) (k : Fin (k1_t1_loop i).trips),
    k1_off25 i k = ![0, k.val, 0, 0] ∧ k1_off26 i k = ![0, k.val, 0, 0] ∧ k1_off27 i k = ![1, k.val, 0, 0] ∧ k1_off28 i k = ![1, k.val, 0, 0] := by
  decide +kernel

/-- One trip of heads 0 and 1's key loop. -/
theorem trip_1 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v35 : FVec F S512x768 .bf16) (v253 : IVec S512x512 32) (v254 : IVec S512x512 32) (v255 : FVec F S512x64 .bf16) (v256 : FVec F S512x64 .bf16) (v257 : FVec F S512x64 .bf16) (v258 : FVec F S512x64 .bf16) (X_arg16 : BufTy.Contents (Elt F) arg16.view.ty) (X_arg17 : BufTy.Contents (Elt F) arg17.view.ty) (k : Fin (k1_t1_loop i).trips) (x y : HSt F) :
    tripR_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v35 v253 v254 v255 v256 v257 v258 X_arg16 X_arg17 k (pair2 x y)
      = pair2 (hStep v253 v254 v255 k.val (kSl (arg16.view.read (Elt F) X_arg16) 0 k.val) (vSl (arg17.view.read (Elt F) X_arg17) 0 k.val) x)
          (hStep v253 v254 v256 k.val (kSl (arg16.view.read (Elt F) X_arg16) 1 k.val) (vSl (arg17.view.read (Elt F) X_arg17) 1 k.val) y) := by
  have hk4 : k.val < 4 := lt_of_lt_of_le k.isLt (k1_t1_abs i).2.1
  obtain ⟨o1, o2, o3, o4⟩ := off_1 i k
  rw [← ld_kSl (arg16.view.read (Elt F) X_arg16) 0 k.val _ o1 hk4 (k1_off25_inb i k),
    ← ld_vSl (arg17.view.read (Elt F) X_arg17) 0 k.val _ o2 hk4 (k1_off26_inb i k),
    ← ld_kSl (arg16.view.read (Elt F) X_arg16) 1 k.val _ o3 hk4 (k1_off27_inb i k),
    ← ld_vSl (arg17.view.read (Elt F) X_arg17) 1 k.val _ o4 hk4 (k1_off28_inb i k)]
  unfold tripR_k1_t1 trip_k1_t1
  rfl

/-- Heads 0 and 1's key loop before trip `n`: each head's own recursion. -/
theorem st_1 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v35 : FVec F S512x768 .bf16) (v253 : IVec S512x512 32) (v254 : IVec S512x512 32) (v255 : FVec F S512x64 .bf16) (v256 : FVec F S512x64 .bf16) (v257 : FVec F S512x64 .bf16) (v258 : FVec F S512x64 .bf16) (X_arg16 : BufTy.Contents (Elt F) arg16.view.ty) (X_arg17 : BufTy.Contents (Elt F) arg17.view.ty) (n : ℕ) (hn : n ≤ (k1_t1_loop i).trips) :
    st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v35 v253 v254 v255 v256 v257 v258 X_arg16 X_arg17 (k1_pay172, k1_pay173, k1_pay174, k1_pay172, k1_pay173, k1_pay174) n
      = pair2 (hState v253 v254 v255 (kSl (arg16.view.read (Elt F) X_arg16) 0) (vSl (arg17.view.read (Elt F) X_arg17) 0) n)
          (hState v253 v254 v256 (kSl (arg16.view.read (Elt F) X_arg16) 1) (vSl (arg17.view.read (Elt F) X_arg17) 1) n) := by
  induction n with
  | zero => rfl
  | succ n ih =>
    have hlt : n < (k1_t1_loop i).trips := hn
    refine (st_k1_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v35 v253 v254 v255 v256 v257 v258 X_arg16 X_arg17 _ ⟨n, hlt⟩).trans ?_
    rw [show ((⟨n, hlt⟩ : Fin (k1_t1_loop i).trips) : ℕ) = n from rfl, ih (Nat.le_of_lt hlt)]
    exact trip_1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v35 v253 v254 v255 v256 v257 v258 X_arg16 X_arg17 ⟨n, hlt⟩ _ _

theorem off_3 : ∀ (i : grid1.Coords) (k : Fin (k1_t3_loop i).trips),
    k1_off33 i k = ![2, k.val, 0, 0] ∧ k1_off34 i k = ![2, k.val, 0, 0] ∧ k1_off35 i k = ![3, k.val, 0, 0] ∧ k1_off36 i k = ![3, k.val, 0, 0] := by
  decide +kernel

/-- One trip of heads 2 and 3's key loop. -/
theorem trip_3 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v35 : FVec F S512x768 .bf16) (v253 : IVec S512x512 32) (v254 : IVec S512x512 32) (v255 : FVec F S512x64 .bf16) (v256 : FVec F S512x64 .bf16) (v257 : FVec F S512x64 .bf16) (v258 : FVec F S512x64 .bf16) (X_arg16 : BufTy.Contents (Elt F) arg16.view.ty) (X_arg17 : BufTy.Contents (Elt F) arg17.view.ty) (k : Fin (k1_t3_loop i).trips) (x y : HSt F) :
    tripR_k1_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v35 v253 v254 v255 v256 v257 v258 X_arg16 X_arg17 k (pair2 x y)
      = pair2 (hStep v253 v254 v257 k.val (kSl (arg16.view.read (Elt F) X_arg16) 2 k.val) (vSl (arg17.view.read (Elt F) X_arg17) 2 k.val) x)
          (hStep v253 v254 v258 k.val (kSl (arg16.view.read (Elt F) X_arg16) 3 k.val) (vSl (arg17.view.read (Elt F) X_arg17) 3 k.val) y) := by
  have hk4 : k.val < 4 := lt_of_lt_of_le k.isLt (k1_t3_abs i).2.1
  obtain ⟨o1, o2, o3, o4⟩ := off_3 i k
  rw [← ld_kSl (arg16.view.read (Elt F) X_arg16) 2 k.val _ o1 hk4 (k1_off33_inb i k),
    ← ld_vSl (arg17.view.read (Elt F) X_arg17) 2 k.val _ o2 hk4 (k1_off34_inb i k),
    ← ld_kSl (arg16.view.read (Elt F) X_arg16) 3 k.val _ o3 hk4 (k1_off35_inb i k),
    ← ld_vSl (arg17.view.read (Elt F) X_arg17) 3 k.val _ o4 hk4 (k1_off36_inb i k)]
  unfold tripR_k1_t3 trip_k1_t3
  rfl

/-- Heads 2 and 3's key loop before trip `n`: each head's own recursion. -/
theorem st_3 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v35 : FVec F S512x768 .bf16) (v253 : IVec S512x512 32) (v254 : IVec S512x512 32) (v255 : FVec F S512x64 .bf16) (v256 : FVec F S512x64 .bf16) (v257 : FVec F S512x64 .bf16) (v258 : FVec F S512x64 .bf16) (X_arg16 : BufTy.Contents (Elt F) arg16.view.ty) (X_arg17 : BufTy.Contents (Elt F) arg17.view.ty) (n : ℕ) (hn : n ≤ (k1_t3_loop i).trips) :
    st_k1_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v35 v253 v254 v255 v256 v257 v258 X_arg16 X_arg17 (k1_pay172, k1_pay173, k1_pay174, k1_pay172, k1_pay173, k1_pay174) n
      = pair2 (hState v253 v254 v257 (kSl (arg16.view.read (Elt F) X_arg16) 2) (vSl (arg17.view.read (Elt F) X_arg17) 2) n)
          (hState v253 v254 v258 (kSl (arg16.view.read (Elt F) X_arg16) 3) (vSl (arg17.view.read (Elt F) X_arg17) 3) n) := by
  induction n with
  | zero => rfl
  | succ n ih =>
    have hlt : n < (k1_t3_loop i).trips := hn
    refine (st_k1_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v35 v253 v254 v255 v256 v257 v258 X_arg16 X_arg17 _ ⟨n, hlt⟩).trans ?_
    rw [show ((⟨n, hlt⟩ : Fin (k1_t3_loop i).trips) : ℕ) = n from rfl, ih (Nat.le_of_lt hlt)]
    exact trip_3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v35 v253 v254 v255 v256 v257 v258 X_arg16 X_arg17 ⟨n, hlt⟩ _ _

theorem off_5 : ∀ (i : grid1.Coords) (k : Fin (k1_t5_loop i).trips),
    k1_off41 i k = ![4, k.val, 0, 0] ∧ k1_off42 i k = ![4, k.val, 0, 0] ∧ k1_off43 i k = ![5, k.val, 0, 0] ∧ k1_off44 i k = ![5, k.val, 0, 0] := by
  decide +kernel

/-- One trip of heads 4 and 5's key loop. -/
theorem trip_5 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v253 : IVec S512x512 32) (v254 : IVec S512x512 32) (v259 : FVec F S512x64 .bf16) (v260 : FVec F S512x64 .bf16) (v261 : FVec F S512x64 .bf16) (v262 : FVec F S512x64 .bf16) (v263 : FVec F S512x64 .bf16) (v264 : FVec F S512x64 .bf16) (v265 : FVec F S512x64 .bf16) (v266 : FVec F S512x64 .bf16) (v267 : FVec F S512x1 .f32) (v268 : FVec F S512x1 .f32) (v269 : FVec F S512x64 .f32) (v303 : BitVec 32) (X_arg16 : BufTy.Contents (Elt F) arg16.view.ty) (X_arg17 : BufTy.Contents (Elt F) arg17.view.ty) (k : Fin (k1_t5_loop i).trips) (x y : HSt F) :
    tripR_k1_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 (0#32) v303 (1#32) X_arg16 X_arg17 k (pair2 x y)
      = pair2 (hStep v253 v254 v259 k.val (kSl (arg16.view.read (Elt F) X_arg16) 4 k.val) (vSl (arg17.view.read (Elt F) X_arg17) 4 k.val) x)
          (hStep v253 v254 v260 k.val (kSl (arg16.view.read (Elt F) X_arg16) 5 k.val) (vSl (arg17.view.read (Elt F) X_arg17) 5 k.val) y) := by
  have hk4 : k.val < 4 := lt_of_lt_of_le k.isLt (k1_t5_abs i).2.1
  obtain ⟨o1, o2, o3, o4⟩ := off_5 i k
  rw [← ld_kSl (arg16.view.read (Elt F) X_arg16) 4 k.val _ o1 hk4 (k1_off41_inb i k),
    ← ld_vSl (arg17.view.read (Elt F) X_arg17) 4 k.val _ o2 hk4 (k1_off42_inb i k),
    ← ld_kSl (arg16.view.read (Elt F) X_arg16) 5 k.val _ o3 hk4 (k1_off43_inb i k),
    ← ld_vSl (arg17.view.read (Elt F) X_arg17) 5 k.val _ o4 hk4 (k1_off44_inb i k)]
  unfold tripR_k1_t5 trip_k1_t5
  rfl

/-- Heads 4 and 5's key loop before trip `n`: each head's own recursion. -/
theorem st_5 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v253 : IVec S512x512 32) (v254 : IVec S512x512 32) (v259 : FVec F S512x64 .bf16) (v260 : FVec F S512x64 .bf16) (v261 : FVec F S512x64 .bf16) (v262 : FVec F S512x64 .bf16) (v263 : FVec F S512x64 .bf16) (v264 : FVec F S512x64 .bf16) (v265 : FVec F S512x64 .bf16) (v266 : FVec F S512x64 .bf16) (v267 : FVec F S512x1 .f32) (v268 : FVec F S512x1 .f32) (v269 : FVec F S512x64 .f32) (v303 : BitVec 32) (X_arg16 : BufTy.Contents (Elt F) arg16.view.ty) (X_arg17 : BufTy.Contents (Elt F) arg17.view.ty) (n : ℕ) (hn : n ≤ (k1_t5_loop i).trips) :
    st_k1_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 (0#32) v303 (1#32) X_arg16 X_arg17 (k1_pay172, k1_pay173, k1_pay174, k1_pay172, k1_pay173, k1_pay174) n
      = pair2 (hState v253 v254 v259 (kSl (arg16.view.read (Elt F) X_arg16) 4) (vSl (arg17.view.read (Elt F) X_arg17) 4) n)
          (hState v253 v254 v260 (kSl (arg16.view.read (Elt F) X_arg16) 5) (vSl (arg17.view.read (Elt F) X_arg17) 5) n) := by
  induction n with
  | zero => rfl
  | succ n ih =>
    have hlt : n < (k1_t5_loop i).trips := hn
    refine (st_k1_t5_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 (0#32) v303 (1#32) X_arg16 X_arg17 _ ⟨n, hlt⟩).trans ?_
    rw [show ((⟨n, hlt⟩ : Fin (k1_t5_loop i).trips) : ℕ) = n from rfl, ih (Nat.le_of_lt hlt)]
    exact trip_5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 v303 X_arg16 X_arg17 ⟨n, hlt⟩ _ _

theorem off_7 : ∀ (i : grid1.Coords) (k : Fin (k1_t7_loop i).trips),
    k1_off49 i k = ![6, k.val, 0, 0] ∧ k1_off50 i k = ![6, k.val, 0, 0] ∧ k1_off51 i k = ![7, k.val, 0, 0] ∧ k1_off52 i k = ![7, k.val, 0, 0] := by
  decide +kernel

/-- One trip of heads 6 and 7's key loop. -/
theorem trip_7 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v253 : IVec S512x512 32) (v254 : IVec S512x512 32) (v259 : FVec F S512x64 .bf16) (v260 : FVec F S512x64 .bf16) (v261 : FVec F S512x64 .bf16) (v262 : FVec F S512x64 .bf16) (v263 : FVec F S512x64 .bf16) (v264 : FVec F S512x64 .bf16) (v265 : FVec F S512x64 .bf16) (v266 : FVec F S512x64 .bf16) (v267 : FVec F S512x1 .f32) (v268 : FVec F S512x1 .f32) (v269 : FVec F S512x64 .f32) (v303 : BitVec 32) (X_arg16 : BufTy.Contents (Elt F) arg16.view.ty) (X_arg17 : BufTy.Contents (Elt F) arg17.view.ty) (k : Fin (k1_t7_loop i).trips) (x y : HSt F) :
    tripR_k1_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 (0#32) v303 (1#32) X_arg16 X_arg17 k (pair2 x y)
      = pair2 (hStep v253 v254 v261 k.val (kSl (arg16.view.read (Elt F) X_arg16) 6 k.val) (vSl (arg17.view.read (Elt F) X_arg17) 6 k.val) x)
          (hStep v253 v254 v262 k.val (kSl (arg16.view.read (Elt F) X_arg16) 7 k.val) (vSl (arg17.view.read (Elt F) X_arg17) 7 k.val) y) := by
  have hk4 : k.val < 4 := lt_of_lt_of_le k.isLt (k1_t7_abs i).2.1
  obtain ⟨o1, o2, o3, o4⟩ := off_7 i k
  rw [← ld_kSl (arg16.view.read (Elt F) X_arg16) 6 k.val _ o1 hk4 (k1_off49_inb i k),
    ← ld_vSl (arg17.view.read (Elt F) X_arg17) 6 k.val _ o2 hk4 (k1_off50_inb i k),
    ← ld_kSl (arg16.view.read (Elt F) X_arg16) 7 k.val _ o3 hk4 (k1_off51_inb i k),
    ← ld_vSl (arg17.view.read (Elt F) X_arg17) 7 k.val _ o4 hk4 (k1_off52_inb i k)]
  unfold tripR_k1_t7 trip_k1_t7
  rfl

/-- Heads 6 and 7's key loop before trip `n`: each head's own recursion. -/
theorem st_7 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v253 : IVec S512x512 32) (v254 : IVec S512x512 32) (v259 : FVec F S512x64 .bf16) (v260 : FVec F S512x64 .bf16) (v261 : FVec F S512x64 .bf16) (v262 : FVec F S512x64 .bf16) (v263 : FVec F S512x64 .bf16) (v264 : FVec F S512x64 .bf16) (v265 : FVec F S512x64 .bf16) (v266 : FVec F S512x64 .bf16) (v267 : FVec F S512x1 .f32) (v268 : FVec F S512x1 .f32) (v269 : FVec F S512x64 .f32) (v303 : BitVec 32) (X_arg16 : BufTy.Contents (Elt F) arg16.view.ty) (X_arg17 : BufTy.Contents (Elt F) arg17.view.ty) (n : ℕ) (hn : n ≤ (k1_t7_loop i).trips) :
    st_k1_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 (0#32) v303 (1#32) X_arg16 X_arg17 (k1_pay172, k1_pay173, k1_pay174, k1_pay172, k1_pay173, k1_pay174) n
      = pair2 (hState v253 v254 v261 (kSl (arg16.view.read (Elt F) X_arg16) 6) (vSl (arg17.view.read (Elt F) X_arg17) 6) n)
          (hState v253 v254 v262 (kSl (arg16.view.read (Elt F) X_arg16) 7) (vSl (arg17.view.read (Elt F) X_arg17) 7) n) := by
  induction n with
  | zero => rfl
  | succ n ih =>
    have hlt : n < (k1_t7_loop i).trips := hn
    refine (st_k1_t7_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 (0#32) v303 (1#32) X_arg16 X_arg17 _ ⟨n, hlt⟩).trans ?_
    rw [show ((⟨n, hlt⟩ : Fin (k1_t7_loop i).trips) : ℕ) = n from rfl, ih (Nat.le_of_lt hlt)]
    exact trip_7 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 v303 X_arg16 X_arg17 ⟨n, hlt⟩ _ _

theorem off_9 : ∀ (i : grid1.Coords) (k : Fin (k1_t9_loop i).trips),
    k1_off57 i k = ![8, k.val, 0, 0] ∧ k1_off58 i k = ![8, k.val, 0, 0] ∧ k1_off59 i k = ![9, k.val, 0, 0] ∧ k1_off60 i k = ![9, k.val, 0, 0] := by
  decide +kernel

/-- One trip of heads 8 and 9's key loop. -/
theorem trip_9 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v253 : IVec S512x512 32) (v254 : IVec S512x512 32) (v259 : FVec F S512x64 .bf16) (v260 : FVec F S512x64 .bf16) (v261 : FVec F S512x64 .bf16) (v262 : FVec F S512x64 .bf16) (v263 : FVec F S512x64 .bf16) (v264 : FVec F S512x64 .bf16) (v265 : FVec F S512x64 .bf16) (v266 : FVec F S512x64 .bf16) (v267 : FVec F S512x1 .f32) (v268 : FVec F S512x1 .f32) (v269 : FVec F S512x64 .f32) (v303 : BitVec 32) (X_arg16 : BufTy.Contents (Elt F) arg16.view.ty) (X_arg17 : BufTy.Contents (Elt F) arg17.view.ty) (k : Fin (k1_t9_loop i).trips) (x y : HSt F) :
    tripR_k1_t9 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 (0#32) v303 (1#32) X_arg16 X_arg17 k (pair2 x y)
      = pair2 (hStep v253 v254 v263 k.val (kSl (arg16.view.read (Elt F) X_arg16) 8 k.val) (vSl (arg17.view.read (Elt F) X_arg17) 8 k.val) x)
          (hStep v253 v254 v264 k.val (kSl (arg16.view.read (Elt F) X_arg16) 9 k.val) (vSl (arg17.view.read (Elt F) X_arg17) 9 k.val) y) := by
  have hk4 : k.val < 4 := lt_of_lt_of_le k.isLt (k1_t9_abs i).2.1
  obtain ⟨o1, o2, o3, o4⟩ := off_9 i k
  rw [← ld_kSl (arg16.view.read (Elt F) X_arg16) 8 k.val _ o1 hk4 (k1_off57_inb i k),
    ← ld_vSl (arg17.view.read (Elt F) X_arg17) 8 k.val _ o2 hk4 (k1_off58_inb i k),
    ← ld_kSl (arg16.view.read (Elt F) X_arg16) 9 k.val _ o3 hk4 (k1_off59_inb i k),
    ← ld_vSl (arg17.view.read (Elt F) X_arg17) 9 k.val _ o4 hk4 (k1_off60_inb i k)]
  unfold tripR_k1_t9 trip_k1_t9
  rfl

/-- Heads 8 and 9's key loop before trip `n`: each head's own recursion. -/
theorem st_9 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v253 : IVec S512x512 32) (v254 : IVec S512x512 32) (v259 : FVec F S512x64 .bf16) (v260 : FVec F S512x64 .bf16) (v261 : FVec F S512x64 .bf16) (v262 : FVec F S512x64 .bf16) (v263 : FVec F S512x64 .bf16) (v264 : FVec F S512x64 .bf16) (v265 : FVec F S512x64 .bf16) (v266 : FVec F S512x64 .bf16) (v267 : FVec F S512x1 .f32) (v268 : FVec F S512x1 .f32) (v269 : FVec F S512x64 .f32) (v303 : BitVec 32) (X_arg16 : BufTy.Contents (Elt F) arg16.view.ty) (X_arg17 : BufTy.Contents (Elt F) arg17.view.ty) (n : ℕ) (hn : n ≤ (k1_t9_loop i).trips) :
    st_k1_t9 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 (0#32) v303 (1#32) X_arg16 X_arg17 (k1_pay172, k1_pay173, k1_pay174, k1_pay172, k1_pay173, k1_pay174) n
      = pair2 (hState v253 v254 v263 (kSl (arg16.view.read (Elt F) X_arg16) 8) (vSl (arg17.view.read (Elt F) X_arg17) 8) n)
          (hState v253 v254 v264 (kSl (arg16.view.read (Elt F) X_arg16) 9) (vSl (arg17.view.read (Elt F) X_arg17) 9) n) := by
  induction n with
  | zero => rfl
  | succ n ih =>
    have hlt : n < (k1_t9_loop i).trips := hn
    refine (st_k1_t9_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 (0#32) v303 (1#32) X_arg16 X_arg17 _ ⟨n, hlt⟩).trans ?_
    rw [show ((⟨n, hlt⟩ : Fin (k1_t9_loop i).trips) : ℕ) = n from rfl, ih (Nat.le_of_lt hlt)]
    exact trip_9 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 v303 X_arg16 X_arg17 ⟨n, hlt⟩ _ _

theorem off_11 : ∀ (i : grid1.Coords) (k : Fin (k1_t11_loop i).trips),
    k1_off65 i k = ![10, k.val, 0, 0] ∧ k1_off66 i k = ![10, k.val, 0, 0] ∧ k1_off67 i k = ![11, k.val, 0, 0] ∧ k1_off68 i k = ![11, k.val, 0, 0] := by
  decide +kernel

/-- One trip of heads 10 and 11's key loop. -/
theorem trip_11 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v253 : IVec S512x512 32) (v254 : IVec S512x512 32) (v259 : FVec F S512x64 .bf16) (v260 : FVec F S512x64 .bf16) (v261 : FVec F S512x64 .bf16) (v262 : FVec F S512x64 .bf16) (v263 : FVec F S512x64 .bf16) (v264 : FVec F S512x64 .bf16) (v265 : FVec F S512x64 .bf16) (v266 : FVec F S512x64 .bf16) (v267 : FVec F S512x1 .f32) (v268 : FVec F S512x1 .f32) (v269 : FVec F S512x64 .f32) (v303 : BitVec 32) (X_arg16 : BufTy.Contents (Elt F) arg16.view.ty) (X_arg17 : BufTy.Contents (Elt F) arg17.view.ty) (k : Fin (k1_t11_loop i).trips) (x y : HSt F) :
    tripR_k1_t11 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 (0#32) v303 (1#32) X_arg16 X_arg17 k (pair2 x y)
      = pair2 (hStep v253 v254 v265 k.val (kSl (arg16.view.read (Elt F) X_arg16) 10 k.val) (vSl (arg17.view.read (Elt F) X_arg17) 10 k.val) x)
          (hStep v253 v254 v266 k.val (kSl (arg16.view.read (Elt F) X_arg16) 11 k.val) (vSl (arg17.view.read (Elt F) X_arg17) 11 k.val) y) := by
  have hk4 : k.val < 4 := lt_of_lt_of_le k.isLt (k1_t11_abs i).2.1
  obtain ⟨o1, o2, o3, o4⟩ := off_11 i k
  rw [← ld_kSl (arg16.view.read (Elt F) X_arg16) 10 k.val _ o1 hk4 (k1_off65_inb i k),
    ← ld_vSl (arg17.view.read (Elt F) X_arg17) 10 k.val _ o2 hk4 (k1_off66_inb i k),
    ← ld_kSl (arg16.view.read (Elt F) X_arg16) 11 k.val _ o3 hk4 (k1_off67_inb i k),
    ← ld_vSl (arg17.view.read (Elt F) X_arg17) 11 k.val _ o4 hk4 (k1_off68_inb i k)]
  unfold tripR_k1_t11 trip_k1_t11
  rfl

/-- Heads 10 and 11's key loop before trip `n`: each head's own recursion. -/
theorem st_11 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v253 : IVec S512x512 32) (v254 : IVec S512x512 32) (v259 : FVec F S512x64 .bf16) (v260 : FVec F S512x64 .bf16) (v261 : FVec F S512x64 .bf16) (v262 : FVec F S512x64 .bf16) (v263 : FVec F S512x64 .bf16) (v264 : FVec F S512x64 .bf16) (v265 : FVec F S512x64 .bf16) (v266 : FVec F S512x64 .bf16) (v267 : FVec F S512x1 .f32) (v268 : FVec F S512x1 .f32) (v269 : FVec F S512x64 .f32) (v303 : BitVec 32) (X_arg16 : BufTy.Contents (Elt F) arg16.view.ty) (X_arg17 : BufTy.Contents (Elt F) arg17.view.ty) (n : ℕ) (hn : n ≤ (k1_t11_loop i).trips) :
    st_k1_t11 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 (0#32) v303 (1#32) X_arg16 X_arg17 (k1_pay172, k1_pay173, k1_pay174, k1_pay172, k1_pay173, k1_pay174) n
      = pair2 (hState v253 v254 v265 (kSl (arg16.view.read (Elt F) X_arg16) 10) (vSl (arg17.view.read (Elt F) X_arg17) 10) n)
          (hState v253 v254 v266 (kSl (arg16.view.read (Elt F) X_arg16) 11) (vSl (arg17.view.read (Elt F) X_arg17) 11) n) := by
  induction n with
  | zero => rfl
  | succ n ih =>
    have hlt : n < (k1_t11_loop i).trips := hn
    refine (st_k1_t11_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 (0#32) v303 (1#32) X_arg16 X_arg17 _ ⟨n, hlt⟩).trans ?_
    rw [show ((⟨n, hlt⟩ : Fin (k1_t11_loop i).trips) : ℕ) = n from rfl, ih (Nat.le_of_lt hlt)]
    exact trip_11 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 v303 X_arg16 X_arg17 ⟨n, hlt⟩ _ _

/-- The remainder loop after heads 0 and 1's key loop makes no trip. -/
theorem st_2 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v35 : FVec F S512x768 .bf16) (v253 : IVec S512x512 32) (v254 : IVec S512x512 32) (v255 : FVec F S512x64 .bf16) (v256 : FVec F S512x64 .bf16) (v257 : FVec F S512x64 .bf16) (v258 : FVec F S512x64 .bf16) (v275 : BitVec 32) (X_arg16 : BufTy.Contents (Elt F) arg16.view.ty) (X_arg17 : BufTy.Contents (Elt F) arg17.view.ty) (init : FVec F S512x1 .f32 × FVec F S512x1 .f32 × FVec F S512x64 .f32 × FVec F S512x1 .f32 × FVec F S512x1 .f32 × FVec F S512x64 .f32) :
    st_k1_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v35 v253 v254 v255 v256 v257 v258 v275 X_arg16 X_arg17 init (k1_t2_loop i).trips = init := by
  rw [Nat.le_zero.mp (k1_t2_abs i).2.1]; rfl

/-- The remainder loop after heads 2 and 3's key loop makes no trip. -/
theorem st_4 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v35 : FVec F S512x768 .bf16) (v253 : IVec S512x512 32) (v254 : IVec S512x512 32) (v255 : FVec F S512x64 .bf16) (v256 : FVec F S512x64 .bf16) (v257 : FVec F S512x64 .bf16) (v258 : FVec F S512x64 .bf16) (v289 : BitVec 32) (X_arg16 : BufTy.Contents (Elt F) arg16.view.ty) (X_arg17 : BufTy.Contents (Elt F) arg17.view.ty) (init : FVec F S512x1 .f32 × FVec F S512x1 .f32 × FVec F S512x64 .f32 × FVec F S512x1 .f32 × FVec F S512x1 .f32 × FVec F S512x64 .f32) :
    st_k1_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v35 v253 v254 v255 v256 v257 v258 v289 X_arg16 X_arg17 init (k1_t4_loop i).trips = init := by
  rw [Nat.le_zero.mp (k1_t4_abs i).2.1]; rfl

/-- The remainder loop after heads 4 and 5's key loop makes no trip. -/
theorem st_6 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v253 : IVec S512x512 32) (v254 : IVec S512x512 32) (v259 : FVec F S512x64 .bf16) (v260 : FVec F S512x64 .bf16) (v261 : FVec F S512x64 .bf16) (v262 : FVec F S512x64 .bf16) (v263 : FVec F S512x64 .bf16) (v264 : FVec F S512x64 .bf16) (v265 : FVec F S512x64 .bf16) (v266 : FVec F S512x64 .bf16) (v267 : FVec F S512x1 .f32) (v268 : FVec F S512x1 .f32) (v269 : FVec F S512x64 .f32) (c0_i32_131 : BitVec 32) (v303 : BitVec 32) (c1_i32_133 : BitVec 32) (X_arg16 : BufTy.Contents (Elt F) arg16.view.ty) (X_arg17 : BufTy.Contents (Elt F) arg17.view.ty) (init : FVec F S512x1 .f32 × FVec F S512x1 .f32 × FVec F S512x64 .f32 × FVec F S512x1 .f32 × FVec F S512x1 .f32 × FVec F S512x64 .f32) :
    st_k1_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 c0_i32_131 v303 c1_i32_133 X_arg16 X_arg17 init (k1_t6_loop i).trips = init := by
  rw [Nat.le_zero.mp (k1_t6_abs i).2.1]; rfl

/-- The remainder loop after heads 6 and 7's key loop makes no trip. -/
theorem st_8 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v253 : IVec S512x512 32) (v254 : IVec S512x512 32) (v259 : FVec F S512x64 .bf16) (v260 : FVec F S512x64 .bf16) (v261 : FVec F S512x64 .bf16) (v262 : FVec F S512x64 .bf16) (v263 : FVec F S512x64 .bf16) (v264 : FVec F S512x64 .bf16) (v265 : FVec F S512x64 .bf16) (v266 : FVec F S512x64 .bf16) (v267 : FVec F S512x1 .f32) (v268 : FVec F S512x1 .f32) (v269 : FVec F S512x64 .f32) (c0_i32_131 : BitVec 32) (v303 : BitVec 32) (c1_i32_133 : BitVec 32) (v317 : BitVec 32) (X_arg16 : BufTy.Contents (Elt F) arg16.view.ty) (X_arg17 : BufTy.Contents (Elt F) arg17.view.ty) (init : FVec F S512x1 .f32 × FVec F S512x1 .f32 × FVec F S512x64 .f32 × FVec F S512x1 .f32 × FVec F S512x1 .f32 × FVec F S512x64 .f32) :
    st_k1_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 c0_i32_131 v303 c1_i32_133 v317 X_arg16 X_arg17 init (k1_t8_loop i).trips = init := by
  rw [Nat.le_zero.mp (k1_t8_abs i).2.1]; rfl

/-- The remainder loop after heads 8 and 9's key loop makes no trip. -/
theorem st_10 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v253 : IVec S512x512 32) (v254 : IVec S512x512 32) (v259 : FVec F S512x64 .bf16) (v260 : FVec F S512x64 .bf16) (v261 : FVec F S512x64 .bf16) (v262 : FVec F S512x64 .bf16) (v263 : FVec F S512x64 .bf16) (v264 : FVec F S512x64 .bf16) (v265 : FVec F S512x64 .bf16) (v266 : FVec F S512x64 .bf16) (v267 : FVec F S512x1 .f32) (v268 : FVec F S512x1 .f32) (v269 : FVec F S512x64 .f32) (c0_i32_131 : BitVec 32) (v303 : BitVec 32) (c1_i32_133 : BitVec 32) (v331 : BitVec 32) (X_arg16 : BufTy.Contents (Elt F) arg16.view.ty) (X_arg17 : BufTy.Contents (Elt F) arg17.view.ty) (init : FVec F S512x1 .f32 × FVec F S512x1 .f32 × FVec F S512x64 .f32 × FVec F S512x1 .f32 × FVec F S512x1 .f32 × FVec F S512x64 .f32) :
    st_k1_t10 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 c0_i32_131 v303 c1_i32_133 v331 X_arg16 X_arg17 init (k1_t10_loop i).trips = init := by
  rw [Nat.le_zero.mp (k1_t10_abs i).2.1]; rfl

/-- The remainder loop after heads 10 and 11's key loop makes no trip. -/
theorem st_12 (𝒱 : Variants) (c : Dev nD) (bd : Option 𝒱.V) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole) (arg0 : BitVec 32) (v253 : IVec S512x512 32) (v254 : IVec S512x512 32) (v259 : FVec F S512x64 .bf16) (v260 : FVec F S512x64 .bf16) (v261 : FVec F S512x64 .bf16) (v262 : FVec F S512x64 .bf16) (v263 : FVec F S512x64 .bf16) (v264 : FVec F S512x64 .bf16) (v265 : FVec F S512x64 .bf16) (v266 : FVec F S512x64 .bf16) (v267 : FVec F S512x1 .f32) (v268 : FVec F S512x1 .f32) (v269 : FVec F S512x64 .f32) (c0_i32_131 : BitVec 32) (v303 : BitVec 32) (c1_i32_133 : BitVec 32) (v345 : BitVec 32) (X_arg16 : BufTy.Contents (Elt F) arg16.view.ty) (X_arg17 : BufTy.Contents (Elt F) arg17.view.ty) (init : FVec F S512x1 .f32 × FVec F S512x1 .f32 × FVec F S512x64 .f32 × FVec F S512x1 .f32 × FVec F S512x1 .f32 × FVec F S512x64 .f32) :
    st_k1_t12 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v253 v254 v259 v260 v261 v262 v263 v264 v265 v266 v267 v268 v269 c0_i32_131 v303 c1_i32_133 v345 X_arg16 X_arg17 init (k1_t12_loop i).trips = init := by
  rw [Nat.le_zero.mp (k1_t12_abs i).2.1]; rfl

/-- Heads 0 and 1's key loop runs over the blocks up to the query block. -/
theorem trips_1 : ∀ i : grid1.Coords, (k1_t1_loop i).trips = (i 0).val + 1 := by decide +kernel

/-- Heads 2 and 3's key loop runs over the blocks up to the query block. -/
theorem trips_3 : ∀ i : grid1.Coords, (k1_t3_loop i).trips = (i 0).val + 1 := by decide +kernel

/-- Heads 4 and 5's key loop runs over the blocks up to the query block. -/
theorem trips_5 : ∀ i : grid1.Coords, (k1_t5_loop i).trips = (i 0).val + 1 := by decide +kernel

/-- Heads 6 and 7's key loop runs over the blocks up to the query block. -/
theorem trips_7 : ∀ i : grid1.Coords, (k1_t7_loop i).trips = (i 0).val + 1 := by decide +kernel

/-- Heads 8 and 9's key loop runs over the blocks up to the query block. -/
theorem trips_9 : ∀ i : grid1.Coords, (k1_t9_loop i).trips = (i 0).val + 1 := by decide +kernel

/-- Heads 10 and 11's key loop runs over the blocks up to the query block. -/
theorem trips_11 : ∀ i : grid1.Coords, (k1_t11_loop i).trips = (i 0).val + 1 := by decide +kernel

end Cert.KernelIdeal.Hand

end
-- ==== Proof.KernelIdeal.Carried.lean ====
/- The two carried buffers after the main body has written its own block: the new keys and values there, what was held elsewhere. -/
module

public import proofs.«01_k».proof.Proof.KernelIdeal.Heads

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Column `d` of head `h` is a column of the 768 of all heads. -/
theorem hd_lt (h : Fin 12) (d : Fin 64) : h.val * 64 + d.val < 768 := by omega

/-- The transposed keys of one query block, laid out as the carried key buffer holds them. -/
def kNew (kT : FVec F S768x512 .bf16) : Vec F S12x4x64x512 .bf16 :=
  fun y => kT (Fin.cons ⟨(y 0).val * 64 + (y 2).val, hd_lt (y 0) (y 2)⟩ (Fin.cons (y 3) finZeroElim))

/-- The values of one query block, laid out as the carried value buffer holds them. -/
def vNew (v : FVec F S512x768 .bf16) : Vec F S12x4x512x64 .bf16 :=
  fun y => v (Fin.cons (y 2) (Fin.cons ⟨(y 0).val * 64 + (y 3).val, hd_lt (y 0) (y 3)⟩ finZeroElim))

/-- The carried key buffer after the body at point `b` has stored its keys. -/
def carK (b : ℕ) (kT : FVec F S768x512 .bf16) (X : Vec F S12x4x64x512 .bf16) : Vec F S12x4x64x512 .bf16 :=
  fun y => if (y 1).val = b then kNew kT y else X y

/-- The carried value buffer after the body at point `b` has stored its values. -/
def carV (b : ℕ) (v : FVec F S512x768 .bf16) (X : Vec F S12x4x512x64 .bf16) : Vec F S12x4x512x64 .bf16 :=
  fun y => if (y 1).val = b then vNew v y else X y

theorem offs_k : ∀ i : grid1.Coords, k1_off1 i = ![0, (i 0).val, 0, 0] ∧ k1_off2 i = ![1, (i 0).val, 0, 0] ∧ k1_off3 i = ![2, (i 0).val, 0, 0] ∧ k1_off4 i = ![3, (i 0).val, 0, 0] ∧ k1_off5 i = ![4, (i 0).val, 0, 0] ∧ k1_off6 i = ![5, (i 0).val, 0, 0] ∧ k1_off7 i = ![6, (i 0).val, 0, 0] ∧ k1_off8 i = ![7, (i 0).val, 0, 0] ∧ k1_off9 i = ![8, (i 0).val, 0, 0] ∧ k1_off10 i = ![9, (i 0).val, 0, 0] ∧ k1_off11 i = ![10, (i 0).val, 0, 0] ∧ k1_off12 i = ![11, (i 0).val, 0, 0] := by
  decide +kernel

theorem offs_v : ∀ i : grid1.Coords, k1_off13 i = ![0, (i 0).val, 0, 0] ∧ k1_off14 i = ![1, (i 0).val, 0, 0] ∧ k1_off15 i = ![2, (i 0).val, 0, 0] ∧ k1_off16 i = ![3, (i 0).val, 0, 0] ∧ k1_off17 i = ![4, (i 0).val, 0, 0] ∧ k1_off18 i = ![5, (i 0).val, 0, 0] ∧ k1_off19 i = ![6, (i 0).val, 0, 0] ∧ k1_off20 i = ![7, (i 0).val, 0, 0] ∧ k1_off21 i = ![8, (i 0).val, 0, 0] ∧ k1_off22 i = ![9, (i 0).val, 0, 0] ∧ k1_off23 i = ![10, (i 0).val, 0, 0] ∧ k1_off24 i = ![11, (i 0).val, 0, 0] := by
  decide +kernel

/-- The key pieces the body stores at a point, last first. -/
def kList (i : grid1.Coords) (kT : FVec F S768x512 .bf16) : List (View.Piece (Elt F) S12x4x64x512 .bf16) :=
  [⟨Rect.unit (k1_off12 i) S1x1x64x512.size (k1_off12_inb i), shapeCast S1x1x64x512 (extractStridedSlice S64x512 ![704, 0] kT slices_S768x512_o704_0_S64x512) shapeCasts_S64x512_S1x1x64x512⟩,
   ⟨Rect.unit (k1_off11 i) S1x1x64x512.size (k1_off11_inb i), shapeCast S1x1x64x512 (extractStridedSlice S64x512 ![640, 0] kT slices_S768x512_o640_0_S64x512) shapeCasts_S64x512_S1x1x64x512⟩,
   ⟨Rect.unit (k1_off10 i) S1x1x64x512.size (k1_off10_inb i), shapeCast S1x1x64x512 (extractStridedSlice S64x512 ![576, 0] kT slices_S768x512_o576_0_S64x512) shapeCasts_S64x512_S1x1x64x512⟩,
   ⟨Rect.unit (k1_off9 i) S1x1x64x512.size (k1_off9_inb i), shapeCast S1x1x64x512 (extractStridedSlice S64x512 ![512, 0] kT slices_S768x512_o512_0_S64x512) shapeCasts_S64x512_S1x1x64x512⟩,
   ⟨Rect.unit (k1_off8 i) S1x1x64x512.size (k1_off8_inb i), shapeCast S1x1x64x512 (extractStridedSlice S64x512 ![448, 0] kT slices_S768x512_o448_0_S64x512) shapeCasts_S64x512_S1x1x64x512⟩,
   ⟨Rect.unit (k1_off7 i) S1x1x64x512.size (k1_off7_inb i), shapeCast S1x1x64x512 (extractStridedSlice S64x512 ![384, 0] kT slices_S768x512_o384_0_S64x512) shapeCasts_S64x512_S1x1x64x512⟩,
   ⟨Rect.unit (k1_off6 i) S1x1x64x512.size (k1_off6_inb i), shapeCast S1x1x64x512 (extractStridedSlice S64x512 ![320, 0] kT slices_S768x512_o320_0_S64x512) shapeCasts_S64x512_S1x1x64x512⟩,
   ⟨Rect.unit (k1_off5 i) S1x1x64x512.size (k1_off5_inb i), shapeCast S1x1x64x512 (extractStridedSlice S64x512 ![256, 0] kT slices_S768x512_o256_0_S64x512) shapeCasts_S64x512_S1x1x64x512⟩,
   ⟨Rect.unit (k1_off4 i) S1x1x64x512.size (k1_off4_inb i), shapeCast S1x1x64x512 (extractStridedSlice S64x512 ![192, 0] kT slices_S768x512_o192_0_S64x512) shapeCasts_S64x512_S1x1x64x512⟩,
   ⟨Rect.unit (k1_off3 i) S1x1x64x512.size (k1_off3_inb i), shapeCast S1x1x64x512 (extractStridedSlice S64x512 ![128, 0] kT slices_S768x512_o128_0_S64x512) shapeCasts_S64x512_S1x1x64x512⟩,
   ⟨Rect.unit (k1_off2 i) S1x1x64x512.size (k1_off2_inb i), shapeCast S1x1x64x512 (extractStridedSlice S64x512 ![64, 0] kT slices_S768x512_o64_0_S64x512) shapeCasts_S64x512_S1x1x64x512⟩,
   ⟨Rect.unit (k1_off1 i) S1x1x64x512.size (k1_off1_inb i), shapeCast S1x1x64x512 (extractStridedSlice S64x512 ![0, 0] kT slices_S768x512_o0_0_S64x512) shapeCasts_S64x512_S1x1x64x512⟩]

/-- The value pieces the body stores at a point, last first. -/
def vList (i : grid1.Coords) (v : FVec F S512x768 .bf16) : List (View.Piece (Elt F) S12x4x512x64 .bf16) :=
  [⟨Rect.unit (k1_off24 i) S1x1x512x64.size (k1_off24_inb i), shapeCast S1x1x512x64 (extractStridedSlice S512x64 ![0, 704] v slices_S512x768_o0_704_S512x64) shapeCasts_S512x64_S1x1x512x64⟩,
   ⟨Rect.unit (k1_off23 i) S1x1x512x64.size (k1_off23_inb i), shapeCast S1x1x512x64 (extractStridedSlice S512x64 ![0, 640] v slices_S512x768_o0_640_S512x64) shapeCasts_S512x64_S1x1x512x64⟩,
   ⟨Rect.unit (k1_off22 i) S1x1x512x64.size (k1_off22_inb i), shapeCast S1x1x512x64 (extractStridedSlice S512x64 ![0, 576] v slices_S512x768_o0_576_S512x64) shapeCasts_S512x64_S1x1x512x64⟩,
   ⟨Rect.unit (k1_off21 i) S1x1x512x64.size (k1_off21_inb i), shapeCast S1x1x512x64 (extractStridedSlice S512x64 ![0, 512] v slices_S512x768_o0_512_S512x64) shapeCasts_S512x64_S1x1x512x64⟩,
   ⟨Rect.unit (k1_off20 i) S1x1x512x64.size (k1_off20_inb i), shapeCast S1x1x512x64 (extractStridedSlice S512x64 ![0, 448] v slices_S512x768_o0_448_S512x64) shapeCasts_S512x64_S1x1x512x64⟩,
   ⟨Rect.unit (k1_off19 i) S1x1x512x64.size (k1_off19_inb i), shapeCast S1x1x512x64 (extractStridedSlice S512x64 ![0, 384] v slices_S512x768_o0_384_S512x64) shapeCasts_S512x64_S1x1x512x64⟩,
   ⟨Rect.unit (k1_off18 i) S1x1x512x64.size (k1_off18_inb i), shapeCast S1x1x512x64 (extractStridedSlice S512x64 ![0, 320] v slices_S512x768_o0_320_S512x64) shapeCasts_S512x64_S1x1x512x64⟩,
   ⟨Rect.unit (k1_off17 i) S1x1x512x64.size (k1_off17_inb i), shapeCast S1x1x512x64 (extractStridedSlice S512x64 ![0, 256] v slices_S512x768_o0_256_S512x64) shapeCasts_S512x64_S1x1x512x64⟩,
   ⟨Rect.unit (k1_off16 i) S1x1x512x64.size (k1_off16_inb i), shapeCast S1x1x512x64 (extractStridedSlice S512x64 ![0, 192] v slices_S512x768_o0_192_S512x64) shapeCasts_S512x64_S1x1x512x64⟩,
   ⟨Rect.unit (k1_off15 i) S1x1x512x64.size (k1_off15_inb i), shapeCast S1x1x512x64 (extractStridedSlice S512x64 ![0, 128] v slices_S512x768_o0_128_S512x64) shapeCasts_S512x64_S1x1x512x64⟩,
   ⟨Rect.unit (k1_off14 i) S1x1x512x64.size (k1_off14_inb i), shapeCast S1x1x512x64 (extractStridedSlice S512x64 ![0, 64] v slices_S512x768_o0_64_S512x64) shapeCasts_S512x64_S1x1x512x64⟩,
   ⟨Rect.unit (k1_off13 i) S1x1x512x64.size (k1_off13_inb i), shapeCast S1x1x512x64 (extractStridedSlice S512x64 ![0, 0] v slices_S512x768_o0_0_S512x64) shapeCasts_S512x64_S1x1x512x64⟩]

theorem kPiece (h : Fin 12) (b : ℕ) (hs : S768x512.Slices ![64 * h.val, 0] S64x512) (off : Fin 4 → ℕ) (hoff : off = ![h.val, b, 0, 0])
    (inb : ∀ a, off a + S1x1x64x512.size a ≤ S12x4x64x512.size a) (kT : FVec F S768x512 .bf16) (x : S1x1x64x512.Idx) :
    shapeCast S1x1x64x512 (extractStridedSlice S64x512 ![64 * h.val, 0] kT hs) shapeCasts_S64x512_S1x1x64x512 x
      = kNew kT ((Rect.unit (s := S12x4x64x512) off S1x1x64x512.size inb).emb x) := by
  subst hoff
  have h0 : (x 0).val < 1 := (x 0).isLt
  have h1 : (x 1).val < 1 := (x 1).isLt
  refine (shapeCast_apply _ _ x (Fin.cons (x 2) (Fin.cons (x 3) finZeroElim)) ?_).trans ?_
  · rw [Shape.rowMajor_val_two, Shape.rowMajor_val_four]
    show (x 2).val * 512 + (x 3).val = (((x 0).val * 1 + (x 1).val) * 64 + (x 2).val) * 512 + (x 3).val
    omega
  refine extractStridedSlice_apply _ kT hs _ _ ?_
  intro a
  match a with
  | ⟨0, _⟩ => show (h.val + 1 * (x 0).val) * 64 + (0 + 1 * (x 2).val) = 64 * h.val + (x 2).val; omega
  | ⟨1, _⟩ => show 0 + 1 * (x 3).val = 0 + (x 3).val; omega

theorem vPiece (h : Fin 12) (b : ℕ) (hs : S512x768.Slices ![0, 64 * h.val] S512x64) (off : Fin 4 → ℕ) (hoff : off = ![h.val, b, 0, 0])
    (inb : ∀ a, off a + S1x1x512x64.size a ≤ S12x4x512x64.size a) (v : FVec F S512x768 .bf16) (x : S1x1x512x64.Idx) :
    shapeCast S1x1x512x64 (extractStridedSlice S512x64 ![0, 64 * h.val] v hs) shapeCasts_S512x64_S1x1x512x64 x
      = vNew v ((Rect.unit (s := S12x4x512x64) off S1x1x512x64.size inb).emb x) := by
  subst hoff
  have h0 : (x 0).val < 1 := (x 0).isLt
  have h1 : (x 1).val < 1 := (x 1).isLt
  refine (shapeCast_apply _ _ x (Fin.cons (x 2) (Fin.cons (x 3) finZeroElim)) ?_).trans ?_
  · rw [Shape.rowMajor_val_two, Shape.rowMajor_val_four]
    show (x 2).val * 64 + (x 3).val = (((x 0).val * 1 + (x 1).val) * 512 + (x 2).val) * 64 + (x 3).val
    omega
  refine extractStridedSlice_apply _ v hs _ _ ?_
  intro a
  match a with
  | ⟨0, _⟩ => show 0 + 1 * (x 2).val = 0 + (x 2).val; omega
  | ⟨1, _⟩ => show (h.val + 1 * (x 0).val) * 64 + (0 + 1 * (x 3).val) = 64 * h.val + (x 3).val; omega

theorem mem_kRect (h : Fin 12) (b : ℕ) (off : Fin 4 → ℕ) (hoff : off = ![h.val, b, 0, 0])
    (inb : ∀ a, off a + S1x1x64x512.size a ≤ S12x4x64x512.size a) (y : S12x4x64x512.Idx) :
    y ∈ (Rect.unit (s := S12x4x64x512) off S1x1x64x512.size inb).set ↔ (y 0).val = h.val ∧ (y 1).val = b := by
  subst hoff
  rw [Rect.mem_set_unit]
  constructor
  · intro H
    have a0 : h.val ≤ (y 0).val ∧ (y 0).val < h.val + 1 := H 0
    have a1 : b ≤ (y 1).val ∧ (y 1).val < b + 1 := H 1
    omega
  · rintro ⟨e0, e1⟩ a
    have l2 : (y 2).val < 64 := (y 2).isLt
    have l3 : (y 3).val < 512 := (y 3).isLt
    match a with
    | ⟨0, _⟩ => show h.val ≤ (y 0).val ∧ (y 0).val < h.val + 1; omega
    | ⟨1, _⟩ => show b ≤ (y 1).val ∧ (y 1).val < b + 1; omega
    | ⟨2, _⟩ => show 0 ≤ (y 2).val ∧ (y 2).val < 0 + 64; omega
    | ⟨3, _⟩ => show 0 ≤ (y 3).val ∧ (y 3).val < 0 + 512; omega

theorem mem_vRect (h : Fin 12) (b : ℕ) (off : Fin 4 → ℕ) (hoff : off = ![h.val, b, 0, 0])
    (inb : ∀ a, off a + S1x1x512x64.size a ≤ S12x4x512x64.size a) (y : S12x4x512x64.Idx) :
    y ∈ (Rect.unit (s := S12x4x512x64) off S1x1x512x64.size inb).set ↔ (y 0).val = h.val ∧ (y 1).val = b := by
  subst hoff
  rw [Rect.mem_set_unit]
  constructor
  · intro H
    have a0 : h.val ≤ (y 0).val ∧ (y 0).val < h.val + 1 := H 0
    have a1 : b ≤ (y 1).val ∧ (y 1).val < b + 1 := H 1
    omega
  · rintro ⟨e0, e1⟩ a
    have l2 : (y 2).val < 512 := (y 2).isLt
    have l3 : (y 3).val < 64 := (y 3).isLt
    match a with
    | ⟨0, _⟩ => show h.val ≤ (y 0).val ∧ (y 0).val < h.val + 1; omega
    | ⟨1, _⟩ => show b ≤ (y 1).val ∧ (y 1).val < b + 1; omega
    | ⟨2, _⟩ => show 0 ≤ (y 2).val ∧ (y 2).val < 0 + 512; omega
    | ⟨3, _⟩ => show 0 ≤ (y 3).val ∧ (y 3).val < 0 + 64; omega

/-- A buffer read after the key pieces of a point were written to it. -/
theorem read_kList {sp : Space} (v : View sig .tc sp S12x4x64x512 .bf16) (f : BufTy.Contents (Elt F) v.ty) (i : grid1.Coords) (w : FVec F S768x512 .bf16) :
    v.read (Elt F) (v.writes (Elt F) f (kList i w)) = carK (i 0).val w (v.read (Elt F) f) := by
  obtain ⟨o0, o1, o2, o3, o4, o5, o6, o7, o8, o9, o10, o11⟩ := offs_k i
  funext y
  unfold carK
  by_cases hy : (y 1).val = (i 0).val
  · rw [if_pos hy]
    refine View.read_writes_apply_of_pieces v f (kNew w) _ ?_ y ?_
    · intro p hp x
      unfold kList at hp
      simp only [List.mem_cons, List.not_mem_nil, _root_.or_false] at hp
      rcases hp with rfl | rfl | rfl | rfl | rfl | rfl | rfl | rfl | rfl | rfl | rfl | rfl
      · exact kPiece 11 _ slices_S768x512_o704_0_S64x512 _ o11 (k1_off12_inb i) w x
      · exact kPiece 10 _ slices_S768x512_o640_0_S64x512 _ o10 (k1_off11_inb i) w x
      · exact kPiece 9 _ slices_S768x512_o576_0_S64x512 _ o9 (k1_off10_inb i) w x
      · exact kPiece 8 _ slices_S768x512_o512_0_S64x512 _ o8 (k1_off9_inb i) w x
      · exact kPiece 7 _ slices_S768x512_o448_0_S64x512 _ o7 (k1_off8_inb i) w x
      · exact kPiece 6 _ slices_S768x512_o384_0_S64x512 _ o6 (k1_off7_inb i) w x
      · exact kPiece 5 _ slices_S768x512_o320_0_S64x512 _ o5 (k1_off6_inb i) w x
      · exact kPiece 4 _ slices_S768x512_o256_0_S64x512 _ o4 (k1_off5_inb i) w x
      · exact kPiece 3 _ slices_S768x512_o192_0_S64x512 _ o3 (k1_off4_inb i) w x
      · exact kPiece 2 _ slices_S768x512_o128_0_S64x512 _ o2 (k1_off3_inb i) w x
      · exact kPiece 1 _ slices_S768x512_o64_0_S64x512 _ o1 (k1_off2_inb i) w x
      · exact kPiece 0 _ slices_S768x512_o0_0_S64x512 _ o0 (k1_off1_inb i) w x
    · have h0 : (y 0).val < 12 := (y 0).isLt
      unfold kList
      simp only [List.mem_cons, List.not_mem_nil, _root_.or_false, exists_eq_or_imp, exists_eq_left]
      rw [mem_kRect 11 _ _ o11, mem_kRect 10 _ _ o10, mem_kRect 9 _ _ o9, mem_kRect 8 _ _ o8, mem_kRect 7 _ _ o7, mem_kRect 6 _ _ o6, mem_kRect 5 _ _ o5, mem_kRect 4 _ _ o4, mem_kRect 3 _ _ o3, mem_kRect 2 _ _ o2, mem_kRect 1 _ _ o1, mem_kRect 0 _ _ o0]
      show ((y 0).val = 11 ∧ (y 1).val = (i 0).val) ∨ ((y 0).val = 10 ∧ (y 1).val = (i 0).val) ∨ ((y 0).val = 9 ∧ (y 1).val = (i 0).val) ∨ ((y 0).val = 8 ∧ (y 1).val = (i 0).val) ∨ ((y 0).val = 7 ∧ (y 1).val = (i 0).val) ∨ ((y 0).val = 6 ∧ (y 1).val = (i 0).val) ∨ ((y 0).val = 5 ∧ (y 1).val = (i 0).val) ∨ ((y 0).val = 4 ∧ (y 1).val = (i 0).val) ∨ ((y 0).val = 3 ∧ (y 1).val = (i 0).val) ∨ ((y 0).val = 2 ∧ (y 1).val = (i 0).val) ∨ ((y 0).val = 1 ∧ (y 1).val = (i 0).val) ∨ ((y 0).val = 0 ∧ (y 1).val = (i 0).val)
      omega
  · rw [if_neg hy]
    refine View.read_writes_apply_of_forall_not_mem v f y _ ?_
    intro p hp
    unfold kList at hp
    simp only [List.mem_cons, List.not_mem_nil, _root_.or_false] at hp
    rcases hp with rfl | rfl | rfl | rfl | rfl | rfl | rfl | rfl | rfl | rfl | rfl | rfl
    · exact fun hm => hy ((mem_kRect 11 _ _ o11 (k1_off12_inb i) y).mp hm).2
    · exact fun hm => hy ((mem_kRect 10 _ _ o10 (k1_off11_inb i) y).mp hm).2
    · exact fun hm => hy ((mem_kRect 9 _ _ o9 (k1_off10_inb i) y).mp hm).2
    · exact fun hm => hy ((mem_kRect 8 _ _ o8 (k1_off9_inb i) y).mp hm).2
    · exact fun hm => hy ((mem_kRect 7 _ _ o7 (k1_off8_inb i) y).mp hm).2
    · exact fun hm => hy ((mem_kRect 6 _ _ o6 (k1_off7_inb i) y).mp hm).2
    · exact fun hm => hy ((mem_kRect 5 _ _ o5 (k1_off6_inb i) y).mp hm).2
    · exact fun hm => hy ((mem_kRect 4 _ _ o4 (k1_off5_inb i) y).mp hm).2
    · exact fun hm => hy ((mem_kRect 3 _ _ o3 (k1_off4_inb i) y).mp hm).2
    · exact fun hm => hy ((mem_kRect 2 _ _ o2 (k1_off3_inb i) y).mp hm).2
    · exact fun hm => hy ((mem_kRect 1 _ _ o1 (k1_off2_inb i) y).mp hm).2
    · exact fun hm => hy ((mem_kRect 0 _ _ o0 (k1_off1_inb i) y).mp hm).2

/-- A buffer read after the value pieces of a point were written to it. -/
theorem read_vList {sp : Space} (v : View sig .tc sp S12x4x512x64 .bf16) (f : BufTy.Contents (Elt F) v.ty) (i : grid1.Coords) (w : FVec F S512x768 .bf16) :
    v.read (Elt F) (v.writes (Elt F) f (vList i w)) = carV (i 0).val w (v.read (Elt F) f) := by
  obtain ⟨o0, o1, o2, o3, o4, o5, o6, o7, o8, o9, o10, o11⟩ := offs_v i
  funext y
  unfold carV
  by_cases hy : (y 1).val = (i 0).val
  · rw [if_pos hy]
    refine View.read_writes_apply_of_pieces v f (vNew w) _ ?_ y ?_
    · intro p hp x
      unfold vList at hp
      simp only [List.mem_cons, List.not_mem_nil, _root_.or_false] at hp
      rcases hp with rfl | rfl | rfl | rfl | rfl | rfl | rfl | rfl | rfl | rfl | rfl | rfl
      · exact vPiece 11 _ slices_S512x768_o0_704_S512x64 _ o11 (k1_off24_inb i) w x
      · exact vPiece 10 _ slices_S512x768_o0_640_S512x64 _ o10 (k1_off23_inb i) w x
      · exact vPiece 9 _ slices_S512x768_o0_576_S512x64 _ o9 (k1_off22_inb i) w x
      · exact vPiece 8 _ slices_S512x768_o0_512_S512x64 _ o8 (k1_off21_inb i) w x
      · exact vPiece 7 _ slices_S512x768_o0_448_S512x64 _ o7 (k1_off20_inb i) w x
      · exact vPiece 6 _ slices_S512x768_o0_384_S512x64 _ o6 (k1_off19_inb i) w x
      · exact vPiece 5 _ slices_S512x768_o0_320_S512x64 _ o5 (k1_off18_inb i) w x
      · exact vPiece 4 _ slices_S512x768_o0_256_S512x64 _ o4 (k1_off17_inb i) w x
      · exact vPiece 3 _ slices_S512x768_o0_192_S512x64 _ o3 (k1_off16_inb i) w x
      · exact vPiece 2 _ slices_S512x768_o0_128_S512x64 _ o2 (k1_off15_inb i) w x
      · exact vPiece 1 _ slices_S512x768_o0_64_S512x64 _ o1 (k1_off14_inb i) w x
      · exact vPiece 0 _ slices_S512x768_o0_0_S512x64 _ o0 (k1_off13_inb i) w x
    · have h0 : (y 0).val < 12 := (y 0).isLt
      unfold vList
      simp only [List.mem_cons, List.not_mem_nil, _root_.or_false, exists_eq_or_imp, exists_eq_left]
      rw [mem_vRect 11 _ _ o11, mem_vRect 10 _ _ o10, mem_vRect 9 _ _ o9, mem_vRect 8 _ _ o8, mem_vRect 7 _ _ o7, mem_vRect 6 _ _ o6, mem_vRect 5 _ _ o5, mem_vRect 4 _ _ o4, mem_vRect 3 _ _ o3, mem_vRect 2 _ _ o2, mem_vRect 1 _ _ o1, mem_vRect 0 _ _ o0]
      show ((y 0).val = 11 ∧ (y 1).val = (i 0).val) ∨ ((y 0).val = 10 ∧ (y 1).val = (i 0).val) ∨ ((y 0).val = 9 ∧ (y 1).val = (i 0).val) ∨ ((y 0).val = 8 ∧ (y 1).val = (i 0).val) ∨ ((y 0).val = 7 ∧ (y 1).val = (i 0).val) ∨ ((y 0).val = 6 ∧ (y 1).val = (i 0).val) ∨ ((y 0).val = 5 ∧ (y 1).val = (i 0).val) ∨ ((y 0).val = 4 ∧ (y 1).val = (i 0).val) ∨ ((y 0).val = 3 ∧ (y 1).val = (i 0).val) ∨ ((y 0).val = 2 ∧ (y 1).val = (i 0).val) ∨ ((y 0).val = 1 ∧ (y 1).val = (i 0).val) ∨ ((y 0).val = 0 ∧ (y 1).val = (i 0).val)
      omega
  · rw [if_neg hy]
    refine View.read_writes_apply_of_forall_not_mem v f y _ ?_
    intro p hp
    unfold vList at hp
    simp only [List.mem_cons, List.not_mem_nil, _root_.or_false] at hp
    rcases hp with rfl | rfl | rfl | rfl | rfl | rfl | rfl | rfl | rfl | rfl | rfl | rfl
    · exact fun hm => hy ((mem_vRect 11 _ _ o11 (k1_off24_inb i) y).mp hm).2
    · exact fun hm => hy ((mem_vRect 10 _ _ o10 (k1_off23_inb i) y).mp hm).2
    · exact fun hm => hy ((mem_vRect 9 _ _ o9 (k1_off22_inb i) y).mp hm).2
    · exact fun hm => hy ((mem_vRect 8 _ _ o8 (k1_off21_inb i) y).mp hm).2
    · exact fun hm => hy ((mem_vRect 7 _ _ o7 (k1_off20_inb i) y).mp hm).2
    · exact fun hm => hy ((mem_vRect 6 _ _ o6 (k1_off19_inb i) y).mp hm).2
    · exact fun hm => hy ((mem_vRect 5 _ _ o5 (k1_off18_inb i) y).mp hm).2
    · exact fun hm => hy ((mem_vRect 4 _ _ o4 (k1_off17_inb i) y).mp hm).2
    · exact fun hm => hy ((mem_vRect 3 _ _ o3 (k1_off16_inb i) y).mp hm).2
    · exact fun hm => hy ((mem_vRect 2 _ _ o2 (k1_off15_inb i) y).mp hm).2
    · exact fun hm => hy ((mem_vRect 1 _ _ o1 (k1_off14_inb i) y).mp hm).2
    · exact fun hm => hy ((mem_vRect 0 _ _ o0 (k1_off13_inb i) y).mp hm).2

end Cert.KernelIdeal.Hand

end
-- ==== Proof.KernelIdeal.Ctx.lean ====
/- The twelve heads the main body joins, as recursions over the carried keys and values; and so the body's output, which what the buffers held past the query block never reaches. -/
module

public import proofs.«01_k».proof.Proof.KernelIdeal.Carried

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole)
    (x0 : Vec F S512x768 .f32) (x1 : Vec F S1x768 .f32) (x2 : Vec F S1x768 .f32) (x3 : Vec F S512x64 .f32) (x4 : Vec F S512x64 .f32) (x5 : Vec F S64x768 .f32) (x6 : Vec F S768x3072 .bf16) (x7 : Vec F S8x768x768 .bf16) (x8 : Vec F S768x8 .f32) (x9 : Vec F S8x768x768 .bf16) (x10 : Vec F S768x8 .f32) (x11 : Vec F S8x768x256 .bf16) (x12 : Vec F S8x256x768 .bf16) (x13 : Vec F S768x16 .f32)

/-- Head `h` of the body at block `b`, from its queries and the two carried buffers. -/
def hOut (i : grid1.Coords) (q : FVec F S512x64 .bf16) (h : Fin 12) (X : Vec F S12x4x64x512 .bf16) (Y : Vec F S12x4x512x64 .bf16) : FVec F S512x64 .bf16 :=
  hFin (hState (bodyRun.sl.v253 i) bodyRun.sl.v254 q (kSl X h) (vSl Y h) ((i 0).val + 1))

/-- A head reads the carried buffers at blocks up to the query block alone. -/
theorem hOut_congr (i : grid1.Coords) (q : FVec F S512x64 .bf16) (h : Fin 12) (X X' : Vec F S12x4x64x512 .bf16) (Y Y' : Vec F S12x4x512x64 .bf16)
    (hX : ∀ y, (y 1).val ≤ (i 0).val → X y = X' y) (hY : ∀ y, (y 1).val ≤ (i 0).val → Y y = Y' y) :
    hOut i q h X Y = hOut i q h X' Y' := by
  have hi : (i 0).val < 4 := (i 0).isLt
  unfold hOut
  rw [hState_congr]
  · intro k hk
    funext z
    refine hX _ ?_
    show k % 4 ≤ _
    omega
  · intro k hk
    funext z
    refine hY _ ?_
    show k % 4 ≤ _
    omega

theorem head_0 (y0 : Vec F S12x4x64x512 .bf16) (y1 : Vec F S12x4x512x64 .bf16) :
    bodyRun.sl.r_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1 = hOut i (bodyRun.sl.v255 c arg1 harg1 arg2 harg2 arg4 harg4 arg5 harg5 arg6 harg6 arg7 harg7 x0 x1 x3 x4 x5 x6) 0 (carK (i 0).val (bodyRun.sl.v45 c arg1 harg1 arg2 harg2 arg4 harg4 arg5 harg5 arg6 harg6 arg7 harg7 x0 x1 x3 x4 x5 x6) y0) (carV (i 0).val (bodyRun.sl.v189 c arg1 harg1 arg2 harg2 arg8 harg8 arg9 harg9 x0 x1 x7 x8) y1) := by
  have eX : arg16.view.read (Elt F) (arg16.view.writes (Elt F) (harg16.unread y0) (kList i (bodyRun.sl.v45 c arg1 harg1 arg2 harg2 arg4 harg4 arg5 harg5 arg6 harg6 arg7 harg7 x0 x1 x3 x4 x5 x6))) = carK (i 0).val (bodyRun.sl.v45 c arg1 harg1 arg2 harg2 arg4 harg4 arg5 harg5 arg6 harg6 arg7 harg7 x0 x1 x3 x4 x5 x6) y0 := by
    rw [read_kList, harg16.read_unread]
  have eY : arg17.view.read (Elt F) (arg17.view.writes (Elt F) (harg17.unread y1) (vList i (bodyRun.sl.v189 c arg1 harg1 arg2 harg2 arg8 harg8 arg9 harg9 x0 x1 x7 x8))) = carV (i 0).val (bodyRun.sl.v189 c arg1 harg1 arg2 harg2 arg8 harg8 arg9 harg9 x0 x1 x7 x8) y1 := by
    rw [read_vList, harg17.read_unread]
  have e := (st_2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v35 c arg1 harg1 arg2 harg2 arg4 harg4 arg5 harg5 arg6 harg6 arg7 harg7 x0 x1 x3 x4 x5 x6) (bodyRun.sl.v253 i) bodyRun.sl.v254 (bodyRun.sl.v255 c arg1 harg1 arg2 harg2 arg4 harg4 arg5 harg5 arg6 harg6 arg7 harg7 x0 x1 x3 x4 x5 x6) (bodyRun.sl.v256 c arg1 harg1 arg2 harg2 arg4 harg4 arg5 harg5 arg6 harg6 arg7 harg7 x0 x1 x3 x4 x5 x6) (bodyRun.sl.v257 c arg1 harg1 arg2 harg2 arg4 harg4 arg5 harg5 arg6 harg6 arg7 harg7 x0 x1 x3 x4 x5 x6) (bodyRun.sl.v258 c arg1 harg1 arg2 harg2 arg4 harg4 arg5 harg5 arg6 harg6 arg7 harg7 x0 x1 x3 x4 x5 x6) (bodyRun.sl.v275 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (st_k1_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v35 c arg1 harg1 arg2 harg2 arg4 harg4 arg5 harg5 arg6 harg6 arg7 harg7 x0 x1 x3 x4 x5 x6) (bodyRun.sl.v253 i) bodyRun.sl.v254 (bodyRun.sl.v255 c arg1 harg1 arg2 harg2 arg4 harg4 arg5 harg5 arg6 harg6 arg7 harg7 x0 x1 x3 x4 x5 x6) (bodyRun.sl.v256 c arg1 harg1 arg2 harg2 arg4 harg4 arg5 harg5 arg6 harg6 arg7 harg7 x0 x1 x3 x4 x5 x6) (bodyRun.sl.v257 c arg1 harg1 arg2 harg2 arg4 harg4 arg5 harg5 arg6 harg6 arg7 harg7 x0 x1 x3 x4 x5 x6) (bodyRun.sl.v258 c arg1 harg1 arg2 harg2 arg4 harg4 arg5 harg5 arg6 harg6 arg7 harg7 x0 x1 x3 x4 x5 x6) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_pay172, k1_pay173, k1_pay174, k1_pay172, k1_pay173, k1_pay174) (k1_t1_loop i).trips)).trans
    (st_1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v35 c arg1 harg1 arg2 harg2 arg4 harg4 arg5 harg5 arg6 harg6 arg7 harg7 x0 x1 x3 x4 x5 x6) (bodyRun.sl.v253 i) bodyRun.sl.v254 (bodyRun.sl.v255 c arg1 harg1 arg2 harg2 arg4 harg4 arg5 harg5 arg6 harg6 arg7 harg7 x0 x1 x3 x4 x5 x6) (bodyRun.sl.v256 c arg1 harg1 arg2 harg2 arg4 harg4 arg5 harg5 arg6 harg6 arg7 harg7 x0 x1 x3 x4 x5 x6) (bodyRun.sl.v257 c arg1 harg1 arg2 harg2 arg4 harg4 arg5 harg5 arg6 harg6 arg7 harg7 x0 x1 x3 x4 x5 x6) (bodyRun.sl.v258 c arg1 harg1 arg2 harg2 arg4 harg4 arg5 harg5 arg6 harg6 arg7 harg7 x0 x1 x3 x4 x5 x6) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_t1_loop i).trips le_rfl)
  rw [eX, eY] at e
  unfold hOut
  rw [← trips_1 i]
  exact congrArg (fun z => hFin (z.1, z.2.1, z.2.2.1)) e

theorem head_1 (y0 : Vec F S12x4x64x512 .bf16) (y1 : Vec F S12x4x512x64 .bf16) :
    bodyRun.sl.r_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1 = hOut i (bodyRun.sl.v256 c arg1 harg1 arg2 harg2 arg4 harg4 arg5 harg5 arg6 harg6 arg7 harg7 x0 x1 x3 x4 x5 x6) 1 (carK (i 0).val (bodyRun.sl.v45 c arg1 harg1 arg2 harg2 arg4 harg4 arg5 harg5 arg6 harg6 arg7 harg7 x0 x1 x3 x4 x5 x6) y0) (carV (i 0).val (bodyRun.sl.v189 c arg1 harg1 arg2 harg2 arg8 harg8 arg9 harg9 x0 x1 x7 x8) y1) := by
  have eX : arg16.view.read (Elt F) (arg16.view.writes (Elt F) (harg16.unread y0) (kList i (bodyRun.sl.v45 c arg1 harg1 arg2 harg2 arg4 harg4 arg5 harg5 arg6 harg6 arg7 harg7 x0 x1 x3 x4 x5 x6))) = carK (i 0).val (bodyRun.sl.v45 c arg1 harg1 arg2 harg2 arg4 harg4 arg5 harg5 arg6 harg6 arg7 harg7 x0 x1 x3 x4 x5 x6) y0 := by
    rw [read_kList, harg16.read_unread]
  have eY : arg17.view.read (Elt F) (arg17.view.writes (Elt F) (harg17.unread y1) (vList i (bodyRun.sl.v189 c arg1 harg1 arg2 harg2 arg8 harg8 arg9 harg9 x0 x1 x7 x8))) = carV (i 0).val (bodyRun.sl.v189 c arg1 harg1 arg2 harg2 arg8 harg8 arg9 harg9 x0 x1 x7 x8) y1 := by
    rw [read_vList, harg17.read_unread]
  have e := (st_2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v35 c arg1 harg1 arg2 harg2 arg4 harg4 arg5 harg5 arg6 harg6 arg7 harg7 x0 x1 x3 x4 x5 x6) (bodyRun.sl.v253 i) bodyRun.sl.v254 (bodyRun.sl.v255 c arg1 harg1 arg2 harg2 arg4 harg4 arg5 harg5 arg6 harg6 arg7 harg7 x0 x1 x3 x4 x5 x6) (bodyRun.sl.v256 c arg1 harg1 arg2 harg2 arg4 harg4 arg5 harg5 arg6 harg6 arg7 harg7 x0 x1 x3 x4 x5 x6) (bodyRun.sl.v257 c arg1 harg1 arg2 harg2 arg4 harg4 arg5 harg5 arg6 harg6 arg7 harg7 x0 x1 x3 x4 x5 x6) (bodyRun.sl.v258 c arg1 harg1 arg2 harg2 arg4 harg4 arg5 harg5 arg6 harg6 arg7 harg7 x0 x1 x3 x4 x5 x6) (bodyRun.sl.v275 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (st_k1_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v35 c arg1 harg1 arg2 harg2 arg4 harg4 arg5 harg5 arg6 harg6 arg7 harg7 x0 x1 x3 x4 x5 x6) (bodyRun.sl.v253 i) bodyRun.sl.v254 (bodyRun.sl.v255 c arg1 harg1 arg2 harg2 arg4 harg4 arg5 harg5 arg6 harg6 arg7 harg7 x0 x1 x3 x4 x5 x6) (bodyRun.sl.v256 c arg1 harg1 arg2 harg2 arg4 harg4 arg5 harg5 arg6 harg6 arg7 harg7 x0 x1 x3 x4 x5 x6) (bodyRun.sl.v257 c arg1 harg1 arg2 harg2 arg4 harg4 arg5 harg5 arg6 harg6 arg7 harg7 x0 x1 x3 x4 x5 x6) (bodyRun.sl.v258 c arg1 harg1 arg2 harg2 arg4 harg4 arg5 harg5 arg6 harg6 arg7 harg7 x0 x1 x3 x4 x5 x6) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_pay172, k1_pay173, k1_pay174, k1_pay172, k1_pay173, k1_pay174) (k1_t1_loop i).trips)).trans
    (st_1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v35 c arg1 harg1 arg2 harg2 arg4 harg4 arg5 harg5 arg6 harg6 arg7 harg7 x0 x1 x3 x4 x5 x6) (bodyRun.sl.v253 i) bodyRun.sl.v254 (bodyRun.sl.v255 c arg1 harg1 arg2 harg2 arg4 harg4 arg5 harg5 arg6 harg6 arg7 harg7 x0 x1 x3 x4 x5 x6) (bodyRun.sl.v256 c arg1 harg1 arg2 harg2 arg4 harg4 arg5 harg5 arg6 harg6 arg7 harg7 x0 x1 x3 x4 x5 x6) (bodyRun.sl.v257 c arg1 harg1 arg2 harg2 arg4 harg4 arg5 harg5 arg6 harg6 arg7 harg7 x0 x1 x3 x4 x5 x6) (bodyRun.sl.v258 c arg1 harg1 arg2 harg2 arg4 harg4 arg5 harg5 arg6 harg6 arg7 harg7 x0 x1 x3 x4 x5 x6) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_t1_loop i).trips le_rfl)
  rw [eX, eY] at e
  unfold hOut
  rw [← trips_1 i]
  exact congrArg (fun z => hFin (z.2.2.2.1, z.2.2.2.2.1, z.2.2.2.2.2)) e

theorem head_2 (y0 : Vec F S12x4x64x512 .bf16) (y1 : Vec F S12x4x512x64 .bf16) :
    bodyRun.sl.r_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1 = hOut i (bodyRun.sl.v257 c arg1 harg1 arg2 harg2 arg4 harg4 arg5 harg5 arg6 harg6 arg7 harg7 x0 x1 x3 x4 x5 x6) 2 (carK (i 0).val (bodyRun.sl.v45 c arg1 harg1 arg2 harg2 arg4 harg4 arg5 harg5 arg6 harg6 arg7 harg7 x0 x1 x3 x4 x5 x6) y0) (carV (i 0).val (bodyRun.sl.v189 c arg1 harg1 arg2 harg2 arg8 harg8 arg9 harg9 x0 x1 x7 x8) y1) := by
  have eX : arg16.view.read (Elt F) (arg16.view.writes (Elt F) (harg16.unread y0) (kList i (bodyRun.sl.v45 c arg1 harg1 arg2 harg2 arg4 harg4 arg5 harg5 arg6 harg6 arg7 harg7 x0 x1 x3 x4 x5 x6))) = carK (i 0).val (bodyRun.sl.v45 c arg1 harg1 arg2 harg2 arg4 harg4 arg5 harg5 arg6 harg6 arg7 harg7 x0 x1 x3 x4 x5 x6) y0 := by
    rw [read_kList, harg16.read_unread]
  have eY : arg17.view.read (Elt F) (arg17.view.writes (Elt F) (harg17.unread y1) (vList i (bodyRun.sl.v189 c arg1 harg1 arg2 harg2 arg8 harg8 arg9 harg9 x0 x1 x7 x8))) = carV (i 0).val (bodyRun.sl.v189 c arg1 harg1 arg2 harg2 arg8 harg8 arg9 harg9 x0 x1 x7 x8) y1 := by
    rw [read_vList, harg17.read_unread]
  have e := (st_4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v35 c arg1 harg1 arg2 harg2 arg4 harg4 arg5 harg5 arg6 harg6 arg7 harg7 x0 x1 x3 x4 x5 x6) (bodyRun.sl.v253 i) bodyRun.sl.v254 (bodyRun.sl.v255 c arg1 harg1 arg2 harg2 arg4 harg4 arg5 harg5 arg6 harg6 arg7 harg7 x0 x1 x3 x4 x5 x6) (bodyRun.sl.v256 c arg1 harg1 arg2 harg2 arg4 harg4 arg5 harg5 arg6 harg6 arg7 harg7 x0 x1 x3 x4 x5 x6) (bodyRun.sl.v257 c arg1 harg1 arg2 harg2 arg4 harg4 arg5 harg5 arg6 harg6 arg7 harg7 x0 x1 x3 x4 x5 x6) (bodyRun.sl.v258 c arg1 harg1 arg2 harg2 arg4 harg4 arg5 harg5 arg6 harg6 arg7 harg7 x0 x1 x3 x4 x5 x6) (bodyRun.sl.v289 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (st_k1_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v35 c arg1 harg1 arg2 harg2 arg4 harg4 arg5 harg5 arg6 harg6 arg7 harg7 x0 x1 x3 x4 x5 x6) (bodyRun.sl.v253 i) bodyRun.sl.v254 (bodyRun.sl.v255 c arg1 harg1 arg2 harg2 arg4 harg4 arg5 harg5 arg6 harg6 arg7 harg7 x0 x1 x3 x4 x5 x6) (bodyRun.sl.v256 c arg1 harg1 arg2 harg2 arg4 harg4 arg5 harg5 arg6 harg6 arg7 harg7 x0 x1 x3 x4 x5 x6) (bodyRun.sl.v257 c arg1 harg1 arg2 harg2 arg4 harg4 arg5 harg5 arg6 harg6 arg7 harg7 x0 x1 x3 x4 x5 x6) (bodyRun.sl.v258 c arg1 harg1 arg2 harg2 arg4 harg4 arg5 harg5 arg6 harg6 arg7 harg7 x0 x1 x3 x4 x5 x6) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_pay172, k1_pay173, k1_pay174, k1_pay172, k1_pay173, k1_pay174) (k1_t3_loop i).trips)).trans
    (st_3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v35 c arg1 harg1 arg2 harg2 arg4 harg4 arg5 harg5 arg6 harg6 arg7 harg7 x0 x1 x3 x4 x5 x6) (bodyRun.sl.v253 i) bodyRun.sl.v254 (bodyRun.sl.v255 c arg1 harg1 arg2 harg2 arg4 harg4 arg5 harg5 arg6 harg6 arg7 harg7 x0 x1 x3 x4 x5 x6) (bodyRun.sl.v256 c arg1 harg1 arg2 harg2 arg4 harg4 arg5 harg5 arg6 harg6 arg7 harg7 x0 x1 x3 x4 x5 x6) (bodyRun.sl.v257 c arg1 harg1 arg2 harg2 arg4 harg4 arg5 harg5 arg6 harg6 arg7 harg7 x0 x1 x3 x4 x5 x6) (bodyRun.sl.v258 c arg1 harg1 arg2 harg2 arg4 harg4 arg5 harg5 arg6 harg6 arg7 harg7 x0 x1 x3 x4 x5 x6) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_t3_loop i).trips le_rfl)
  rw [eX, eY] at e
  unfold hOut
  rw [← trips_3 i]
  exact congrArg (fun z => hFin (z.1, z.2.1, z.2.2.1)) e

theorem head_3 (y0 : Vec F S12x4x64x512 .bf16) (y1 : Vec F S12x4x512x64 .bf16) :
    bodyRun.sl.r_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1 = hOut i (bodyRun.sl.v258 c arg1 harg1 arg2 harg2 arg4 harg4 arg5 harg5 arg6 harg6 arg7 harg7 x0 x1 x3 x4 x5 x6) 3 (carK (i 0).val (bodyRun.sl.v45 c arg1 harg1 arg2 harg2 arg4 harg4 arg5 harg5 arg6 harg6 arg7 harg7 x0 x1 x3 x4 x5 x6) y0) (carV (i 0).val (bodyRun.sl.v189 c arg1 harg1 arg2 harg2 arg8 harg8 arg9 harg9 x0 x1 x7 x8) y1) := by
  have eX : arg16.view.read (Elt F) (arg16.view.writes (Elt F) (harg16.unread y0) (kList i (bodyRun.sl.v45 c arg1 harg1 arg2 harg2 arg4 harg4 arg5 harg5 arg6 harg6 arg7 harg7 x0 x1 x3 x4 x5 x6))) = carK (i 0).val (bodyRun.sl.v45 c arg1 harg1 arg2 harg2 arg4 harg4 arg5 harg5 arg6 harg6 arg7 harg7 x0 x1 x3 x4 x5 x6) y0 := by
    rw [read_kList, harg16.read_unread]
  have eY : arg17.view.read (Elt F) (arg17.view.writes (Elt F) (harg17.unread y1) (vList i (bodyRun.sl.v189 c arg1 harg1 arg2 harg2 arg8 harg8 arg9 harg9 x0 x1 x7 x8))) = carV (i 0).val (bodyRun.sl.v189 c arg1 harg1 arg2 harg2 arg8 harg8 arg9 harg9 x0 x1 x7 x8) y1 := by
    rw [read_vList, harg17.read_unread]
  have e := (st_4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v35 c arg1 harg1 arg2 harg2 arg4 harg4 arg5 harg5 arg6 harg6 arg7 harg7 x0 x1 x3 x4 x5 x6) (bodyRun.sl.v253 i) bodyRun.sl.v254 (bodyRun.sl.v255 c arg1 harg1 arg2 harg2 arg4 harg4 arg5 harg5 arg6 harg6 arg7 harg7 x0 x1 x3 x4 x5 x6) (bodyRun.sl.v256 c arg1 harg1 arg2 harg2 arg4 harg4 arg5 harg5 arg6 harg6 arg7 harg7 x0 x1 x3 x4 x5 x6) (bodyRun.sl.v257 c arg1 harg1 arg2 harg2 arg4 harg4 arg5 harg5 arg6 harg6 arg7 harg7 x0 x1 x3 x4 x5 x6) (bodyRun.sl.v258 c arg1 harg1 arg2 harg2 arg4 harg4 arg5 harg5 arg6 harg6 arg7 harg7 x0 x1 x3 x4 x5 x6) (bodyRun.sl.v289 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (st_k1_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v35 c arg1 harg1 arg2 harg2 arg4 harg4 arg5 harg5 arg6 harg6 arg7 harg7 x0 x1 x3 x4 x5 x6) (bodyRun.sl.v253 i) bodyRun.sl.v254 (bodyRun.sl.v255 c arg1 harg1 arg2 harg2 arg4 harg4 arg5 harg5 arg6 harg6 arg7 harg7 x0 x1 x3 x4 x5 x6) (bodyRun.sl.v256 c arg1 harg1 arg2 harg2 arg4 harg4 arg5 harg5 arg6 harg6 arg7 harg7 x0 x1 x3 x4 x5 x6) (bodyRun.sl.v257 c arg1 harg1 arg2 harg2 arg4 harg4 arg5 harg5 arg6 harg6 arg7 harg7 x0 x1 x3 x4 x5 x6) (bodyRun.sl.v258 c arg1 harg1 arg2 harg2 arg4 harg4 arg5 harg5 arg6 harg6 arg7 harg7 x0 x1 x3 x4 x5 x6) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_pay172, k1_pay173, k1_pay174, k1_pay172, k1_pay173, k1_pay174) (k1_t3_loop i).trips)).trans
    (st_3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v35 c arg1 harg1 arg2 harg2 arg4 harg4 arg5 harg5 arg6 harg6 arg7 harg7 x0 x1 x3 x4 x5 x6) (bodyRun.sl.v253 i) bodyRun.sl.v254 (bodyRun.sl.v255 c arg1 harg1 arg2 harg2 arg4 harg4 arg5 harg5 arg6 harg6 arg7 harg7 x0 x1 x3 x4 x5 x6) (bodyRun.sl.v256 c arg1 harg1 arg2 harg2 arg4 harg4 arg5 harg5 arg6 harg6 arg7 harg7 x0 x1 x3 x4 x5 x6) (bodyRun.sl.v257 c arg1 harg1 arg2 harg2 arg4 harg4 arg5 harg5 arg6 harg6 arg7 harg7 x0 x1 x3 x4 x5 x6) (bodyRun.sl.v258 c arg1 harg1 arg2 harg2 arg4 harg4 arg5 harg5 arg6 harg6 arg7 harg7 x0 x1 x3 x4 x5 x6) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_t3_loop i).trips le_rfl)
  rw [eX, eY] at e
  unfold hOut
  rw [← trips_3 i]
  exact congrArg (fun z => hFin (z.2.2.2.1, z.2.2.2.2.1, z.2.2.2.2.2)) e

theorem head_4 (y0 : Vec F S12x4x64x512 .bf16) (y1 : Vec F S12x4x512x64 .bf16) :
    bodyRun.sl.r_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1 = hOut i (bodyRun.sl.v259 c arg1 harg1 arg2 harg2 arg4 harg4 arg5 harg5 arg6 harg6 arg7 harg7 x0 x1 x3 x4 x5 x6) 4 (carK (i 0).val (bodyRun.sl.v45 c arg1 harg1 arg2 harg2 arg4 harg4 arg5 harg5 arg6 harg6 arg7 harg7 x0 x1 x3 x4 x5 x6) y0) (carV (i 0).val (bodyRun.sl.v189 c arg1 harg1 arg2 harg2 arg8 harg8 arg9 harg9 x0 x1 x7 x8) y1) := by
  have eX : arg16.view.read (Elt F) (arg16.view.writes (Elt F) (harg16.unread y0) (kList i (bodyRun.sl.v45 c arg1 harg1 arg2 harg2 arg4 harg4 arg5 harg5 arg6 harg6 arg7 harg7 x0 x1 x3 x4 x5 x6))) = carK (i 0).val (bodyRun.sl.v45 c arg1 harg1 arg2 harg2 arg4 harg4 arg5 harg5 arg6 harg6 arg7 harg7 x0 x1 x3 x4 x5 x6) y0 := by
    rw [read_kList, harg16.read_unread]
  have eY : arg17.view.read (Elt F) (arg17.view.writes (Elt F) (harg17.unread y1) (vList i (bodyRun.sl.v189 c arg1 harg1 arg2 harg2 arg8 harg8 arg9 harg9 x0 x1 x7 x8))) = carV (i 0).val (bodyRun.sl.v189 c arg1 harg1 arg2 harg2 arg8 harg8 arg9 harg9 x0 x1 x7 x8) y1 := by
    rw [read_vList, harg17.read_unread]
  have e := (st_6 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (st_k1_t5 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_pay172, k1_pay173, k1_pay174, k1_pay172, k1_pay173, k1_pay174) (k1_t5_loop i).trips)).trans
    (st_5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (bodyRun.sl.v303 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_t5_loop i).trips le_rfl)
  rw [eX, eY] at e
  unfold hOut
  rw [← trips_5 i]
  exact congrArg (fun z => hFin (z.1, z.2.1, z.2.2.1)) e

theorem head_5 (y0 : Vec F S12x4x64x512 .bf16) (y1 : Vec F S12x4x512x64 .bf16) :
    bodyRun.sl.r_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1 = hOut i (bodyRun.sl.v260 c arg1 harg1 arg2 harg2 arg4 harg4 arg5 harg5 arg6 harg6 arg7 harg7 x0 x1 x3 x4 x5 x6) 5 (carK (i 0).val (bodyRun.sl.v45 c arg1 harg1 arg2 harg2 arg4 harg4 arg5 harg5 arg6 harg6 arg7 harg7 x0 x1 x3 x4 x5 x6) y0) (carV (i 0).val (bodyRun.sl.v189 c arg1 harg1 arg2 harg2 arg8 harg8 arg9 harg9 x0 x1 x7 x8) y1) := by
  have eX : arg16.view.read (Elt F) (arg16.view.writes (Elt F) (harg16.unread y0) (kList i (bodyRun.sl.v45 c arg1 harg1 arg2 harg2 arg4 harg4 arg5 harg5 arg6 harg6 arg7 harg7 x0 x1 x3 x4 x5 x6))) = carK (i 0).val (bodyRun.sl.v45 c arg1 harg1 arg2 harg2 arg4 harg4 arg5 harg5 arg6 harg6 arg7 harg7 x0 x1 x3 x4 x5 x6) y0 := by
    rw [read_kList, harg16.read_unread]
  have eY : arg17.view.read (Elt F) (arg17.view.writes (Elt F) (harg17.unread y1) (vList i (bodyRun.sl.v189 c arg1 harg1 arg2 harg2 arg8 harg8 arg9 harg9 x0 x1 x7 x8))) = carV (i 0).val (bodyRun.sl.v189 c arg1 harg1 arg2 harg2 arg8 harg8 arg9 harg9 x0 x1 x7 x8) y1 := by
    rw [read_vList, harg17.read_unread]
  have e := (st_6 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (st_k1_t5 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_pay172, k1_pay173, k1_pay174, k1_pay172, k1_pay173, k1_pay174) (k1_t5_loop i).trips)).trans
    (st_5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (bodyRun.sl.v303 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_t5_loop i).trips le_rfl)
  rw [eX, eY] at e
  unfold hOut
  rw [← trips_5 i]
  exact congrArg (fun z => hFin (z.2.2.2.1, z.2.2.2.2.1, z.2.2.2.2.2)) e

theorem head_6 (y0 : Vec F S12x4x64x512 .bf16) (y1 : Vec F S12x4x512x64 .bf16) :
    bodyRun.sl.r_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1 = hOut i (bodyRun.sl.r_1 c arg1 harg1 arg2 harg2 arg4 harg4 arg5 harg5 arg6 harg6 arg7 harg7 x0 x1 x3 x4 x5 x6) 6 (carK (i 0).val (bodyRun.sl.v45 c arg1 harg1 arg2 harg2 arg4 harg4 arg5 harg5 arg6 harg6 arg7 harg7 x0 x1 x3 x4 x5 x6) y0) (carV (i 0).val (bodyRun.sl.v189 c arg1 harg1 arg2 harg2 arg8 harg8 arg9 harg9 x0 x1 x7 x8) y1) := by
  have eX : arg16.view.read (Elt F) (arg16.view.writes (Elt F) (harg16.unread y0) (kList i (bodyRun.sl.v45 c arg1 harg1 arg2 harg2 arg4 harg4 arg5 harg5 arg6 harg6 arg7 harg7 x0 x1 x3 x4 x5 x6))) = carK (i 0).val (bodyRun.sl.v45 c arg1 harg1 arg2 harg2 arg4 harg4 arg5 harg5 arg6 harg6 arg7 harg7 x0 x1 x3 x4 x5 x6) y0 := by
    rw [read_kList, harg16.read_unread]
  have eY : arg17.view.read (Elt F) (arg17.view.writes (Elt F) (harg17.unread y1) (vList i (bodyRun.sl.v189 c arg1 harg1 arg2 harg2 arg8 harg8 arg9 harg9 x0 x1 x7 x8))) = carV (i 0).val (bodyRun.sl.v189 c arg1 harg1 arg2 harg2 arg8 harg8 arg9 harg9 x0 x1 x7 x8) y1 := by
    rw [read_vList, harg17.read_unread]
  have e := (st_8 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (bodyRun.sl.v317 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (st_k1_t7 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_pay172, k1_pay173, k1_pay174, k1_pay172, k1_pay173, k1_pay174) (k1_t7_loop i).trips)).trans
    (st_7 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (bodyRun.sl.v303 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_t7_loop i).trips le_rfl)
  rw [eX, eY] at e
  unfold hOut
  rw [← trips_7 i]
  exact congrArg (fun z => hFin (z.1, z.2.1, z.2.2.1)) e

theorem head_7 (y0 : Vec F S12x4x64x512 .bf16) (y1 : Vec F S12x4x512x64 .bf16) :
    bodyRun.sl.r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1 = hOut i (bodyRun.sl.r_2 c arg1 harg1 arg2 harg2 arg4 harg4 arg5 harg5 arg6 harg6 arg7 harg7 x0 x1 x3 x4 x5 x6) 7 (carK (i 0).val (bodyRun.sl.v45 c arg1 harg1 arg2 harg2 arg4 harg4 arg5 harg5 arg6 harg6 arg7 harg7 x0 x1 x3 x4 x5 x6) y0) (carV (i 0).val (bodyRun.sl.v189 c arg1 harg1 arg2 harg2 arg8 harg8 arg9 harg9 x0 x1 x7 x8) y1) := by
  have eX : arg16.view.read (Elt F) (arg16.view.writes (Elt F) (harg16.unread y0) (kList i (bodyRun.sl.v45 c arg1 harg1 arg2 harg2 arg4 harg4 arg5 harg5 arg6 harg6 arg7 harg7 x0 x1 x3 x4 x5 x6))) = carK (i 0).val (bodyRun.sl.v45 c arg1 harg1 arg2 harg2 arg4 harg4 arg5 harg5 arg6 harg6 arg7 harg7 x0 x1 x3 x4 x5 x6) y0 := by
    rw [read_kList, harg16.read_unread]
  have eY : arg17.view.read (Elt F) (arg17.view.writes (Elt F) (harg17.unread y1) (vList i (bodyRun.sl.v189 c arg1 harg1 arg2 harg2 arg8 harg8 arg9 harg9 x0 x1 x7 x8))) = carV (i 0).val (bodyRun.sl.v189 c arg1 harg1 arg2 harg2 arg8 harg8 arg9 harg9 x0 x1 x7 x8) y1 := by
    rw [read_vList, harg17.read_unread]
  have e := (st_8 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (bodyRun.sl.v317 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (st_k1_t7 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_pay172, k1_pay173, k1_pay174, k1_pay172, k1_pay173, k1_pay174) (k1_t7_loop i).trips)).trans
    (st_7 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (bodyRun.sl.v303 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_t7_loop i).trips le_rfl)
  rw [eX, eY] at e
  unfold hOut
  rw [← trips_7 i]
  exact congrArg (fun z => hFin (z.2.2.2.1, z.2.2.2.2.1, z.2.2.2.2.2)) e

theorem head_8 (y0 : Vec F S12x4x64x512 .bf16) (y1 : Vec F S12x4x512x64 .bf16) :
    bodyRun.sl.r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1 = hOut i (bodyRun.sl.r_3 c arg1 harg1 arg2 harg2 arg4 harg4 arg5 harg5 arg6 harg6 arg7 harg7 x0 x1 x3 x4 x5 x6) 8 (carK (i 0).val (bodyRun.sl.v45 c arg1 harg1 arg2 harg2 arg4 harg4 arg5 harg5 arg6 harg6 arg7 harg7 x0 x1 x3 x4 x5 x6) y0) (carV (i 0).val (bodyRun.sl.v189 c arg1 harg1 arg2 harg2 arg8 harg8 arg9 harg9 x0 x1 x7 x8) y1) := by
  have eX : arg16.view.read (Elt F) (arg16.view.writes (Elt F) (harg16.unread y0) (kList i (bodyRun.sl.v45 c arg1 harg1 arg2 harg2 arg4 harg4 arg5 harg5 arg6 harg6 arg7 harg7 x0 x1 x3 x4 x5 x6))) = carK (i 0).val (bodyRun.sl.v45 c arg1 harg1 arg2 harg2 arg4 harg4 arg5 harg5 arg6 harg6 arg7 harg7 x0 x1 x3 x4 x5 x6) y0 := by
    rw [read_kList, harg16.read_unread]
  have eY : arg17.view.read (Elt F) (arg17.view.writes (Elt F) (harg17.unread y1) (vList i (bodyRun.sl.v189 c arg1 harg1 arg2 harg2 arg8 harg8 arg9 harg9 x0 x1 x7 x8))) = carV (i 0).val (bodyRun.sl.v189 c arg1 harg1 arg2 harg2 arg8 harg8 arg9 harg9 x0 x1 x7 x8) y1 := by
    rw [read_vList, harg17.read_unread]
  have e := (st_10 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (bodyRun.sl.v331 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (st_k1_t9 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_pay172, k1_pay173, k1_pay174, k1_pay172, k1_pay173, k1_pay174) (k1_t9_loop i).trips)).trans
    (st_9 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (bodyRun.sl.v303 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_t9_loop i).trips le_rfl)
  rw [eX, eY] at e
  unfold hOut
  rw [← trips_9 i]
  exact congrArg (fun z => hFin (z.1, z.2.1, z.2.2.1)) e

theorem head_9 (y0 : Vec F S12x4x64x512 .bf16) (y1 : Vec F S12x4x512x64 .bf16) :
    bodyRun.sl.r_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1 = hOut i (bodyRun.sl.r_4 c arg1 harg1 arg2 harg2 arg4 harg4 arg5 harg5 arg6 harg6 arg7 harg7 x0 x1 x3 x4 x5 x6) 9 (carK (i 0).val (bodyRun.sl.v45 c arg1 harg1 arg2 harg2 arg4 harg4 arg5 harg5 arg6 harg6 arg7 harg7 x0 x1 x3 x4 x5 x6) y0) (carV (i 0).val (bodyRun.sl.v189 c arg1 harg1 arg2 harg2 arg8 harg8 arg9 harg9 x0 x1 x7 x8) y1) := by
  have eX : arg16.view.read (Elt F) (arg16.view.writes (Elt F) (harg16.unread y0) (kList i (bodyRun.sl.v45 c arg1 harg1 arg2 harg2 arg4 harg4 arg5 harg5 arg6 harg6 arg7 harg7 x0 x1 x3 x4 x5 x6))) = carK (i 0).val (bodyRun.sl.v45 c arg1 harg1 arg2 harg2 arg4 harg4 arg5 harg5 arg6 harg6 arg7 harg7 x0 x1 x3 x4 x5 x6) y0 := by
    rw [read_kList, harg16.read_unread]
  have eY : arg17.view.read (Elt F) (arg17.view.writes (Elt F) (harg17.unread y1) (vList i (bodyRun.sl.v189 c arg1 harg1 arg2 harg2 arg8 harg8 arg9 harg9 x0 x1 x7 x8))) = carV (i 0).val (bodyRun.sl.v189 c arg1 harg1 arg2 harg2 arg8 harg8 arg9 harg9 x0 x1 x7 x8) y1 := by
    rw [read_vList, harg17.read_unread]
  have e := (st_10 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (bodyRun.sl.v331 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (st_k1_t9 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_pay172, k1_pay173, k1_pay174, k1_pay172, k1_pay173, k1_pay174) (k1_t9_loop i).trips)).trans
    (st_9 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (bodyRun.sl.v303 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_t9_loop i).trips le_rfl)
  rw [eX, eY] at e
  unfold hOut
  rw [← trips_9 i]
  exact congrArg (fun z => hFin (z.2.2.2.1, z.2.2.2.2.1, z.2.2.2.2.2)) e

theorem head_10 (y0 : Vec F S12x4x64x512 .bf16) (y1 : Vec F S12x4x512x64 .bf16) :
    bodyRun.sl.v350 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1 = hOut i (bodyRun.sl.r_5 c arg1 harg1 arg2 harg2 arg4 harg4 arg5 harg5 arg6 harg6 arg7 harg7 x0 x1 x3 x4 x5 x6) 10 (carK (i 0).val (bodyRun.sl.v45 c arg1 harg1 arg2 harg2 arg4 harg4 arg5 harg5 arg6 harg6 arg7 harg7 x0 x1 x3 x4 x5 x6) y0) (carV (i 0).val (bodyRun.sl.v189 c arg1 harg1 arg2 harg2 arg8 harg8 arg9 harg9 x0 x1 x7 x8) y1) := by
  have eX : arg16.view.read (Elt F) (arg16.view.writes (Elt F) (harg16.unread y0) (kList i (bodyRun.sl.v45 c arg1 harg1 arg2 harg2 arg4 harg4 arg5 harg5 arg6 harg6 arg7 harg7 x0 x1 x3 x4 x5 x6))) = carK (i 0).val (bodyRun.sl.v45 c arg1 harg1 arg2 harg2 arg4 harg4 arg5 harg5 arg6 harg6 arg7 harg7 x0 x1 x3 x4 x5 x6) y0 := by
    rw [read_kList, harg16.read_unread]
  have eY : arg17.view.read (Elt F) (arg17.view.writes (Elt F) (harg17.unread y1) (vList i (bodyRun.sl.v189 c arg1 harg1 arg2 harg2 arg8 harg8 arg9 harg9 x0 x1 x7 x8))) = carV (i 0).val (bodyRun.sl.v189 c arg1 harg1 arg2 harg2 arg8 harg8 arg9 harg9 x0 x1 x7 x8) y1 := by
    rw [read_vList, harg17.read_unread]
  have e := (st_12 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (bodyRun.sl.v345 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (st_k1_t11 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_pay172, k1_pay173, k1_pay174, k1_pay172, k1_pay173, k1_pay174) (k1_t11_loop i).trips)).trans
    (st_11 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (bodyRun.sl.v303 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_t11_loop i).trips le_rfl)
  rw [eX, eY] at e
  unfold hOut
  rw [← trips_11 i]
  exact congrArg (fun z => hFin (z.1, z.2.1, z.2.2.1)) e

theorem head_11 (y0 : Vec F S12x4x64x512 .bf16) (y1 : Vec F S12x4x512x64 .bf16) :
    bodyRun.sl.v353 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1 = hOut i (bodyRun.sl.r_6 c arg1 harg1 arg2 harg2 arg4 harg4 arg5 harg5 arg6 harg6 arg7 harg7 x0 x1 x3 x4 x5 x6) 11 (carK (i 0).val (bodyRun.sl.v45 c arg1 harg1 arg2 harg2 arg4 harg4 arg5 harg5 arg6 harg6 arg7 harg7 x0 x1 x3 x4 x5 x6) y0) (carV (i 0).val (bodyRun.sl.v189 c arg1 harg1 arg2 harg2 arg8 harg8 arg9 harg9 x0 x1 x7 x8) y1) := by
  have eX : arg16.view.read (Elt F) (arg16.view.writes (Elt F) (harg16.unread y0) (kList i (bodyRun.sl.v45 c arg1 harg1 arg2 harg2 arg4 harg4 arg5 harg5 arg6 harg6 arg7 harg7 x0 x1 x3 x4 x5 x6))) = carK (i 0).val (bodyRun.sl.v45 c arg1 harg1 arg2 harg2 arg4 harg4 arg5 harg5 arg6 harg6 arg7 harg7 x0 x1 x3 x4 x5 x6) y0 := by
    rw [read_kList, harg16.read_unread]
  have eY : arg17.view.read (Elt F) (arg17.view.writes (Elt F) (harg17.unread y1) (vList i (bodyRun.sl.v189 c arg1 harg1 arg2 harg2 arg8 harg8 arg9 harg9 x0 x1 x7 x8))) = carV (i 0).val (bodyRun.sl.v189 c arg1 harg1 arg2 harg2 arg8 harg8 arg9 harg9 x0 x1 x7 x8) y1 := by
    rw [read_vList, harg17.read_unread]
  have e := (st_12 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (bodyRun.sl.v345 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (st_k1_t11 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (0#32) (bodyRun.sl.v303 i) (1#32) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_pay172, k1_pay173, k1_pay174, k1_pay172, k1_pay173, k1_pay174) (k1_t11_loop i).trips)).trans
    (st_11 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑(i 0)) (bodyRun.sl.v253 i) bodyRun.sl.v254 (bodyRun.sl.v259 c arg1 harg1 arg2 harg2 arg4 harg4 arg5 harg5 arg6 harg6 arg7 harg7 x0 x1 x3 x4 x5 x6) (bodyRun.sl.v260 c arg1 harg1 arg2 harg2 arg4 harg4 arg5 harg5 arg6 harg6 arg7 harg7 x0 x1 x3 x4 x5 x6) (bodyRun.sl.r_1 c arg1 harg1 arg2 harg2 arg4 harg4 arg5 harg5 arg6 harg6 arg7 harg7 x0 x1 x3 x4 x5 x6) (bodyRun.sl.r_2 c arg1 harg1 arg2 harg2 arg4 harg4 arg5 harg5 arg6 harg6 arg7 harg7 x0 x1 x3 x4 x5 x6) (bodyRun.sl.r_3 c arg1 harg1 arg2 harg2 arg4 harg4 arg5 harg5 arg6 harg6 arg7 harg7 x0 x1 x3 x4 x5 x6) (bodyRun.sl.r_4 c arg1 harg1 arg2 harg2 arg4 harg4 arg5 harg5 arg6 harg6 arg7 harg7 x0 x1 x3 x4 x5 x6) (bodyRun.sl.r_5 c arg1 harg1 arg2 harg2 arg4 harg4 arg5 harg5 arg6 harg6 arg7 harg7 x0 x1 x3 x4 x5 x6) (bodyRun.sl.r_6 c arg1 harg1 arg2 harg2 arg4 harg4 arg5 harg5 arg6 harg6 arg7 harg7 x0 x1 x3 x4 x5 x6) k1_pay172 k1_pay173 k1_pay174 (bodyRun.sl.v303 i) (arg16.view.writes (Elt F) (harg16.unread y0) (kList i (bodyRun.sl.v45 c arg1 harg1 arg2 harg2 arg4 harg4 arg5 harg5 arg6 harg6 arg7 harg7 x0 x1 x3 x4 x5 x6))) (arg17.view.writes (Elt F) (harg17.unread y1) (vList i (bodyRun.sl.v189 c arg1 harg1 arg2 harg2 arg8 harg8 arg9 harg9 x0 x1 x7 x8))) (k1_t11_loop i).trips le_rfl)
  rw [eX, eY] at e
  unfold hOut
  rw [← trips_11 i]
  exact congrArg (fun z => hFin (z.2.2.2.1, z.2.2.2.2.1, z.2.2.2.2.2)) e

end Cert.KernelIdeal.Hand

end
-- ==== Proof.KernelIdeal.Out.lean ====
/- What one run of the main body leaves: the stored pieces of the carried buffers, and an output that does not depend on what the buffers held past the query block. -/
module

public import proofs.«01_k».proof.Proof.KernelIdeal.Ctx

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole)
    (x0 : Vec F S512x768 .f32) (x1 : Vec F S1x768 .f32) (x2 : Vec F S1x768 .f32) (x3 : Vec F S512x64 .f32) (x4 : Vec F S512x64 .f32) (x5 : Vec F S64x768 .f32) (x6 : Vec F S768x3072 .bf16) (x7 : Vec F S8x768x768 .bf16) (x8 : Vec F S768x8 .f32) (x9 : Vec F S8x768x768 .bf16) (x10 : Vec F S768x8 .f32) (x11 : Vec F S8x768x256 .bf16) (x12 : Vec F S8x256x768 .bf16) (x13 : Vec F S768x16 .f32)

theorem keys_eq (y0 : Vec F S12x4x64x512 .bf16) (y1 : Vec F S12x4x512x64 .bf16) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y0 y1).1.2.1 = kList i (bodyRun.sl.v45 c arg1 harg1 arg2 harg2 arg4 harg4 arg5 harg5 arg6 harg6 arg7 harg7 x0 x1 x3 x4 x5 x6) := by
  delta bodyRun; rfl

theorem vals_eq (y0 : Vec F S12x4x64x512 .bf16) (y1 : Vec F S12x4x512x64 .bf16) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y0 y1).1.2.2 = vList i (bodyRun.sl.v189 c arg1 harg1 arg2 harg2 arg8 harg8 arg9 harg9 x0 x1 x7 x8) := by
  delta bodyRun; rfl

/-- The joined heads depend on the carried buffers at earlier blocks alone. -/
theorem ctx_congr (y0 y0' : Vec F S12x4x64x512 .bf16) (y1 y1' : Vec F S12x4x512x64 .bf16) (h0 : ∀ y : S12x4x64x512.Idx, (y 1).val < (i 0).val → y0 y = y0' y) (h1 : ∀ y : S12x4x512x64.Idx, (y 1).val < (i 0).val → y1 y = y1' y) :
    bodyRun.sl.v354 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1 = bodyRun.sl.v354 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0' y1' := by
  have hX : ∀ y, (y 1).val ≤ (i 0).val → carK (i 0).val (bodyRun.sl.v45 c arg1 harg1 arg2 harg2 arg4 harg4 arg5 harg5 arg6 harg6 arg7 harg7 x0 x1 x3 x4 x5 x6) y0 y = carK (i 0).val (bodyRun.sl.v45 c arg1 harg1 arg2 harg2 arg4 harg4 arg5 harg5 arg6 harg6 arg7 harg7 x0 x1 x3 x4 x5 x6) y0' y := by
    intro y hy
    unfold carK
    split
    · rfl
    · exact h0 y (by omega)
  have hY : ∀ y, (y 1).val ≤ (i 0).val → carV (i 0).val (bodyRun.sl.v189 c arg1 harg1 arg2 harg2 arg8 harg8 arg9 harg9 x0 x1 x7 x8) y1 y = carV (i 0).val (bodyRun.sl.v189 c arg1 harg1 arg2 harg2 arg8 harg8 arg9 harg9 x0 x1 x7 x8) y1' y := by
    intro y hy
    unfold carV
    split
    · rfl
    · exact h1 y (by omega)
  unfold bodyRun.sl.v354
  rw [head_0, head_1, head_2, head_3, head_4, head_5, head_6, head_7, head_8, head_9, head_10, head_11]
  rw [head_0, head_1, head_2, head_3, head_4, head_5, head_6, head_7, head_8, head_9, head_10, head_11]
  rw [hOut_congr i (bodyRun.sl.v255 c arg1 harg1 arg2 harg2 arg4 harg4 arg5 harg5 arg6 harg6 arg7 harg7 x0 x1 x3 x4 x5 x6) 0 _ _ _ _ hX hY]
  rw [hOut_congr i (bodyRun.sl.v256 c arg1 harg1 arg2 harg2 arg4 harg4 arg5 harg5 arg6 harg6 arg7 harg7 x0 x1 x3 x4 x5 x6) 1 _ _ _ _ hX hY]
  rw [hOut_congr i (bodyRun.sl.v257 c arg1 harg1 arg2 harg2 arg4 harg4 arg5 harg5 arg6 harg6 arg7 harg7 x0 x1 x3 x4 x5 x6) 2 _ _ _ _ hX hY]
  rw [hOut_congr i (bodyRun.sl.v258 c arg1 harg1 arg2 harg2 arg4 harg4 arg5 harg5 arg6 harg6 arg7 harg7 x0 x1 x3 x4 x5 x6) 3 _ _ _ _ hX hY]
  rw [hOut_congr i (bodyRun.sl.v259 c arg1 harg1 arg2 harg2 arg4 harg4 arg5 harg5 arg6 harg6 arg7 harg7 x0 x1 x3 x4 x5 x6) 4 _ _ _ _ hX hY]
  rw [hOut_congr i (bodyRun.sl.v260 c arg1 harg1 arg2 harg2 arg4 harg4 arg5 harg5 arg6 harg6 arg7 harg7 x0 x1 x3 x4 x5 x6) 5 _ _ _ _ hX hY]
  rw [hOut_congr i (bodyRun.sl.r_1 c arg1 harg1 arg2 harg2 arg4 harg4 arg5 harg5 arg6 harg6 arg7 harg7 x0 x1 x3 x4 x5 x6) 6 _ _ _ _ hX hY]
  rw [hOut_congr i (bodyRun.sl.r_2 c arg1 harg1 arg2 harg2 arg4 harg4 arg5 harg5 arg6 harg6 arg7 harg7 x0 x1 x3 x4 x5 x6) 7 _ _ _ _ hX hY]
  rw [hOut_congr i (bodyRun.sl.r_3 c arg1 harg1 arg2 harg2 arg4 harg4 arg5 harg5 arg6 harg6 arg7 harg7 x0 x1 x3 x4 x5 x6) 8 _ _ _ _ hX hY]
  rw [hOut_congr i (bodyRun.sl.r_4 c arg1 harg1 arg2 harg2 arg4 harg4 arg5 harg5 arg6 harg6 arg7 harg7 x0 x1 x3 x4 x5 x6) 9 _ _ _ _ hX hY]
  rw [hOut_congr i (bodyRun.sl.r_5 c arg1 harg1 arg2 harg2 arg4 harg4 arg5 harg5 arg6 harg6 arg7 harg7 x0 x1 x3 x4 x5 x6) 10 _ _ _ _ hX hY]
  rw [hOut_congr i (bodyRun.sl.r_6 c arg1 harg1 arg2 harg2 arg4 harg4 arg5 harg5 arg6 harg6 arg7 harg7 x0 x1 x3 x4 x5 x6) 11 _ _ _ _ hX hY]

set_option maxHeartbeats 4000000 in
/-- So does what the body stores in its output block. -/
theorem out_congr (y0 y0' : Vec F S12x4x64x512 .bf16) (y1 y1' : Vec F S12x4x512x64 .bf16) (h0 : ∀ y : S12x4x64x512.Idx, (y 1).val < (i 0).val → y0 y = y0' y) (h1 : ∀ y : S12x4x512x64.Idx, (y 1).val < (i 0).val → y1 y = y1' y) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y0 y1).1.1 = (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y0' y1').1.1 := by
  have hc := ctx_congr c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y0' y1 y1' h0 h1
  delta bodyRun
  dsimp only
  simp only [bodyRun.sl.v606, bodyRun.sl.v635, bodyRun.sl.v589, bodyRun.sl.v591, bodyRun.sl.v429, bodyRun.sl.v497, bodyRun.sl.v484, bodyRun.sl.v405, bodyRun.sl.v460, bodyRun.sl.v442, bodyRun.sl.v449, bodyRun.sl.v441, bodyRun.sl.v426, bodyRun.sl.v541, bodyRun.sl.v501, bodyRun.sl.v438, bodyRun.sl.v408, bodyRun.sl.v456, bodyRun.sl.v549, bodyRun.sl.v553, bodyRun.sl.v590, bodyRun.sl.v572, bodyRun.sl.v520, bodyRun.sl.v448, bodyRun.sl.v571, bodyRun.sl.v526, bodyRun.sl.v561, bodyRun.sl.v630, bodyRun.sl.v471, bodyRun.sl.v534, bodyRun.sl.v629, bodyRun.sl.v617, bodyRun.sl.v556, bodyRun.sl.v476, bodyRun.sl.v546, bodyRun.sl.v398, bodyRun.sl.v586, bodyRun.sl.v516, bodyRun.sl.v566, bodyRun.sl.v469, bodyRun.sl.v551, bodyRun.sl.v509, bodyRun.sl.v521, bodyRun.sl.v473, bodyRun.sl.v436, bodyRun.sl.v604, bodyRun.sl.v532, bodyRun.sl.v636, bodyRun.sl.v531, bodyRun.sl.v463, bodyRun.sl.v615, bodyRun.sl.v550, bodyRun.sl.v453, bodyRun.sl.v601, bodyRun.sl.v613, bodyRun.sl.v506, bodyRun.sl.v513, bodyRun.sl.v577, bodyRun.sl.v437, bodyRun.sl.v464, bodyRun.sl.v467, bodyRun.sl.v633, bodyRun.sl.v544, bodyRun.sl.v452, bodyRun.sl.v423, bodyRun.sl.v624, bodyRun.sl.v540, bodyRun.sl.v401, bodyRun.sl.v384, bodyRun.sl.v455, bodyRun.sl.v614, bodyRun.sl.v475, bodyRun.sl.v596, bodyRun.sl.v515, bodyRun.sl.v472, bodyRun.sl.v470, bodyRun.sl.v490, bodyRun.sl.v511, bodyRun.sl.v395, bodyRun.sl.v529, bodyRun.sl.v530, bodyRun.sl.v419, bodyRun.sl.v443, bodyRun.sl.v593, bodyRun.sl.v387, bodyRun.sl.v415, bodyRun.sl.v575, bodyRun.sl.v609, bodyRun.sl.v573, bodyRun.sl.v620, bodyRun.sl.v412, bodyRun.sl.v433, bodyRun.sl.v576, bodyRun.sl.v580, bodyRun.sl.v457, bodyRun.sl.v584, bodyRun.sl.v489, bodyRun.sl.v510, bodyRun.sl.v462, bodyRun.sl.v594, bodyRun.sl.v478, bodyRun.sl.v479, bodyRun.sl.v524, bodyRun.sl.v626, bodyRun.sl.v504, bodyRun.sl.v422, bodyRun.sl.v500, bodyRun.sl.v536, bodyRun.sl.v495, bodyRun.sl.v600, bodyRun.sl.v560, bodyRun.sl.v533, bodyRun.sl.v535, bodyRun.sl.v394, bodyRun.sl.v450, bodyRun.sl.v477, bodyRun.sl.v517, bodyRun.sl.v388, bodyRun.sl.v496, bodyRun.sl.v611, bodyRun.sl.v493, bodyRun.sl.v402, bodyRun.sl.v491, bodyRun.sl.v569, bodyRun.sl.v574, bodyRun.sl.v486, bodyRun.sl.v581, bodyRun.sl.v616, bodyRun.sl.v570, bodyRun.sl.v494, bodyRun.sl.v595, bodyRun.sl.v492, bodyRun.sl.v537, bodyRun.sl.v430, bodyRun.sl.v597, bodyRun.sl.v637, bodyRun.sl.v447, bodyRun.sl.v621, bodyRun.sl.v557, bodyRun.sl.v391, bodyRun.sl.v564, bodyRun.sl.v634, bodyRun.sl.v554, bodyRun.sl.v612, bodyRun.sl.v552, bodyRun.sl.v409, bodyRun.sl.v461, bodyRun.sl.v592, bodyRun.sl.v632, bodyRun.sl.v555, bodyRun.sl.v416, bodyRun.sl.v512, bodyRun.sl.v514, bodyRun.sl.v631, bodyRun.sl.v445, bodyRun.sl.v610, hc]

/-- The stores of a point cover its output block. -/
theorem cover_out (y0 : Vec F S12x4x64x512 .bf16) (y1 : Vec F S12x4x512x64 .bf16) (y : S512x768.Idx) :
    ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y0 y1).1.1, y ∈ pc.1.set :=
  View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y0 y1).1.1 S512x768.size (by sl_kernel_rfl) y

end Cert.KernelIdeal.Hand

end
-- ==== Proof.KernelIdeal.Region1.lean ====
/- The second call at one grid point: what its buffers hold before and after, with the keys and values of the earlier points carried in the two scratch buffers. -/
module

public import proofs.«01_k».proof.Proof.KernelIdeal.Out
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions

-- what the core's buffers hold when the call begins
variable (V : (c : Dev nD) → (b : Ref sig .tc) → Buf (Elt F) ((c : Thread nD τ).loc b))

/-- Block `t` of window `w`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window holds its block at every point, whether it was fetched there or is still in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- A whole buffer of the output block's shape, to read the stored pieces back from. -/
abbrev VO1_14 : View sig .tc .vmem S512x768 .f32 := (Memref.whole cc1_stg14_0 : Memref sig .tc .vmem S512x768 .f32).view
abbrev ms1_0 (t : Fin cfg1.N) : Memref sig .tc .vmem S512x768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x768 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x768 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S768x3072 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x768x768 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S768x8 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S8x768x768 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S768x8 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S8x768x256 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S8x256x768 .bf16 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S768x16 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S512x768 .f32 := win1_14.stage (cfg1.slots t 14)
abbrev hs1_14 (t : Fin cfg1.N) : (ms1_14 t).IsWhole := hstage1_14 ((cfg1.slots t 14).cast nbuf1_14)
abbrev scM1_0 : Memref sig .tc .vmem S12x4x64x512 .bf16 := Memref.whole cc1_scratch0
abbrev scM1_1 : Memref sig .tc .vmem S12x4x512x64 .bf16 := Memref.whole cc1_scratch1

/-- The scoped buffers the call does not use. -/
def idleBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The grid is one axis, walked in order. -/
theorem coords1 (t : Fin cfg1.N) : (grid1.coords t 0).val = t.val := by
  revert t; decide

/-- The key block computed at point `t`, and the value block. -/
def kAt (c : Dev nD) (t : Fin cfg1.N) : FVec F S768x512 .bf16 := bodyRun.sl.v45 c (ms1_0 t) (hs1_0 t) (ms1_1 t) (hs1_1 t) (ms1_3 t) (hs1_3 t) (ms1_4 t) (hs1_4 t) (ms1_5 t) (hs1_5 t) (ms1_6 t) (hs1_6 t) (iblk1 V c 0 t) (iblk1 V c 1 t) (iblk1 V c 3 t) (iblk1 V c 4 t) (iblk1 V c 5 t) (iblk1 V c 6 t)
def vAt (c : Dev nD) (t : Fin cfg1.N) : FVec F S512x768 .bf16 := bodyRun.sl.v189 c (ms1_0 t) (hs1_0 t) (ms1_1 t) (hs1_1 t) (ms1_7 t) (hs1_7 t) (ms1_8 t) (hs1_8 t) (iblk1 V c 0 t) (iblk1 V c 1 t) (iblk1 V c 7 t) (iblk1 V c 8 t)

/-- All keys and all values, block by block, as the points of the grid compute them. -/
def KT (c : Dev nD) : Vec F S12x4x64x512 .bf16 := fun y => kNew (kAt V c ⟨(y 1).val, (y 1).isLt⟩) y
def VT (c : Dev nD) : Vec F S12x4x512x64 .bf16 := fun y => vNew (vAt V c ⟨(y 1).val, (y 1).isLt⟩) y

theorem KT_of (c : Dev nD) (t : Fin cfg1.N) (y : S12x4x64x512.Idx) (h : (y 1).val = t.val) : KT V c y = kNew (kAt V c t) y := by
  unfold KT; congr 2; exact Fin.ext h
theorem VT_of (c : Dev nD) (t : Fin cfg1.N) (y : S12x4x512x64.Idx) (h : (y 1).val = t.val) : VT V c y = vNew (vAt V c t) y := by
  unfold VT; congr 2; exact Fin.ext h

/-- Scratch contents agreeing with the keys and values of the blocks before `n`. -/
def agree (c : Dev nD) (n : ℕ) (X : Vec F S12x4x64x512 .bf16) (Y : Vec F S12x4x512x64 .bf16) : Prop :=
  (∀ y, (y 1).val < n → X y = KT V c y) ∧ ∀ y, (y 1).val < n → Y y = VT V c y

theorem agree_zero (c : Dev nD) (X : Vec F S12x4x64x512 .bf16) (Y : Vec F S12x4x512x64 .bf16) : agree V c 0 X Y :=
  ⟨fun _ h => absurd h (Nat.not_lt_zero _), fun _ h => absurd h (Nat.not_lt_zero _)⟩

theorem agree_succ (c : Dev nD) (t : Fin cfg1.N) (X : Vec F S12x4x64x512 .bf16) (Y : Vec F S12x4x512x64 .bf16)
    (h : agree V c t.val X Y) :
    agree V c (t.val + 1) (carK (grid1.coords t 0).val (kAt V c t) X) (carV (grid1.coords t 0).val (vAt V c t) Y) := by
  constructor
  · intro y hy
    unfold carK
    rw [coords1]
    split
    · rename_i e; exact (KT_of V c t y e).symm
    · rename_i e; exact h.1 y (by omega)
  · intro y hy
    unfold carV
    rw [coords1]
    split
    · rename_i e; exact (VT_of V c t y e).symm
    · rename_i e; exact h.2 y (by omega)

/-- What is kept between points: the unused buffers, the two scratch buffers with the earlier blocks in place, and the
    generator register. -/
def PhiAt (c : Dev nD) (n : ℕ) : sProp 𝕄 :=
  iprop((idleBufs c ∗ ∃ X, ∃ Y, ⌜agree V c n X Y⌝ ∗ owns (c : Thread nD τ) scM1_0 fullShare X ∗ owns (c : Thread nD τ) scM1_1 fullShare Y) ∗ (∃ r, prngReg c r))

theorem PhiAt_in (c : Dev nD) : (Pipeline.ΦA spec1 c : sProp 𝕄) ⊢ PhiAt V c 0 := by
  rw [PhiA1_eq]; unfold PhiAt idleBufs
  iintro ⟨⟨HR0, HR1, HR2, HR3, HR4, HR5, HR6, HR7, HR8, HR9, HR10, HR11, HR12, HR13, HR14, HR15, HR16, HR17, HR18, ⟨%X, HS0⟩, ⟨%Y, HS1⟩⟩, Hg⟩
  isplitl [HR0 HR1 HR2 HR3 HR4 HR5 HR6 HR7 HR8 HR9 HR10 HR11 HR12 HR13 HR14 HR15 HR16 HR17 HR18 HS0 HS1]
  · isplitl [HR0 HR1 HR2 HR3 HR4 HR5 HR6 HR7 HR8 HR9 HR10 HR11 HR12 HR13 HR14 HR15 HR16 HR17 HR18]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      iexact HR18
    · iexists X; iexists Y; isplitr
      · ipureintro; exact agree_zero V c X Y
      isplitl [HS0]
      · iexact HS0
      iexact HS1
  iexact Hg

theorem PhiAt_out (c : Dev nD) (n : ℕ) : PhiAt V c n ⊢ (Pipeline.ΦA spec1 c : sProp 𝕄) := by
  rw [PhiA1_eq]; unfold PhiAt idleBufs
  iintro ⟨⟨⟨HR0, HR1, HR2, HR3, HR4, HR5, HR6, HR7, HR8, HR9, HR10, HR11, HR12, HR13, HR14, HR15, HR16, HR17, HR18⟩, ⟨%X, %Y, %h, HS0, HS1⟩⟩, Hg⟩
  isplitl [HR0 HR1 HR2 HR3 HR4 HR5 HR6 HR7 HR8 HR9 HR10 HR11 HR12 HR13 HR14 HR15 HR16 HR17 HR18 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HS0]
    · iexists X; iexact HS0
    · iexists Y; iexact HS1
  iexact Hg

/-- What the output's buffer holds after point `t`. -/
def outsAt1 (c : Dev nD) (t : Fin cfg1.N) : Vec F S512x768 .f32 :=
  VO1_14.read (Elt F) (VO1_14.writes (Elt F) VO1_14.junk (bodyRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (KT V c) (VT V c)).1.1)

/-- The proof data of the second call. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => (outsAt1 V c t)
  Φ t := PhiAt V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t))

set_option maxHeartbeats 4000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.castSucc = PhiAt V c t.val from rfl, show (dat1 V c).Φ t.succ = PhiAt V c (t.val + 1) from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  unfold PhiAt outsAt1
  iintro ⟨⟨⟨HI, ⟨%X, %Y, %hag, HS0, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((bodyRun c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) X Y).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  iintro ⟨H0, H1, H2, H3, H4, H5, H6, H7, H8, H9, H10, H11, H12, H13, ⟨%e14, H14⟩, HS0, HS1⟩
  isplitl [HI HS0 HS1 Hg]
  · isplitl [HI HS0 HS1]
    · isplitl [HI]
      · iexact HI
      iexists (carK (grid1.coords t 0).val (kAt V c t) X); iexists (carV (grid1.coords t 0).val (vAt V c t) Y)
      isplitr
      · ipureintro; exact agree_succ V c t X Y hag
      isplitl [HS0]
      · unfold owns; iexists _; isplitr
        swap; · iexact HS0
        ipureintro
        rw [keys_eq, read_kList, Memref.IsWhole.read_unread]; rfl
      · unfold owns; iexists _; isplitr
        swap; · iexact HS1
        ipureintro
        rw [vals_eq, read_vList, Memref.IsWhole.read_unread]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold owns; iexists _; isplitr
  swap; · iexact H14
  ipureintro
  rw [out_congr c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) X (KT V c) Y (VT V c)
    (fun y hy => hag.1 y (by rw [coords1] at hy; exact hy)) (fun y hy => hag.2 y (by rw [coords1] at hy; exact hy))]
  exact View.read_writes_of_cover _ _ _ _ _ (cover_out c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (KT V c) (VT V c))

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Hand

end
-- ==== Proof.KernelIdeal.Frame.lean ====
/- The whole program: host operations, the two calls, the last reshape. Its arguments end unchanged, no counter is left over, and the result buffer holds what the second call wrote. -/
module

public import proofs.«01_k».proof.Proof.KernelIdeal.Region0
public import proofs.«01_k».proof.Proof.KernelIdeal.Region1
public import Idealize.ShloMosaic.Lib.Pipeline.RegionsLoop
public import Idealize.ShloMosaic.Lib.Pipeline.FrameSuffix

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11]

theorem hostOps0_fresh : (hostOps0 : List (HloOp τ sig (Elt F))).Forall fun op => op.fresh = ∅ := by
  simp only [List.Forall]; repeat' constructor
abbrev hostOps0_W : List (Ref sig .tc) := [main_v0, main_v1, main_v2, main_cst, main_v3, main_v4, main_cst_0, main_v5, main_v6, main_cst_1, main_v7, main_v8, main_v9, main_v10, main_v11, main_v12, main_v13, main_v14, main_v15, main_v16, main_v17, main_v18, main_v19, main_c, main_v20, main_v21, main_v22, main_v23, main_v24, main_v25, main_v26, main_v27, main_v28]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v31]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

-- `iapply` of a library lemma stated over `pin pcs a p` unifies with the pinned configuration only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (PhiAt_in (V2 m ρ) c)
    unfold Pipeline.ΦA
    iintro ⟨Hp, -, Hr⟩
    isplitl [Hr]; · iexact Hr
    iexact Hp
  hout c := by
    refine (PhiAt_out (V2 m ρ) c _).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every fair run ends with the arguments unchanged, the result at the last contents, and every counter at zero. -/
theorem run_value : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_v31) = W4 m ρ c (Proc.devRef .tc main_v31))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       h c _ (mem_uc main_v31 (by decide))⟩), funext fun g => hz g (.inr (no_unscoped g.2))⟩)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1, (h.1 c).2.2.2.2.2.2.2.2.2.2.1, (h.1 c).2.2.2.2.2.2.2.2.2.2.2.1⟩, h.2⟩) (run_value m ρ)

end Cert.KernelIdeal.Hand

end
-- ==== Proof.Bits.lean ====
/- The program and its idealization run alike where a named constant is read as its own bits. -/
module

public import proofs.«01_k».proof.Defs
public import proofs.«01_k».proof.Proof.KernelIdeal.Frame
public import proofs.«01_k».proof.Proof.Gen.Kernel
public import proofs.«01_k».proof.Proof.Gen.KernelIdeal
public import Idealize.ShloMosaic.Lib.Tactic

@[expose] public section

set_option maxRecDepth 65536

noncomputable section

namespace Cert.Hand

open Idealize.ShloMosaic Idealize.SL.Sem Idealize.ShloMosaic.Tactic

/-- At the bit-level instance a named constant is the constant it names. -/
abbrev namedBits : Named Bits where
  named _ _ {φ} bits := Scalar.ofBits φ bits

attribute [local instance] namedBits

/-- What the frame of the idealization says at the bit level. -/
def idealFrame : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

theorem idealFrame_holds : idealFrame := fun m g _ => Cert.KernelIdeal.Hand.frame (F := Bits) m g

/-- The program's frame. -/
theorem frame_Kernel : Cert.quiescent_Kernel (hKernel := Cert.Kernel.Gen.facts) := by
  have h : idealFrame = Cert.quiescent_Kernel (hKernel := Cert.Kernel.Gen.facts) := by sl_kernel_rfl
  exact h ▸ idealFrame_holds

end Cert.Hand

end
-- ==== Proof.Gates.lean ====
/- The router's gates: of a row of numbers, the `k` greatest found by a stable descending sort are those with fewer than `k` others before them, and the logistic function keeps that order. -/
module

public import Idealize.ShloMosaic.Lib.SortPrefix
public import Idealize.ShloMosaic.Lib.Pipeline.ValueKit

@[expose] public section

set_option maxRecDepth 16384

noncomputable section

namespace Cert.Gates

open Idealize.ShloMosaic

/-! ## The logistic function on the extended reals -/

/-- On a real number it is the usual quotient. -/
theorem logistic_coe (x : ℝ) : Ideal.logistic (x : EReal) = ((1 / (1 + Real.exp (-x)) : ℝ) : EReal) := by
  have h : (0 : ℝ) < 1 + Real.exp (-x) := by positivity
  have h1 : Ideal.exp (-(x : EReal)) = ((Real.exp (-x) : ℝ) : EReal) := by
    rw [← EReal.coe_neg]; rfl
  unfold Ideal.logistic Ideal.div
  rw [h1, ← EReal.coe_one, ← EReal.coe_add, if_neg (by exact_mod_cast h.ne'), ← EReal.coe_inv, ← EReal.coe_mul, one_div, one_mul]

theorem logistic_bot : Ideal.logistic ⊥ = 0 := by
  unfold Ideal.logistic Ideal.div
  rw [EReal.neg_bot, show Ideal.exp ⊤ = ⊤ from rfl, show (1 : EReal) + ⊤ = ⊤ from EReal.coe_add_top 1, if_neg EReal.top_ne_zero, EReal.inv_top,
    mul_zero]

theorem logistic_top : Ideal.logistic ⊤ = 1 := by
  unfold Ideal.logistic Ideal.div
  rw [EReal.neg_top, show Ideal.exp ⊥ = 0 from rfl]
  simp

/-- Its values are real numbers, none negative. -/
theorem logistic_real (x : EReal) : ∃ y : ℝ, 0 ≤ y ∧ Ideal.logistic x = (y : EReal) := by
  induction x using EReal.rec with
  | bot => exact ⟨0, le_rfl, by rw [logistic_bot]; rfl⟩
  | top => exact ⟨1, zero_le_one, by rw [logistic_top]; rfl⟩
  | coe x => exact ⟨_, by positivity, logistic_coe x⟩

theorem logistic_strictMono : StrictMono Ideal.logistic := by
  intro a b hab
  induction a using EReal.rec with
  | top => exact absurd hab (not_lt.mpr le_top)
  | bot =>
    induction b using EReal.rec with
    | bot => exact absurd hab (lt_irrefl _)
    | top => rw [logistic_bot, logistic_top]; exact zero_lt_one
    | coe y =>
      rw [logistic_bot, logistic_coe]
      have : (0 : ℝ) < 1 / (1 + Real.exp (-y)) := by positivity
      exact_mod_cast this
  | coe x =>
    induction b using EReal.rec with
    | bot => exact absurd hab (not_lt.mpr bot_le)
    | top =>
      rw [logistic_top, logistic_coe]
      have : 1 / (1 + Real.exp (-x)) < 1 := by
        rw [div_lt_one (by positivity)]
        linarith [Real.exp_pos (-x)]
      exact_mod_cast this
    | coe y =>
      rw [logistic_coe, logistic_coe]
      have hxy : x < y := by exact_mod_cast hab
      have : 1 / (1 + Real.exp (-x)) < 1 / (1 + Real.exp (-y)) := by
        apply one_div_lt_one_div_of_lt (by positivity)
        have := Real.exp_lt_exp.mpr (neg_lt_neg hxy)
        linarith
      exact_mod_cast this

/-! ## The first places of a stable descending sort -/

/-- On a list in ascending order, a stable sort is a sort by the order refined by position. -/
theorem stableSort_refine {n : Nat} (B R : Fin n → Fin n → Bool) (h : ∀ a b, a < b → B b a = R b a) (l : List (Fin n))
    (hl : l.Pairwise (· < ·)) : stableSort B l = stableSort R l := by
  induction l with
  | nil => rfl
  | cons a l ih =>
    rw [List.pairwise_cons] at hl
    unfold stableSort
    rw [ih hl.2]
    exact insertBefore_congr B R a _ fun b hb => h a b (hl.1 b ((perm_stableSort R l).mem_iff.mp hb))

variable {n : Nat}

/-- Entry `a` comes before entry `b`: greater, or equal and earlier. -/
def before (s : Fin n → EReal) (a b : Fin n) : Bool := decide (s b < s a) || (decide (s a = s b) && decide (a < b))

/-- How many entries come before entry `e`. -/
def rank (s : Fin n → EReal) (e : Fin n) : Nat := (Finset.univ.filter fun j => before s j e = true).card

theorem before_total (s : Fin n → EReal) : StrictTotalBefore (before s) :=
  StrictTotalBefore.of_key_then_position (fun x y : EReal => decide (y < x)) s (fun a => by simp)
    (fun a b c h₁ h₂ => by
      simp only [decide_eq_true_eq] at *
      exact lt_trans h₂ h₁)
    (fun a b => by
      simp only [decide_eq_true_eq]
      rcases lt_trichotomy b a with h | h | h
      · exact Or.inl h
      · exact Or.inr (Or.inl h.symm)
      · exact Or.inr (Or.inr h))

/-- The comparison the sort is written with. -/
def greater (s : Fin n → EReal) (a b : Fin n) : Bool := FloatOps.cmpfTotal (F := Ideal) (φ := .f32) .gt (s a) (s b) == 1#1

theorem greater_eq (s : Fin n → EReal) (a b : Fin n) : greater s a b = decide (s b < s a) := by
  unfold greater
  rw [show FloatOps.cmpfTotal (F := Ideal) (φ := .f32) .gt (s a) (s b) = BitVec.ofBool (decide (s b < s a)) from rfl]
  cases decide (s b < s a) <;> rfl

theorem sortedFrom_greater (s : Fin n → EReal) : sortedFrom (greater s) = sortedFrom (before s) := by
  have h : sortPositions n (greater s) = sortPositions n (before s) := by
    unfold sortPositions
    refine stableSort_refine _ _ (fun a b hab => ?_) _ (List.pairwise_lt_finRange n)
    rw [greater_eq]
    simp [before, not_lt.mpr hab.le]
  funext k
  unfold sortedFrom
  simp only [h, List.get_eq_getElem, Fin.val_cast]

/-- In the sorted order, before means at a smaller place. -/
theorem before_sortedFrom (s : Fin n → EReal) (p q : Fin n) :
    before s (sortedFrom (before s) q) (sortedFrom (before s) p) = true ↔ q < p := by
  have hB := before_total s
  have hinv : ∀ i j : Fin n, i < j → before s (sortedFrom (before s) j) (sortedFrom (before s) i) = false :=
    sortedFrom_noInversion (before s) (before s) (fun a b h => hB.asymm a b h) (fun _ _ h => h) hB.negTrans
  constructor
  · intro h
    by_contra hle
    rcases lt_or_eq_of_le (not_lt.mp hle) with hlt | heq
    · rw [hinv p q hlt] at h; exact absurd h (by decide)
    · rw [heq, hB.irrefl] at h; exact absurd h (by decide)
  · intro h
    rcases hB.total _ _ (fun e => h.ne (sortedFrom_injective (before s) e)) with h' | h'
    · exact h'
    · rw [hinv q p h] at h'; exact absurd h' (by decide)

/-- The place an entry lands at is the number of entries before it. -/
theorem rank_sortedFrom (s : Fin n → EReal) (p : Fin n) : rank s (sortedFrom (before s) p) = p.val := by
  unfold rank
  have : (Finset.univ.filter fun j => before s j (sortedFrom (before s) p) = true)
      = (Finset.Iio p).map ⟨sortedFrom (before s), sortedFrom_injective _⟩ := by
    ext j
    simp only [Finset.mem_filter, Finset.mem_univ, true_and, Finset.mem_map, Finset.mem_Iio, Function.Embedding.coeFn_mk]
    constructor
    · intro h
      obtain ⟨q, rfl⟩ := sortedFrom_surjective (before s) j
      exact ⟨q, (before_sortedFrom s p q).mp h, rfl⟩
    · rintro ⟨q, hq, rfl⟩
      exact (before_sortedFrom s p q).mpr hq
  rw [this, Finset.card_map, Fin.card_Iio]

/-- Spreading the first `k` sorted entries back to where they came from keeps the entries with fewer than `k` before them. -/
theorem spread_first (s : Fin n → EReal) {k : Nat} (hk : k ≤ n) (e : Fin n) :
    ∑ t : Fin k, (if sortedFrom (greater s) (t.castLE hk) = e then (1 : EReal) else 0) * s (sortedFrom (greater s) (t.castLE hk))
      = if rank s e < k then s e else 0 := by
  rw [sortedFrom_greater]
  obtain ⟨p, rfl⟩ := sortedFrom_surjective (before s) e
  rw [rank_sortedFrom]
  by_cases hp : p.val < k
  · rw [if_pos hp, Finset.sum_eq_single (⟨p.val, hp⟩ : Fin k)]
    · rw [show (⟨p.val, hp⟩ : Fin k).castLE hk = p from rfl, if_pos rfl, one_mul]
    · intro t _ ht
      rw [if_neg, zero_mul]
      intro h
      exact ht (Fin.ext (congrArg Fin.val (sortedFrom_injective _ h) :))
    · exact fun h => absurd (Finset.mem_univ _) h
  · rw [if_neg hp]
    refine Finset.sum_eq_zero fun t _ => ?_
    rw [if_neg, zero_mul]
    intro h
    have := congrArg Fin.val (sortedFrom_injective _ h)
    simp only [Fin.val_castLE] at this
    have := t.isLt
    omega

/-! ## The top entries of a row, read at an index -/

variable {R k : Nat}

/-- Moving along the last axis replaces the last coordinate. -/
theorem along_last (r : Fin R) (e e' : Fin n) :
    Shape.Idx.along (s := ⟨3, ![1, R, n]⟩) (ix3 0 r e) (2 : Fin 3) e' = ix3 0 r e' := by
  funext a
  match a with
  | ⟨0, _⟩ => rfl
  | ⟨1, _⟩ => rfl
  | ⟨2, _⟩ => rfl

/-- The index a prefix of the last axis is read at. -/
theorem prefix_idx (hk : k ≤ n) (h : (⟨3, ![1, R, n]⟩ : Shape).Slices (fun _ => 0) ⟨3, ![1, R, k]⟩) (r : Fin R) (t : Fin k) :
    (fun a : Fin 3 => (⟨0 + ((ix3 0 r t : (⟨3, ![1, R, k]⟩ : Shape).Idx) (a.cast h.1.symm)).val,
        Nat.lt_of_lt_of_le (Nat.add_lt_add_left ((ix3 0 r t : (⟨3, ![1, R, k]⟩ : Shape).Idx) _).isLt _) (h.2 a)⟩ : Fin (![1, R, n] a)))
      = (ix3 0 r (t.castLE hk) : (⟨3, ![1, R, n]⟩ : Shape).Idx) := by
  funext a
  match a with
  | ⟨0, _⟩ => exact Fin.ext (Nat.zero_add _)
  | ⟨1, _⟩ => exact Fin.ext (Nat.zero_add _)
  | ⟨2, _⟩ => exact Fin.ext (Nat.zero_add _)

theorem topK_values (x : (⟨3, ![1, R, n]⟩ : Shape).Idx → EReal) (hk : k ≤ n)
    (h : (⟨3, ![1, R, n]⟩ : Shape).Slices (fun _ => 0) ⟨3, ![1, R, k]⟩) (r : Fin R) (t : Fin k) :
    (Host.topK (⟨3, ![1, R, k]⟩ : Shape) 2 (FloatOps.cmpfTotal (F := Ideal) (φ := .f32) .gt) x h).1 (ix3 0 r t)
      = x (ix3 0 r (sortedFrom (greater fun e => x (ix3 0 r e)) (t.castLE hk))) := by
  have key : ∀ J : (⟨3, ![1, R, n]⟩ : Shape).Idx, J = ix3 0 r (t.castLE hk) →
      x (Shape.Idx.along (s := ⟨3, ![1, R, n]⟩) J (2 : Fin 3) (sortedFrom (fun a b : Fin n =>
        FloatOps.cmpfTotal (F := Ideal) (φ := .f32) .gt (x (Shape.Idx.along (s := ⟨3, ![1, R, n]⟩) J (2 : Fin 3) a))
          (x (Shape.Idx.along (s := ⟨3, ![1, R, n]⟩) J (2 : Fin 3) b)) == 1#1) (J 2)))
      = x (ix3 0 r (sortedFrom (greater fun e => x (ix3 0 r e)) (t.castLE hk))) := by
    rintro _ rfl
    simp only [along_last]
    exact congrArg x (along_last r (t.castLE hk) _)
  exact key _ (prefix_idx hk h r t)

theorem topK_indices (x : (⟨3, ![1, R, n]⟩ : Shape).Idx → EReal) (hk : k ≤ n)
    (h : (⟨3, ![1, R, n]⟩ : Shape).Slices (fun _ => 0) ⟨3, ![1, R, k]⟩) (r : Fin R) (t : Fin k) :
    (Host.topK (⟨3, ![1, R, k]⟩ : Shape) 2 (FloatOps.cmpfTotal (F := Ideal) (φ := .f32) .gt) x h).2 (ix3 0 r t)
      = BitVec.ofNat 32 (sortedFrom (greater fun e => x (ix3 0 r e)) (t.castLE hk)).val := by
  have key : ∀ J : (⟨3, ![1, R, n]⟩ : Shape).Idx, J = ix3 0 r (t.castLE hk) →
      BitVec.ofNat 32 (Shape.Idx.along (s := ⟨3, ![1, R, n]⟩) J (2 : Fin 3) (sortedFrom (fun a b : Fin n =>
        FloatOps.cmpfTotal (F := Ideal) (φ := .f32) .gt (x (Shape.Idx.along (s := ⟨3, ![1, R, n]⟩) J (2 : Fin 3) a))
          (x (Shape.Idx.along (s := ⟨3, ![1, R, n]⟩) J (2 : Fin 3) b)) == 1#1) (J 2)) (2 : Fin 3)).val
      = BitVec.ofNat 32 (sortedFrom (greater fun e => x (ix3 0 r e)) (t.castLE hk)).val := by
    rintro _ rfl
    simp only [along_last]
    rfl
  exact key _ (prefix_idx hk h r t)

/-! ## The two gates -/

/-- A flag read as a number. -/
theorem flag_signed (b : Bool) : FloatOps.sitofp (F := Ideal) FTy.f32 (BitVec.setWidth 32 (BitVec.ofBool b)) = if b = true then 1 else 0 := by
  change (((BitVec.setWidth 32 (BitVec.ofBool b)).toInt : ℝ) : EReal) = _
  cases b
  · rw [show (BitVec.setWidth 32 (BitVec.ofBool false)).toInt = 0 by decide]; simp
  · rw [show (BitVec.setWidth 32 (BitVec.ofBool true)).toInt = 1 by decide]; simp

theorem flag_unsigned (b : Bool) : FloatOps.uitofp (F := Ideal) FTy.f32 (BitVec.ofBool b) = if b = true then 1 else 0 := by
  change (((BitVec.ofBool b).toNat : ℝ) : EReal) = _
  cases b
  · rw [show (BitVec.ofBool false).toNat = 0 by decide]; simp
  · rw [show (BitVec.ofBool true).toNat = 1 by decide]; simp

theorem slt_ofNat (hn : n ≤ 2 ^ 31) (a b : Fin n) : IntOp.cmpi CmpIPredicate.slt (BitVec.ofNat 32 a.val) (BitVec.ofNat 32 b.val) = BitVec.ofBool (decide (a < b)) := by
  have ha : a.val < 2 ^ 31 := lt_of_lt_of_le a.isLt hn
  have hb : b.val < 2 ^ 31 := lt_of_lt_of_le b.isLt hn
  change BitVec.ofBool (BitVec.slt _ _) = _
  congr 1
  rw [BitVec.slt_eq_decide, decide_eq_decide, BitVec.toInt_eq_toNat_of_lt (by simp; omega), BitVec.toInt_eq_toNat_of_lt (by simp; omega),
    BitVec.toNat_ofNat, BitVec.toNat_ofNat, Nat.mod_eq_of_lt (by omega), Nat.mod_eq_of_lt (by omega)]
  exact Int.ofNat_lt

theorem eq_ofNat (hn : n ≤ 2 ^ 31) (a b : Fin n) : IntOp.cmpi CmpIPredicate.eq (BitVec.ofNat 32 a.val) (BitVec.ofNat 32 b.val) = BitVec.ofBool (decide (a = b)) := by
  have ha : a.val < 2 ^ 31 := lt_of_lt_of_le a.isLt hn
  have hb : b.val < 2 ^ 31 := lt_of_lt_of_le b.isLt hn
  change BitVec.ofBool (_ == _) = _
  congr 1
  rw [Bool.eq_iff_iff, beq_iff_eq, decide_eq_true_iff, ← BitVec.toNat_inj, BitVec.toNat_ofNat, BitVec.toNat_ofNat,
    Nat.mod_eq_of_lt (by omega), Nat.mod_eq_of_lt (by omega), Fin.ext_iff]

/-- The gate as the kernel computes it: the logistic of the logit, times a flag saying that the logits counted before it are fewer than `K`. -/
theorem kernel_gate (hn : n ≤ 2 ^ 31) (L : Fin n → EReal) (e : Fin n) (K : EReal) (k : Nat) (hK : K = ((k : ℝ) : EReal)) :
    Ideal.logistic (L e) * FloatOps.sitofp (F := Ideal) FTy.f32 (BitVec.setWidth 32 (BitVec.ofBool (decide
        (∑ j, (FloatOps.sitofp (F := Ideal) FTy.f32 (BitVec.setWidth 32 (BitVec.ofBool (decide (L e < L j))))
            + FloatOps.sitofp (F := Ideal) FTy.f32 (BitVec.setWidth 32 (IntOp.andi (BitVec.ofBool (decide (L j = L e)))
              (IntOp.cmpi CmpIPredicate.slt (BitVec.ofNat 32 j.val) (BitVec.ofNat 32 e.val))))) < K))))
      = if rank L e < k then Ideal.logistic (L e) else 0 := by
  have hterm : ∀ j : Fin n, (FloatOps.sitofp (F := Ideal) FTy.f32 (BitVec.setWidth 32 (BitVec.ofBool (decide (L e < L j))))
            + FloatOps.sitofp (F := Ideal) FTy.f32 (BitVec.setWidth 32 (IntOp.andi (BitVec.ofBool (decide (L j = L e)))
              (IntOp.cmpi CmpIPredicate.slt (BitVec.ofNat 32 j.val) (BitVec.ofNat 32 e.val)))))
      = if before L j e = true then (1 : EReal) else 0 := fun j => by
    rw [slt_ofNat hn, show ∀ a b : Bool, IntOp.andi (BitVec.ofBool a) (BitVec.ofBool b) = BitVec.ofBool (a && b) by decide,
      flag_signed, flag_signed]
    unfold before
    by_cases h1 : L e < L j
    · have h2 : L j ≠ L e := h1.ne'
      simp [h1, h2]
    · simp [h1]
  rw [Finset.sum_congr rfl fun j _ => hterm j, flag_signed, hK]
  have hsum : (∑ j, if before L j e = true then (1 : EReal) else 0) = ((rank L e : ℝ) : EReal) := by
    rw [Finset.sum_boole]
    rfl
  rw [hsum]
  by_cases h : rank L e < k
  · rw [if_pos h, if_pos (by simpa using h), mul_one]
  · rw [if_neg h, if_neg (by simpa using h), mul_zero]

theorem rank_logistic (L : Fin n → EReal) (e : Fin n) : rank (fun j => Ideal.logistic (L j)) e = rank L e := by
  unfold rank before
  simp only [logistic_strictMono.lt_iff_lt, logistic_strictMono.injective.eq_iff]

/-- The gate as the reference computes it: the greatest logistics, each spread back to its entry by a one-hot row. -/
theorem reference_gate (hn : n ≤ 2 ^ 31) (hk : k ≤ n) (x : (⟨3, ![1, R, n]⟩ : Shape).Idx → EReal)
    (h : (⟨3, ![1, R, n]⟩ : Shape).Slices (fun _ => 0) ⟨3, ![1, R, k]⟩) (r : Fin R) (L : Fin n → EReal)
    (hx : ∀ e, x (ix3 0 r e) = Ideal.logistic (L e)) (e : Fin n) :
    ∑ t : Fin k, FloatOps.uitofp (F := Ideal) FTy.f32 (IntOp.cmpi CmpIPredicate.eq
        ((Host.topK (⟨3, ![1, R, k]⟩ : Shape) 2 (FloatOps.cmpfTotal (F := Ideal) (φ := .f32) .gt) x h).2 (ix3 0 r t)) (BitVec.ofNat 32 e.val))
        * (Host.topK (⟨3, ![1, R, k]⟩ : Shape) 2 (FloatOps.cmpfTotal (F := Ideal) (φ := .f32) .gt) x h).1 (ix3 0 r t)
      = if rank L e < k then Ideal.logistic (L e) else 0 := by
  have := spread_first (fun e => Ideal.logistic (L e)) hk e
  rw [rank_logistic] at this
  rw [← this]
  refine Finset.sum_congr rfl fun t _ => ?_
  rw [topK_values x hk h r t, topK_indices x hk h r t, eq_ofNat hn, flag_unsigned, hx,
    show (fun e => x (ix3 0 r e)) = fun e => Ideal.logistic (L e) from funext hx]
  simp only [decide_eq_true_eq]

end Cert.Gates
-- ==== Proof.Spec.lean ====
/- What the two slices compute, one row at a time, in plain sums over extended reals. -/
module

public import proofs.«01_k».proof.Proof.Gates

@[expose] public section

noncomputable section

namespace Cert.Spec

open Idealize.ShloMosaic

/-- A row over its root mean square, times the norm's weights. -/
def norm (x g : Fin 768 → EReal) (l : Fin 768) : EReal :=
  x l * Ideal.rsqrt (Ideal.div (∑ j, x j * x j) (Ideal.ofBits .f32 0x44400000#32) + Ideal.ofBits .f32 0x358637BD#32) * g l

/-- The gate of expert `e`: its logistic score when fewer than `k` experts come before it, zero otherwise. -/
def gate {n : Nat} (k : Nat) (L : Fin n → EReal) (e : Fin n) : EReal := if Gates.rank L e < k then Ideal.logistic (L e) else 0

/-- A row's routed projection: every expert's product with the row `z`, weighted by the gates of the logits of `h`. -/
def routed (h z : Fin 768 → EReal) (W : Fin 8 → Fin 768 → Fin 768 → EReal) (sel : Fin 768 → Fin 8 → EReal) (l : Fin 768) : EReal :=
  ∑ e, gate 2 (fun e => ∑ k, h k * sel k e) e * ∑ k, z k * W e k l

/-- The experts of the feed-forward layer on the row `h`, weighted by their gates. -/
def feed (h : Fin 768 → EReal) (W1 : Fin 16 → Fin 768 → Fin 128 → EReal) (W2 : Fin 16 → Fin 128 → Fin 768 → EReal)
    (sel : Fin 768 → Fin 16 → EReal) (l : Fin 768) : EReal :=
  ∑ e, gate 8 (fun e => ∑ k, h k * sel k e) e * ∑ f, max (∑ k, h k * W1 e k f) 0 * W2 e f l

/-- The output row: the row plus its routed output projection, plus the feed-forward layer on that sum. -/
def out (x z ga gf : Fin 768 → EReal) (Wo : Fin 8 → Fin 768 → Fin 768 → EReal) (selo : Fin 768 → Fin 8 → EReal)
    (W1 : Fin 16 → Fin 768 → Fin 128 → EReal) (W2 : Fin 16 → Fin 128 → Fin 768 → EReal) (self : Fin 768 → Fin 16 → EReal) (l : Fin 768) : EReal :=
  (x l + routed (norm x ga) z Wo selo l)
    + feed (norm (fun j => x j + routed (norm x ga) z Wo selo j) gf) W1 W2 self l

/-- A gate is a real number, not negative. -/
theorem gate_real {n : Nat} (k : Nat) (L : Fin n → EReal) (e : Fin n) : ∃ y : ℝ, 0 ≤ y ∧ gate k L e = (y : EReal) := by
  unfold gate
  split
  · exact Gates.logistic_real _
  · exact ⟨0, le_rfl, by simp⟩

end Cert.Spec
-- ==== Proof.A.Softmax.lean ====
/- Attention's weighted mean under a causal mask, and the recursion over key blocks that computes it with a running maximum. -/
module

public import proofs.«01_k».proof.Proof.Spec

@[expose] public section

noncomputable section

namespace Cert.Soft

open Idealize.ShloMosaic

/-- A number that is not infinite. -/
def Fin' (x : EReal) : Prop := ∃ y : ℝ, x = (y : EReal)

/-- A sum of extended reals times a nonnegative real, term by term. -/
theorem sum_mul {ι : Type} (s : Finset ι) (f : ι → EReal) {c : ℝ} (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A sum of reals, read as an extended real. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

variable (S : ℕ → ℝ) (t : ℕ)

/-- The score of key `j` as row `t` sees it: minus infinity after its own position. -/
def masked (j : ℕ) : EReal := if j ≤ t then (S j : EReal) else ⊥

/-- The weight of key `j` relative to the level `M`. -/
def wt (M : ℝ) (j : ℕ) : ℝ := if j ≤ t then Real.exp (S j - M) else 0

theorem wt_nonneg (M : ℝ) (j : ℕ) : 0 ≤ wt S t M j := by
  unfold wt; split
  · exact (Real.exp_pos _).le
  · exact le_rfl

theorem exp_masked (M : ℝ) (j : ℕ) : Ideal.exp (masked S t j - (M : EReal)) = (wt S t M j : EReal) := by
  unfold masked wt; split
  · rw [← EReal.coe_sub, Ideal.exp_coe]
  · rw [EReal.bot_sub, Ideal.exp_bot]; rfl

theorem wt_shift (M M' : ℝ) (j : ℕ) : wt S t M j * Real.exp (M - M') = wt S t M' j := by
  unfold wt; split
  · rw [← Real.exp_add]; congr 1; ring
  · rw [zero_mul]

theorem wt_zero {n j : ℕ} (M : ℝ) (hj : ¬ j ≤ t) : wt S t M j = 0 := by unfold wt; rw [if_neg hj]

theorem sum_pos (M : ℝ) {n : ℕ} (hn : 0 < n) : 0 < ∑ j ∈ Finset.range n, wt S t M j := by
  refine lt_of_lt_of_le ?_ (Finset.single_le_sum (f := wt S t M) (fun j _ => wt_nonneg S t M j) (Finset.mem_range.mpr hn))
  unfold wt; rw [if_pos (Nat.zero_le _)]; exact Real.exp_pos _

/-- A maximum of a real and of numbers none of which is plus infinity is a real. -/
theorem max_real {n : ℕ} {x : EReal} (hx : Fin' x) (f : Fin n → EReal) (hf : ∀ i, f i < ⊤) :
    Fin' (max x (Finset.fold max ⊥ f Finset.univ)) := by
  obtain ⟨y, rfl⟩ := hx
  have h1 : max (y : EReal) (Finset.fold max ⊥ f Finset.univ) < ⊤ :=
    max_lt (EReal.coe_lt_top y) (Finset.fold_max_lt _ |>.mpr ⟨bot_lt_top, fun i _ => hf i⟩)
  have h2 : ⊥ < max (y : EReal) (Finset.fold max ⊥ f Finset.univ) := lt_of_lt_of_le (EReal.bot_lt_coe y) (le_max_left _ _)
  exact ⟨_, (EReal.coe_toReal h1.ne h2.ne').symm⟩

theorem masked_lt (j : ℕ) : masked S t j < ⊤ := by
  unfold masked; split
  · exact EReal.coe_lt_top _
  · exact bot_lt_top

/-- The weighted mean of the values of the keys up to `t`. -/
def mean (V : ℕ → EReal) : EReal :=
  ∑ j : Fin 2048, ((wt S t 0 j / ∑ k ∈ Finset.range 2048, wt S t 0 k : ℝ) : EReal) * V j

theorem ratio (M : ℝ) (j : ℕ) : wt S t M j / ∑ k ∈ Finset.range 2048, wt S t M k = wt S t 0 j / ∑ k ∈ Finset.range 2048, wt S t 0 k := by
  have h : ∀ k, wt S t M k = wt S t 0 k * Real.exp (0 - M) := fun k => (wt_shift S t 0 M k).symm
  rw [h j, Finset.sum_congr rfl (fun k _ => h k), ← Finset.sum_mul, mul_div_mul_right _ _ (Real.exp_pos _).ne']

/-- The state of the recursion after the first `n` keys: relative to some level, the sum of the weights and the weighted sums
of the values. -/
def StateV {D : Type} (V : D → ℕ → EReal) (n : ℕ) (m l : EReal) (a : D → EReal) : Prop :=
  ∃ M : ℝ, m = M ∧ l = ((∑ j ∈ Finset.range n, wt S t M j : ℝ) : EReal) ∧ ∀ d, a d = ∑ j ∈ Finset.range n, (wt S t M j : EReal) * V d j

theorem state_zero {D : Type} (V : D → ℕ → EReal) (M : ℝ) (a : D → EReal) (ha : ∀ d, a d = 0) : StateV S t V 0 (M : EReal) 0 a :=
  ⟨M, rfl, by simp, fun d => by rw [ha d]; simp⟩

theorem state_step {D : Type} (V : D → ℕ → EReal) {n B : ℕ} {m l : EReal} {a : D → EReal} (h : StateV S t V n m l a)
    {m' l' : EReal} {a' : D → EReal} (s : Fin B → EReal) (v : D → Fin B → EReal) (hs : ∀ x, s x = masked S t (n + x.val)) (hv : ∀ d x, v d x = V d (n + x.val))
    (hm : m' = max m (Finset.fold max ⊥ s Finset.univ))
    (hl : l' = l * Ideal.exp (m - m') + ∑ x, Ideal.exp (s x - m'))
    (ha : ∀ d, a' d = a d * Ideal.exp (m - m') + ∑ x, Ideal.exp (s x - m') * v d x) :
    StateV S t V (n + B) m' l' a' := by
  obtain ⟨M, rfl, rfl, hA⟩ := h
  obtain ⟨M', hM'⟩ := max_real ⟨M, rfl⟩ s (fun x => by rw [hs]; exact masked_lt S t _)
  rw [hM'] at hm
  subst hm
  have hc : Ideal.exp ((M : EReal) - (M' : EReal)) = ((Real.exp (M - M') : ℝ) : EReal) := by rw [← EReal.coe_sub, Ideal.exp_coe]
  refine ⟨M', rfl, ?_, fun d => ?_⟩
  · have hS : ∑ x, Ideal.exp (s x - (M' : EReal)) = ((∑ x : Fin B, wt S t M' (n + x.val) : ℝ) : EReal) := by
      rw [coe_sum]
      exact Finset.sum_congr rfl fun x _ => by rw [hs x, exp_masked]
    rw [hl, hc, ← EReal.coe_mul, hS, ← EReal.coe_add]
    congr 1
    rw [Finset.sum_mul, Finset.sum_congr rfl (fun j _ => wt_shift S t M M' j), Finset.sum_range_add]
    congr 1
    rw [Finset.sum_range]
  · rw [ha, hc, hA, sum_mul _ _ (Real.exp_pos _).le, Finset.sum_range_add]
    congr 1
    · refine Finset.sum_congr rfl fun j _ => ?_
      rw [mul_right_comm, ← EReal.coe_mul, wt_shift]
    · rw [Finset.sum_range]
      exact Finset.sum_congr rfl fun x _ => by rw [hs x, exp_masked, hv]

/-- The recursion, once past the row's own position, ends at the weighted mean. -/
theorem state_end {D : Type} (V : D → ℕ → EReal) {n : ℕ} {m l : EReal} {a : D → EReal} (h : StateV S t V n m l a)
    (hn : t < n) (h2 : n ≤ 2048) (d : D) : Ideal.div (a d) l = mean S t (V d) := by
  obtain ⟨M, -, rfl, hA⟩ := h
  have hz : ∀ j, n ≤ j → wt S t M j = 0 := fun j hj => wt_zero (n := n) S t M (by omega)
  have hsub : Finset.range n ⊆ Finset.range 2048 := Finset.range_subset_range.mpr h2
  have hsum : ∑ j ∈ Finset.range n, wt S t M j = ∑ j ∈ Finset.range 2048, wt S t M j :=
    Finset.sum_subset hsub fun j _ hj => hz j (by simpa using hj)
  have hsumV : ∑ j ∈ Finset.range n, (wt S t M j : EReal) * V d j = ∑ j ∈ Finset.range 2048, (wt S t M j : EReal) * V d j :=
    Finset.sum_subset hsub fun j _ hj => by rw [hz j (by simpa using hj), EReal.coe_zero, zero_mul]
  have hp := sum_pos S t M (n := 2048) (by norm_num)
  rw [hA d, hsumV, hsum, Ideal.div_coe hp.ne', sum_mul _ _ (by positivity), Finset.sum_range]
  refine Finset.sum_congr rfl fun j _ => ?_
  rw [mul_right_comm, ← EReal.coe_mul, ← ratio S t M, mul_one_div]

/-- The softmax of the masked scores, against the values. -/
theorem softmax_mean (V : ℕ → EReal) {X : EReal} (hX : Fin' X) :
    ∑ j : Fin 2048, Ideal.div (Ideal.exp (masked S t j - X)) (∑ k : Fin 2048, Ideal.exp (masked S t k - X)) * V j = mean S t V := by
  obtain ⟨M, rfl⟩ := hX
  have hp := sum_pos S t M (n := 2048) (by norm_num)
  have hZ : ∑ k : Fin 2048, Ideal.exp (masked S t k - (M : EReal)) = ((∑ k ∈ Finset.range 2048, wt S t M k : ℝ) : EReal) := by
    rw [Finset.sum_range, coe_sum]
    exact Finset.sum_congr rfl fun k _ => exp_masked S t M k
  rw [hZ]
  refine Finset.sum_congr rfl fun j _ => ?_
  rw [exp_masked, Ideal.div_coe hp.ne', ← EReal.coe_mul, ← ratio S t M, mul_one_div]

end Cert.Soft
-- ==== Proof.A.Rope.lean ====
/- The rotated queries and keys over the reals, the scores they make, and the attention's context row. -/
module

public import proofs.«01_k».proof.Proof.A.Softmax

@[expose] public section

noncomputable section

namespace Cert.Rope

open Idealize.ShloMosaic Cert.Soft

/-- The rotation's angle at position `r` in plane `d` of 32. -/
def ang (r d : ℕ) : EReal :=
  FloatOps.sitofp (F := Ideal) FTy.f32 (BitVec.ofNat 32 r) *
    Ideal.div 1 (Ideal.pow (Ideal.ofBits FTy.f32 1176256512#32)
      (Ideal.div (FloatOps.sitofp (F := Ideal) FTy.f32 (BitVec.ofNat 32 d)) (Ideal.ofBits FTy.f32 1107296256#32)))

theorem base_eq : Ideal.ofBits FTy.f32 1176256512#32 = ((10000 : ℝ) : EReal) := by
  simp [Ideal.ofBits, Ideal.ieee, -EReal.coe_mul]
  norm_num

theorem half_eq : Ideal.ofBits FTy.f32 1107296256#32 = ((32 : ℝ) : EReal) := by
  simp [Ideal.ofBits, Ideal.ieee, -EReal.coe_mul]
  norm_num

theorem eighth_eq : Ideal.ofBits FTy.f32 0x3E000000#32 = ((1 / 8 : ℝ) : EReal) := by
  simp [Ideal.ofBits, Ideal.ieee, -EReal.coe_mul]
  norm_num

theorem root_eq : Ideal.sqrt (Ideal.ofBits FTy.f32 1115684864#32) = ((8 : ℝ) : EReal) := by
  have h : Ideal.ofBits FTy.f32 1115684864#32 = ((64 : ℝ) : EReal) := by
    simp [Ideal.ofBits, Ideal.ieee, -EReal.coe_mul]
    norm_num
  rw [h]
  show (if (64 : ℝ) < 0 then (⊥ : EReal) else (Real.sqrt 64 : EReal)) = _
  rw [if_neg (by norm_num), show (64 : ℝ) = 8 ^ 2 by norm_num, Real.sqrt_sq (by norm_num)]

theorem ang_fin (r d : ℕ) : Fin' (ang r d) := by
  unfold ang
  rw [base_eq, half_eq, Ideal.div_coe (by norm_num : (32 : ℝ) ≠ 0)]
  show Fin' ((((BitVec.ofNat 32 r).toInt : ℝ) : EReal) * Ideal.div 1 (Ideal.pow _ ((((BitVec.ofNat 32 d).toInt : ℝ) : EReal) * _)))
  rw [← EReal.coe_mul]
  show Fin' ((((BitVec.ofNat 32 r).toInt : ℝ) : EReal) * Ideal.div 1 ((Real.rpow 10000 _ : ℝ) : EReal))
  rw [Ideal.div_coe (y := Real.rpow 10000 _) (Real.rpow_pos_of_pos (by norm_num) _).ne', one_mul, ← EReal.coe_mul]
  exact ⟨_, rfl⟩

/-- The rotation's cosine and sine. -/
def cosR (r d : ℕ) : ℝ := (Ideal.cos (ang r d)).toReal
def sinR (r d : ℕ) : ℝ := (Ideal.sin (ang r d)).toReal

theorem cos_eq (r d : ℕ) : Ideal.cos (ang r d) = (cosR r d : EReal) := by
  unfold cosR
  obtain ⟨y, hy⟩ := ang_fin r d
  rw [hy]; rfl

theorem sin_eq (r d : ℕ) : Ideal.sin (ang r d) = (sinR r d : EReal) := by
  unfold sinR
  obtain ⟨y, hy⟩ := ang_fin r d
  rw [hy]; rfl

/-- A row's head `h`, its two halves of 32 columns rotated against one another. -/
def rope (P : Fin 768 → ℝ) (c s : ℕ → ℝ) (h : Fin 12) (d : Fin 64) : ℝ :=
  if hd : d.val < 32 then P ⟨h.val * 64 + d.val, by omega⟩ * c d.val - P ⟨h.val * 64 + (32 + d.val), by omega⟩ * s d.val
  else P ⟨h.val * 64 + (d.val - 32), by omega⟩ * s (d.val - 32) + P ⟨h.val * 64 + (32 + (d.val - 32)), by omega⟩ * c (d.val - 32)

variable (X : Fin 2048 → Fin 768 → ℝ) (Q K : Fin 768 → Fin 768 → ℝ)

/-- A row's projection. -/
def proj (W : Fin 768 → Fin 768 → ℝ) (r : Fin 2048) (l : Fin 768) : ℝ := ∑ k, X r k * W k l

/-- A row's rotated projection. -/
def turn (W : Fin 768 → Fin 768 → ℝ) (r : Fin 2048) (h : Fin 12) (d : Fin 64) : ℝ :=
  rope (proj X W r) (cosR r.val) (sinR r.val) h d

/-- Head `h`'s score of row `r` against key `j`. -/
def score (r : Fin 2048) (h : Fin 12) (j : ℕ) : ℝ :=
  if hj : j < 2048 then (∑ d, turn X Q r h d * turn X K ⟨j, hj⟩ h d) / 8 else 0

/-- Column `l` of the values, key by key. -/
def val (V : Fin 2048 → Fin 768 → EReal) (l : Fin 768) (j : ℕ) : EReal := if hj : j < 2048 then V ⟨j, hj⟩ l else 0

/-- The attention's context row. -/
def ctx (V : Fin 2048 → Fin 768 → EReal) (r : Fin 2048) (l : Fin 768) : EReal :=
  mean (score X Q K r ⟨l.val / 64, by omega⟩) r.val (val V l)

theorem coe_dot {n : ℕ} (f g : Fin n → EReal) (a b : Fin n → ℝ) (hf : ∀ i, f i = (a i : EReal)) (hg : ∀ i, g i = (b i : EReal)) :
    ∑ i, f i * g i = ((∑ i, a i * b i : ℝ) : EReal) := by
  rw [coe_sum]
  exact Finset.sum_congr rfl fun i _ => by rw [hf, hg, ← EReal.coe_mul]

/-! ## Finite numbers -/

theorem fin_mul {x y : EReal} (hx : Fin' x) (hy : Fin' y) : Fin' (x * y) := by
  obtain ⟨a, rfl⟩ := hx; obtain ⟨b, rfl⟩ := hy; exact ⟨a * b, (EReal.coe_mul a b).symm⟩

theorem fin_toReal {x : EReal} (hx : Fin' x) : x = (x.toReal : EReal) := by
  obtain ⟨a, rfl⟩ := hx; rw [EReal.toReal_coe]

theorem width_eq : Ideal.ofBits FTy.f32 0x44400000#32 = ((768 : ℝ) : EReal) := by
  simp [Ideal.ofBits, Ideal.ieee, -EReal.coe_mul]
  norm_num

theorem eps_eq : ∃ e : ℝ, 0 < e ∧ Ideal.ofBits FTy.f32 0x358637BD#32 = (e : EReal) := by
  refine ⟨(2 : ℝ) ^ (-20 : ℤ) * (1 + 407485 / 2 ^ 23), by positivity, ?_⟩
  simp [Ideal.ofBits, Ideal.ieee, -EReal.coe_mul]
  norm_num

/-- The norm of a row of finite numbers is finite. -/
theorem norm_fin' (x g : Fin 768 → EReal) (hx : ∀ j, Fin' (x j)) (hg : ∀ j, Fin' (g j)) (l : Fin 768) : Fin' (Spec.norm x g l) := by
  unfold Spec.norm
  refine fin_mul (fin_mul (hx l) ?_) (hg l)
  choose a ha using hx
  obtain ⟨e, he, h2⟩ := eps_eq
  rw [coe_dot x x a a ha ha, width_eq, h2, Ideal.div_coe (by norm_num), ← EReal.coe_mul, ← EReal.coe_add]
  have hp : 0 < (∑ i, a i * a i) * (1 / 768) + e := by
    have : 0 ≤ ∑ i, a i * a i := Finset.sum_nonneg fun i _ => mul_self_nonneg _
    positivity
  show Fin' (if _ < 0 then ⊥ else if _ = 0 then ⊤ else _)
  rw [if_neg (not_lt.mpr hp.le), if_neg hp.ne']
  exact ⟨_, rfl⟩

theorem self_mul_nonneg (y : EReal) : 0 ≤ y * y := by
  induction y with
  | bot => simp
  | top => simp
  | coe a =>
    rw [← EReal.coe_mul]
    exact_mod_cast mul_self_nonneg a

/-- The norm of any row is finite when its weights are: with an infinity in the row the root's inverse is zero. -/
theorem norm_fin (x g : Fin 768 → EReal) (hg : ∀ j, Fin' (g j)) (l : Fin 768) : Fin' (Spec.norm x g l) := by
  by_cases hx : ∀ j, Fin' (x j)
  · exact norm_fin' x g hx hg l
  push Not at hx
  obtain ⟨j, hj⟩ := hx
  have hsq : x j * x j = ⊤ := by
    generalize x j = y at hj
    induction y with
    | bot => simp
    | top => simp
    | coe a => exact absurd ⟨a, rfl⟩ hj
  have hsum : ∑ i, x i * x i = ⊤ :=
    top_le_iff.mp (hsq ▸ Finset.single_le_sum (f := fun i => x i * x i) (fun i _ => self_mul_nonneg (x i)) (Finset.mem_univ j))
  obtain ⟨e, he, h2⟩ := eps_eq
  unfold Spec.norm
  rw [hsum, width_eq, h2, Ideal.div_coe (by norm_num), EReal.top_mul_coe_of_pos (by norm_num), EReal.top_add_coe]
  show Fin' (x l * 0 * g l)
  rw [mul_zero, zero_mul]
  exact ⟨0, rfl⟩

end Cert.Rope
-- ==== Proof.A.Head.lean ====
/- One head of the kernel's attention, over the reals: its loop over the key blocks ends at the softmax-weighted mean of the values. -/
module

public import proofs.«01_k».proof.Proof.KernelIdeal.Out
public import proofs.«01_k».proof.Proof.A.Rope

@[expose] public section

set_option maxRecDepth 16384

noncomputable section

namespace Cert.KernelIdeal.Hand

open Idealize.ShloMosaic Idealize.ShloMosaic.TcCoe Idealize.SL.Sem Cert.KernelIdeal.Gen Cert.Spec Cert.Soft

theorem neg_inf : Ideal.ofBits FTy.f32 4286578688#32 = ⊥ := by
  simp [Ideal.ofBits, Ideal.ieee]

theorem start_max : ∃ M : ℝ, Ideal.ofBits FTy.f32 4048155338#32 = (M : EReal) := by
  simp only [show Ideal.ofBits FTy.f32 4048155338#32 = ((-(13234890 * 2 ^ 76) : ℝ) : EReal) by simp [Ideal.ofBits, Ideal.ieee, -EReal.coe_mul]]
  exact ⟨_, rfl⟩

/-- The comparison of two small positions, as a bit. -/
theorem sle_ofNat (a b : ℕ) (ha : a < 4096) (hb : b < 4096) :
    IntOp.cmpi CmpIPredicate.sle (BitVec.ofNat 32 a) (BitVec.ofNat 32 b) = BitVec.ofBool (decide (a ≤ b)) := by
  have ha' : (BitVec.ofNat 32 a).toInt = a := by rw [BitVec.toInt_ofNat']; norm_num [Int.bmod]; omega
  have hb' : (BitVec.ofNat 32 b).toInt = b := by rw [BitVec.toInt_ofNat']; norm_num [Int.bmod]; omega
  simp [IntOp.cmpi, BitVec.sle, ha', hb']

theorem row_pos (i : grid1.Coords) (r j : Fin 512) : bodyRun.sl.v253 i (ix2 r j) = BitVec.ofNat 32 ((i 0).val * 512 + r.val) := by
  pointwise [bodyRun.sl.v253, bodyRun.sl.v252, bodyRun.sl.v251, bodyRun.sl.v250]
  have hi : (i 0).val < 4 := (i 0).isLt
  apply BitVec.eq_of_toNat_eq
  simp [IntOp.addi, Scalar.muli, IntOp.muli]

theorem key_lane (r j : Fin 512) : bodyRun.sl.v254 (ix2 r j) = BitVec.ofNat 32 j.val := by
  pointwise [bodyRun.sl.v254]

theorem score_pt (v253 v254 : IVec S512x512 32) (q : FVec Ideal S512x64 .bf16) (k : ℕ) (K : Vec Ideal S1x1x64x512 .bf16) (r j : Fin 512) :
    hScore v253 v254 q k K (ix2 r j) = Scalar.select (IntOp.cmpi .sle (IntOp.addi (Scalar.muli (Scf.iv 0#32 1#32 k) 512#32) (v254 (ix2 r j))) (v253 (ix2 r j)))
      (∑ x, q (ix2 r x) * K (ix4 0 0 x j)) (Named.named (F := Ideal) (φ := .f32) κ "mask" 3463342888#32) := by
  pointwise [hScore]

theorem max_pt (m : FVec Ideal S512x1 .f32) (s : FVec Ideal S512x512 .f32) (r : Fin 512) :
    hMax m s (ix2 r 0) = max (m (ix2 r 0)) (Finset.fold max ⊥ (fun x => s (ix2 r x)) Finset.univ) := by
  pointwise [hMax]
  rw [neg_inf]

theorem sum_pt (m m' l : FVec Ideal S512x1 .f32) (s : FVec Ideal S512x512 .f32) (r : Fin 512) :
    hSum l (hCorr m m') (hProb s m') (ix2 r 0)
      = l (ix2 r 0) * Ideal.exp (m (ix2 r 0) - m' (ix2 r 0)) + ∑ x, Ideal.exp (s (ix2 r x) - m' (ix2 r 0)) := by
  pointwise [hSum, hCorr, hProb]

theorem acc_pt (m m' : FVec Ideal S512x1 .f32) (a : FVec Ideal S512x64 .f32) (s : FVec Ideal S512x512 .f32) (V : Vec Ideal S1x1x512x64 .bf16) (r : Fin 512) (d : Fin 64) :
    hAcc a (hCorr m m') (hProb s m') V (ix2 r d)
      = a (ix2 r d) * Ideal.exp (m (ix2 r 0) - m' (ix2 r 0)) + ∑ x, Ideal.exp (s (ix2 r x) - m' (ix2 r 0)) * V (ix4 0 0 x d) := by
  pointwise [hAcc, hCorr, hProb]

theorem fin_pt (x : HSt Ideal) (r : Fin 512) (d : Fin 64) : hFin x (ix2 r d) = Ideal.div (x.2.2 (ix2 r d)) (x.2.1 (ix2 r 0)) := by
  pointwise [hFin]

theorem mask_bot : Named.named (F := Ideal) (φ := .f32) κ "mask" 3463342888#32 = ⊥ := rfl

/-- Before key block `n`, a head's state is the recursion's after the first `n` blocks of keys. -/
theorem state_at (i : grid1.Coords) (q : FVec Ideal S512x64 .bf16) (Ks : ℕ → Vec Ideal S1x1x64x512 .bf16) (Vs : ℕ → Vec Ideal S1x1x512x64 .bf16)
    (r : Fin 512) (S : ℕ → ℝ) (V : Fin 64 → ℕ → EReal)
    (hS : ∀ k < (i 0).val + 1, ∀ j : Fin 512, ∑ x, q (ix2 r x) * Ks k (ix4 0 0 x j) = (S (k * 512 + j.val) : EReal))
    (hV : ∀ k < (i 0).val + 1, ∀ (j : Fin 512) (d : Fin 64), Vs k (ix4 0 0 j d) = V d (k * 512 + j.val))
    (n : ℕ) (hn : n ≤ (i 0).val + 1) :
    let x := hState (bodyRun.sl.v253 i) bodyRun.sl.v254 q Ks Vs n
    StateV S ((i 0).val * 512 + r.val) V (n * 512) (x.1 (ix2 r 0)) (x.2.1 (ix2 r 0)) (fun d => x.2.2 (ix2 r d)) := by
  have hi : (i 0).val < 4 := (i 0).isLt
  induction n with
  | zero =>
    obtain ⟨M, hM⟩ := start_max
    have e1 : (k1_pay172 (F := Ideal)) (ix2 r 0) = (M : EReal) := by
      pointwise [k1_pay172]
      exact hM
    have e2 : (k1_pay173 (F := Ideal)) (ix2 r 0) = 0 := by
      pointwise [k1_pay173]
    have e3 : ∀ d, (k1_pay174 (F := Ideal)) (ix2 r d) = 0 := fun d => by
      pointwise [k1_pay174]
    show StateV S _ V (0 * 512) ((k1_pay172 (F := Ideal)) (ix2 r 0)) ((k1_pay173 (F := Ideal)) (ix2 r 0)) (fun d => (k1_pay174 (F := Ideal)) (ix2 r d))
    rw [e1, e2, Nat.zero_mul]
    exact state_zero S _ V M _ e3
  | succ n ih =>
    have h := ih (by omega)
    dsimp only at h ⊢
    rw [hState]
    generalize hState (bodyRun.sl.v253 i) bodyRun.sl.v254 q Ks Vs n = x at h ⊢
    rw [Nat.succ_mul]
    refine state_step S _ V h (fun j => hScore (bodyRun.sl.v253 i) bodyRun.sl.v254 q n (Ks n) (ix2 r j)) (fun d j => Vs n (ix4 0 0 j d))
      (fun j => ?_) (fun d j => hV n (by omega) j d) ?_ ?_ (fun d => ?_)
    · rw [score_pt, row_pos, key_lane, hS n (by omega), mask_bot]
      have e : IntOp.addi (Scalar.muli (Scf.iv 0#32 1#32 n) 512#32) (BitVec.ofNat 32 j.val) = BitVec.ofNat 32 (n * 512 + j.val) := by
        apply BitVec.eq_of_toNat_eq
        simp [IntOp.addi, Scalar.muli, IntOp.muli, Scf.iv]
      rw [e, sle_ofNat _ _ (by omega) (by omega)]
      unfold masked
      by_cases hj : n * 512 + j.val ≤ (i 0).val * 512 + r.val
      · rw [if_pos hj, decide_eq_true hj]; rfl
      · rw [if_neg hj, decide_eq_false hj]; rfl
    · exact max_pt _ _ r
    · exact sum_pt _ _ _ _ r
    · exact acc_pt _ _ _ _ _ r d

/-- A head's result at a row: the weighted mean of the values. -/
theorem head_at (i : grid1.Coords) (q : FVec Ideal S512x64 .bf16) (h : Fin 12) (A : Vec Ideal S12x4x64x512 .bf16) (B : Vec Ideal S12x4x512x64 .bf16)
    (r : Fin 512) (S : ℕ → ℝ) (V : Fin 64 → ℕ → EReal)
    (hS : ∀ k : Fin 4, k.val ≤ (i 0).val → ∀ j : Fin 512, ∑ x, q (ix2 r x) * A (ix4 h k x j) = (S (k.val * 512 + j.val) : EReal))
    (hV : ∀ k : Fin 4, k.val ≤ (i 0).val → ∀ (j : Fin 512) (d : Fin 64), B (ix4 h k j d) = V d (k.val * 512 + j.val)) (d : Fin 64) :
    hOut i q h A B (ix2 r d) = mean S ((i 0).val * 512 + r.val) (V d) := by
  have hi : (i 0).val < 4 := (i 0).isLt
  have eK : ∀ k (hk : k < 4) (x : Fin 64) (j : Fin 512), kSl A h k (ix4 0 0 x j) = A (ix4 h ⟨k, hk⟩ x j) := fun k hk x j => by
    refine congrArg A (funext fun a => Fin.ext ?_)
    match a with
    | ⟨0, _⟩ => rfl
    | ⟨1, _⟩ => exact Nat.mod_eq_of_lt hk
    | ⟨2, _⟩ => rfl
    | ⟨3, _⟩ => rfl
  have eV : ∀ k (hk : k < 4) (j : Fin 512) (x : Fin 64), vSl B h k (ix4 0 0 j x) = B (ix4 h ⟨k, hk⟩ j x) := fun k hk j x => by
    refine congrArg B (funext fun a => Fin.ext ?_)
    match a with
    | ⟨0, _⟩ => rfl
    | ⟨1, _⟩ => exact Nat.mod_eq_of_lt hk
    | ⟨2, _⟩ => rfl
    | ⟨3, _⟩ => rfl
  have hst := state_at i q (kSl A h) (vSl B h) r S V
    (fun k hk j => by
      have hk4 : k < 4 := by omega
      simp only [eK k hk4]
      exact hS ⟨k, hk4⟩ (by show k ≤ _; omega) j)
    (fun k hk j d => by
      have hk4 : k < 4 := by omega
      rw [eV k hk4]
      exact hV ⟨k, hk4⟩ (by show k ≤ _; omega) j d) ((i 0).val + 1) le_rfl
  unfold hOut
  rw [fin_pt]
  exact state_end S _ V hst (by omega) (by omega) d

end Cert.KernelIdeal.Hand
-- ==== Proof.A.Body.lean ====
/- The main body of the kernel read one element at a time: the normalized rows, the rotated queries and keys, the routed values. -/
module

public import proofs.«01_k».proof.Proof.A.Head

@[expose] public section

set_option maxRecDepth 16384

noncomputable section

namespace Cert.KernelIdeal.Hand

open Idealize.ShloMosaic Idealize.ShloMosaic.TcCoe Idealize.SL.Sem Cert.KernelIdeal.Gen Cert.Spec Cert.Soft

variable (c : Dev nD) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole)
    (x0 : Vec Ideal S512x768 .f32) (x1 : Vec Ideal S1x768 .f32) (x2 : Vec Ideal S1x768 .f32) (x3 : Vec Ideal S512x64 .f32) (x4 : Vec Ideal S512x64 .f32) (x5 : Vec Ideal S64x768 .f32) (x6 : Vec Ideal S768x3072 .bf16) (x7 : Vec Ideal S8x768x768 .bf16) (x8 : Vec Ideal S768x8 .f32) (x9 : Vec Ideal S8x768x768 .bf16) (x10 : Vec Ideal S768x8 .f32) (x11 : Vec Ideal S8x768x256 .bf16) (x12 : Vec Ideal S8x256x768 .bf16) (x13 : Vec Ideal S768x16 .f32)

/-- A load of a window of a whole buffer, at an index. -/
theorem load_pt {s : Shape} {e : EltTy} {m : Memref sig .tc .vmem s e} (h : m.IsWhole) (X : Vec Ideal s e) (off size : Fin s.rank → ℕ)
    (inb : ∀ a, off a + size a ≤ s.size a) (y : (Rect.unit off size inb).toLoadRect.shape.Idx) (z : s.Idx) (hz : ∀ a, (z a).val = off a + (y a).val) :
    View.readAt (Elt Ideal) m.view (Rect.unit off size inb).toLoadRect (h.unread X) y = X z := by
  exact (congrFun (h.read_unread X) _).trans (congrArg X (funext fun a => Fin.ext ((Rect.idx_unit_val ..).trans (hz a).symm)))

theorem x_pt (r : Fin 512) (l : Fin 768) : (bodyRun.sl.v1 c arg1 harg1 x0) (ix2 r l) = x0 (ix2 r l) := by
  pointwise [bodyRun.sl.v1]
  exact load_pt harg1 x0 _ _ _ _ _ (fun a => by match a with | ⟨0, _⟩ => exact (Nat.zero_add _).symm | ⟨1, _⟩ => exact (Nat.zero_add _).symm)

theorem g_pt (l : Fin 768) : (bodyRun.sl.v3 c arg2 harg2 x1) (ix2 0 l) = x1 (ix2 0 l) := by
  pointwise [bodyRun.sl.v3]
  exact load_pt harg2 x1 _ _ _ _ _ (fun a => by match a with | ⟨0, _⟩ => exact (Nat.zero_add _).symm | ⟨1, _⟩ => exact (Nat.zero_add _).symm)

theorem h_pt (r : Fin 512) (l : Fin 768) : (bodyRun.sl.v15 c arg1 harg1 arg2 harg2 x0 x1) (ix2 r l) = norm (fun j => x0 (ix2 r j)) (fun j => x1 (ix2 0 j)) l := by
  pointwise [bodyRun.sl.v15, bodyRun.sl.v14, bodyRun.sl.v13, bodyRun.sl.v12, bodyRun.sl.v11, bodyRun.sl.v10, bodyRun.sl.v9, bodyRun.sl.v8, bodyRun.sl.v7, bodyRun.sl.v6, bodyRun.sl.v5, bodyRun.sl.v4]
  simp only [x_pt, g_pt]
  rfl

theorem hb_pt (r : Fin 512) (l : Fin 768) : (bodyRun.sl.v16 c arg1 harg1 arg2 harg2 x0 x1) (ix2 r l) = norm (fun j => x0 (ix2 r j)) (fun j => x1 (ix2 0 j)) l := by
  pointwise [bodyRun.sl.v16]
  exact h_pt c arg1 harg1 arg2 harg2 x0 x1 r l

theorem ctab_pt (r : Fin 512) (d : Fin 64) : (bodyRun.sl.v18 c arg4 harg4 x3) (ix2 r d) = x3 (ix2 r d) := by
  pointwise [bodyRun.sl.v18]
  exact load_pt harg4 x3 _ _ _ _ _ (fun a => by match a with | ⟨0, _⟩ => exact (Nat.zero_add _).symm | ⟨1, _⟩ => exact (Nat.zero_add _).symm)

theorem stab_pt (r : Fin 512) (d : Fin 64) : (bodyRun.sl.v23 c arg5 harg5 x4) (ix2 r d) = x4 (ix2 r d) := by
  pointwise [bodyRun.sl.v23]
  exact load_pt harg5 x4 _ _ _ _ _ (fun a => by match a with | ⟨0, _⟩ => exact (Nat.zero_add _).symm | ⟨1, _⟩ => exact (Nat.zero_add _).symm)

theorem eye_pt (d : Fin 64) (l : Fin 768) : (bodyRun.sl.v20 c arg6 harg6 x5) (ix2 d l) = x5 (ix2 d l) := by
  pointwise [bodyRun.sl.v20]
  exact load_pt harg6 x5 _ _ _ _ _ (fun a => by match a with | ⟨0, _⟩ => exact (Nat.zero_add _).symm | ⟨1, _⟩ => exact (Nat.zero_add _).symm)

theorem cos_pt (r : Fin 512) (l : Fin 768) : (bodyRun.sl.v21 c arg4 harg4 arg6 harg6 x3 x5) (ix2 r l) = ∑ d, x3 (ix2 r d) * x5 (ix2 d l) := by
  pointwise [bodyRun.sl.v21, bodyRun.sl.cst_9]
  simp only [ctab_pt, eye_pt]

theorem sin_pt (r : Fin 512) (l : Fin 768) : (bodyRun.sl.v26 c arg5 harg5 arg6 harg6 x4 x5) (ix2 r l) = ∑ d, x4 (ix2 r d) * x5 (ix2 d l) := by
  pointwise [bodyRun.sl.v26, bodyRun.sl.cst_9]
  simp only [stab_pt, eye_pt]

theorem wq_pt (k : Fin 768) (l : Fin 1536) : (bodyRun.sl.v28 c arg7 harg7 x6) (ix2 k l) = x6 (ix2 k ⟨l.val, by omega⟩) := by
  pointwise [bodyRun.sl.v28]
  exact load_pt harg7 x6 _ _ _ _ _ (fun a => by match a with | ⟨0, _⟩ => exact (Nat.zero_add _).symm | ⟨1, _⟩ => exact (Nat.zero_add _).symm)

theorem wk_pt (k : Fin 768) (l : Fin 1536) : (bodyRun.sl.v37 c arg7 harg7 x6) (ix2 k l) = x6 (ix2 k ⟨1536 + l.val, by omega⟩) := by
  pointwise [bodyRun.sl.v37, bodyRun.sl.r]
  exact load_pt harg7 x6 _ _ _ _ _ (fun a => by match a with | ⟨0, _⟩ => exact (Nat.zero_add _).symm | ⟨1, _⟩ => rfl)

theorem q_pt (r : Fin 512) (l : Fin 768) : (bodyRun.sl.v35 c arg1 harg1 arg2 harg2 arg4 harg4 arg5 harg5 arg6 harg6 arg7 harg7 x0 x1 x3 x4 x5 x6) (ix2 r l)
    = (∑ k, norm (fun j => x0 (ix2 r j)) (fun j => x1 (ix2 0 j)) k * x6 (ix2 k ⟨l.val, by omega⟩)) * (∑ d, x3 (ix2 r d) * x5 (ix2 d l))
      + (∑ k, norm (fun j => x0 (ix2 r j)) (fun j => x1 (ix2 0 j)) k * x6 (ix2 k ⟨768 + l.val, by omega⟩)) * (∑ d, x4 (ix2 r d) * x5 (ix2 d l)) := by
  pointwise [bodyRun.sl.v35, bodyRun.sl.v34, bodyRun.sl.v33, bodyRun.sl.v32, bodyRun.sl.v31, bodyRun.sl.v30, bodyRun.sl.v29, bodyRun.sl.cst_17]
  simp only [cos_pt, sin_pt, hb_pt, wq_pt]

theorem k_pt (r : Fin 512) (l : Fin 768) : (bodyRun.sl.v45 c arg1 harg1 arg2 harg2 arg4 harg4 arg5 harg5 arg6 harg6 arg7 harg7 x0 x1 x3 x4 x5 x6) (ix2 l r)
    = (∑ k, norm (fun j => x0 (ix2 r j)) (fun j => x1 (ix2 0 j)) k * x6 (ix2 k ⟨1536 + l.val, by omega⟩)) * (∑ d, x3 (ix2 r d) * x5 (ix2 d l))
      + (∑ k, norm (fun j => x0 (ix2 r j)) (fun j => x1 (ix2 0 j)) k * x6 (ix2 k ⟨1536 + (768 + l.val), by omega⟩)) * (∑ d, x4 (ix2 r d) * x5 (ix2 d l)) := by
  pointwise [bodyRun.sl.v45, bodyRun.sl.v44, bodyRun.sl.v43, bodyRun.sl.v42, bodyRun.sl.v41, bodyRun.sl.v40, bodyRun.sl.v39, bodyRun.sl.v38, bodyRun.sl.cst_17]
  simp only [cos_pt, sin_pt, hb_pt, wk_pt]

/-! ## Values -/

theorem two : Ideal.ofBits FTy.f32 0x40000000#32 = (((2 : ℕ) : ℝ) : EReal) := by
  simp [Ideal.ofBits, Ideal.ieee, -EReal.coe_mul]
  norm_num

theorem eight : Ideal.ofBits FTy.f32 0x41000000#32 = (((8 : ℕ) : ℝ) : EReal) := by
  simp [Ideal.ofBits, Ideal.ieee, -EReal.coe_mul]
  norm_num

theorem logit_pt (r : Fin 512) (e : Fin 8) : (bodyRun.sl.v107 c arg1 harg1 arg2 harg2 arg9 harg9 x0 x1 x8) (ix2 r e) = ∑ k, norm (fun j => x0 (ix2 r j)) (fun j => x1 (ix2 0 j)) k * x8 (ix2 k e) := by
  pointwise [bodyRun.sl.v107, bodyRun.sl.cst_47]
  simp only [h_pt]
  refine Finset.sum_congr rfl fun k _ => ?_
  congr 1
  exact load_pt harg9 x8 _ _ _ _ _ (fun a => by match a with | ⟨0, _⟩ => exact (Nat.zero_add _).symm | ⟨1, _⟩ => exact (Nat.zero_add _).symm)

theorem gate_pt (r : Fin 512) (e : Fin 8) : (bodyRun.sl.v131 c arg1 harg1 arg2 harg2 arg9 harg9 x0 x1 x8) (ix2 r e)
    = gate 2 (fun e => ∑ k, norm (fun j => x0 (ix2 r j)) (fun j => x1 (ix2 0 j)) k * x8 (ix2 k e)) e := by
  pointwise [bodyRun.sl.v131, bodyRun.sl.v130, bodyRun.sl.v129, bodyRun.sl.v128, bodyRun.sl.v127, bodyRun.sl.v126, bodyRun.sl.v125, bodyRun.sl.v124, bodyRun.sl.v123, bodyRun.sl.v122, bodyRun.sl.v121, bodyRun.sl.v119, bodyRun.sl.v116, bodyRun.sl.v115, bodyRun.sl.v114, bodyRun.sl.v113, bodyRun.sl.v112, bodyRun.sl.v111, bodyRun.sl.v110, bodyRun.sl.v109, bodyRun.sl.v108, bodyRun.sl.cst_49]
  simp only [logit_pt]
  exact Gates.kernel_gate (by decide) (fun e => ∑ k, norm (fun j => x0 (ix2 r j)) (fun j => x1 (ix2 0 j)) k * x8 (ix2 k e)) e _ 2 two

theorem wv0_pt (k l : Fin 768) : (bodyRun.sl.v134 c arg8 harg8 x7) (ix2 k l) = x7 (ix3 0 k l) := by
  pointwise [bodyRun.sl.v134]
  exact load_pt harg8 x7 _ _ _ _ _ (fun a => by match a with | ⟨0, _⟩ => rfl | ⟨1, _⟩ => exact (Nat.zero_add _).symm | ⟨2, _⟩ => exact (Nat.zero_add _).symm)

theorem wv1_pt (k l : Fin 768) : (bodyRun.sl.v141 c arg8 harg8 x7) (ix2 k l) = x7 (ix3 1 k l) := by
  pointwise [bodyRun.sl.v141]
  exact load_pt harg8 x7 _ _ _ _ _ (fun a => by match a with | ⟨0, _⟩ => rfl | ⟨1, _⟩ => exact (Nat.zero_add _).symm | ⟨2, _⟩ => exact (Nat.zero_add _).symm)

theorem wv2_pt (k l : Fin 768) : (bodyRun.sl.v148 c arg8 harg8 x7) (ix2 k l) = x7 (ix3 2 k l) := by
  pointwise [bodyRun.sl.v148]
  exact load_pt harg8 x7 _ _ _ _ _ (fun a => by match a with | ⟨0, _⟩ => rfl | ⟨1, _⟩ => exact (Nat.zero_add _).symm | ⟨2, _⟩ => exact (Nat.zero_add _).symm)

theorem wv3_pt (k l : Fin 768) : (bodyRun.sl.v155 c arg8 harg8 x7) (ix2 k l) = x7 (ix3 3 k l) := by
  pointwise [bodyRun.sl.v155]
  exact load_pt harg8 x7 _ _ _ _ _ (fun a => by match a with | ⟨0, _⟩ => rfl | ⟨1, _⟩ => exact (Nat.zero_add _).symm | ⟨2, _⟩ => exact (Nat.zero_add _).symm)

theorem wv4_pt (k l : Fin 768) : (bodyRun.sl.v162 c arg8 harg8 x7) (ix2 k l) = x7 (ix3 4 k l) := by
  pointwise [bodyRun.sl.v162]
  exact load_pt harg8 x7 _ _ _ _ _ (fun a => by match a with | ⟨0, _⟩ => rfl | ⟨1, _⟩ => exact (Nat.zero_add _).symm | ⟨2, _⟩ => exact (Nat.zero_add _).symm)

theorem wv5_pt (k l : Fin 768) : (bodyRun.sl.v169 c arg8 harg8 x7) (ix2 k l) = x7 (ix3 5 k l) := by
  pointwise [bodyRun.sl.v169]
  exact load_pt harg8 x7 _ _ _ _ _ (fun a => by match a with | ⟨0, _⟩ => rfl | ⟨1, _⟩ => exact (Nat.zero_add _).symm | ⟨2, _⟩ => exact (Nat.zero_add _).symm)

theorem wv6_pt (k l : Fin 768) : (bodyRun.sl.v176 c arg8 harg8 x7) (ix2 k l) = x7 (ix3 6 k l) := by
  pointwise [bodyRun.sl.v176]
  exact load_pt harg8 x7 _ _ _ _ _ (fun a => by match a with | ⟨0, _⟩ => rfl | ⟨1, _⟩ => exact (Nat.zero_add _).symm | ⟨2, _⟩ => exact (Nat.zero_add _).symm)

theorem wv7_pt (k l : Fin 768) : (bodyRun.sl.v183 c arg8 harg8 x7) (ix2 k l) = x7 (ix3 7 k l) := by
  pointwise [bodyRun.sl.v183]
  exact load_pt harg8 x7 _ _ _ _ _ (fun a => by match a with | ⟨0, _⟩ => rfl | ⟨1, _⟩ => exact (Nat.zero_add _).symm | ⟨2, _⟩ => exact (Nat.zero_add _).symm)

theorem v_pt (r : Fin 512) (l : Fin 768) : (bodyRun.sl.v189 c arg1 harg1 arg2 harg2 arg8 harg8 arg9 harg9 x0 x1 x7 x8) (ix2 r l)
    = routed (norm (fun j => x0 (ix2 r j)) (fun j => x1 (ix2 0 j))) (norm (fun j => x0 (ix2 r j)) (fun j => x1 (ix2 0 j)))
        (fun e k l => x7 (ix3 e k l)) (fun k e => x8 (ix2 k e)) l := by
  pointwise [bodyRun.sl.v139, bodyRun.sl.v138, bodyRun.sl.v137, bodyRun.sl.v136, bodyRun.sl.v135, bodyRun.sl.v146, bodyRun.sl.v145, bodyRun.sl.v144, bodyRun.sl.v143, bodyRun.sl.v142, bodyRun.sl.v153, bodyRun.sl.v152, bodyRun.sl.v151, bodyRun.sl.v150, bodyRun.sl.v149, bodyRun.sl.v160, bodyRun.sl.v159, bodyRun.sl.v158, bodyRun.sl.v157, bodyRun.sl.v156, bodyRun.sl.v167, bodyRun.sl.v166, bodyRun.sl.v165, bodyRun.sl.v164, bodyRun.sl.v163, bodyRun.sl.v174, bodyRun.sl.v173, bodyRun.sl.v172, bodyRun.sl.v171, bodyRun.sl.v170, bodyRun.sl.v181, bodyRun.sl.v180, bodyRun.sl.v179, bodyRun.sl.v178, bodyRun.sl.v177, bodyRun.sl.v189, bodyRun.sl.v188, bodyRun.sl.v187, bodyRun.sl.v186, bodyRun.sl.v185, bodyRun.sl.v184, bodyRun.sl.v132, bodyRun.sl.cst_50, bodyRun.sl.cst_9]
  simp only [gate_pt, hb_pt, wv0_pt, wv1_pt, wv2_pt, wv3_pt, wv4_pt, wv5_pt, wv6_pt, wv7_pt]
  unfold routed
  rw [Fin.sum_univ_eight]
  simp only [mul_comm (gate _ _ _)]

end Cert.KernelIdeal.Hand
-- ==== Proof.A.Out.lean ====
/- The joined heads, the output projection and the feed-forward layer of the second call, read one element at a time. -/
module

public import proofs.«01_k».proof.Proof.KernelIdeal.Out
public import proofs.«01_k».proof.Proof.A.Body
public import proofs.«01_k».proof.Proof.A.Head

@[expose] public section

set_option maxRecDepth 16384

noncomputable section

namespace Cert.KernelIdeal.Hand

open Idealize.ShloMosaic Idealize.ShloMosaic.TcCoe Idealize.SL.Sem Cert.KernelIdeal.Gen Cert.Spec Cert.Soft

/-- In the left half of the lanes the choice is the first expert's gate. -/
theorem pick_left {α : Type} (x : Fin 128) (a b : α) :
    Scalar.select (IntOp.cmpi CmpIPredicate.slt (BitVec.ofNat 32 x.val) 128#32) a b = a := by
  have h : ∀ x : Fin 128, IntOp.cmpi CmpIPredicate.slt (BitVec.ofNat 32 x.val) 128#32 = 1#1 := by decide +kernel
  rw [h x]
  rfl

/-- In the right half it is the second's. -/
theorem pick_right {α : Type} (x : Fin 128) (a b : α) :
    Scalar.select (IntOp.cmpi CmpIPredicate.slt (BitVec.ofNat 32 (128 + x.val)) 128#32) a b = b := by
  have h : ∀ x : Fin 128, IntOp.cmpi CmpIPredicate.slt (BitVec.ofNat 32 (128 + x.val)) 128#32 = 0#1 := by decide +kernel
  rw [h x]
  rfl

/-- A gate inside the sum over the hidden lanes is the gate before it. -/
theorem pull_gate {n : Nat} (k : Nat) (L : Fin n → EReal) (e : Fin n) (u w : Fin 128 → EReal) :
    ∑ f, u f * gate k L e * w f = gate k L e * ∑ f, u f * w f := by
  obtain ⟨y, hy, h⟩ := gate_real k L e
  rw [h]
  have hs : ∀ s : Finset (Fin 128), ∑ f ∈ s, u f * (y : EReal) * w f = (y : EReal) * ∑ f ∈ s, u f * w f := fun s => by
    induction s using Finset.induction_on with
    | empty => simp
    | insert a s ha ih =>
      rw [Finset.sum_insert ha, Finset.sum_insert ha, ih, EReal.left_distrib_of_nonneg_of_ne_top (by exact_mod_cast hy) (EReal.coe_ne_top y)]
      congr 1
      ac_rfl
  exact hs Finset.univ

/-- A sum over sixteen experts, written out. -/
theorem sixteen (f : Fin 16 → EReal) : ∑ e, f e = f 0 + f 1 + (f 2 + f 3) + (f 4 + f 5) + (f 6 + f 7) + (f 8 + f 9)
    + (f 10 + f 11) + (f 12 + f 13) + (f 14 + f 15) := by
  refine (Fin.sum_univ_add (a := 8) (b := 8) f).trans ?_
  rw [Fin.sum_univ_eight, Fin.sum_univ_eight]
  simp only [add_assoc]
  rfl

/-- A sum over the lanes of a pair of experts, the first's and then the second's. -/
theorem halves (f : Fin 256 → EReal) : ∑ x, f x = ∑ x : Fin 128, f ⟨x.val, by omega⟩ + ∑ x : Fin 128, f ⟨128 + x.val, by omega⟩ :=
  Fin.sum_univ_add (a := 128) (b := 128) f

/-- Twelve heads side by side. -/
theorem cat12 (p0 p1 p2 p3 p4 p5 p6 p7 p8 p9 p10 p11 : FVec Ideal S512x64 .bf16) (h) (r : Fin 512) (l : Fin 768) :
    concatenate S512x768 1 [⟨S512x64, p0⟩, ⟨S512x64, p1⟩, ⟨S512x64, p2⟩, ⟨S512x64, p3⟩, ⟨S512x64, p4⟩, ⟨S512x64, p5⟩, ⟨S512x64, p6⟩, ⟨S512x64, p7⟩, ⟨S512x64, p8⟩, ⟨S512x64, p9⟩, ⟨S512x64, p10⟩, ⟨S512x64, p11⟩] h (ix2 r l)
      = (![p0, p1, p2, p3, p4, p5, p6, p7, p8, p9, p10, p11] : Fin 12 → FVec Ideal S512x64 .bf16) ⟨l.val / 64, by omega⟩ (ix2 r ⟨l.val % 64, by omega⟩) := by
  refine concatenate_ofFn_apply (t := S512x768) (s₁ := S512x64) (1 : Fin 2) (![p0, p1, p2, p3, p4, p5, p6, p7, p8, p9, p10, p11] : Fin 12 → FVec Ideal S512x64 .bf16) h rfl 64 rfl (ix2 r l) ⟨l.val / 64, by omega⟩ rfl (ix2 r ⟨l.val % 64, by omega⟩) rfl ?_
  intro b hb
  fin_cases b
  · rfl
  · exact absurd rfl hb

variable (c : Dev nD) (i : grid1.Coords) (arg1 : Memref sig .tc .vmem S512x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S64x768 .f32) (harg6 : arg6.IsWhole) (arg7 : Memref sig .tc .vmem S768x3072 .bf16) (harg7 : arg7.IsWhole) (arg8 : Memref sig .tc .vmem S8x768x768 .bf16) (harg8 : arg8.IsWhole) (arg9 : Memref sig .tc .vmem S768x8 .f32) (harg9 : arg9.IsWhole) (arg10 : Memref sig .tc .vmem S8x768x768 .bf16) (harg10 : arg10.IsWhole) (arg11 : Memref sig .tc .vmem S768x8 .f32) (harg11 : arg11.IsWhole) (arg12 : Memref sig .tc .vmem S8x768x256 .bf16) (harg12 : arg12.IsWhole) (arg13 : Memref sig .tc .vmem S8x256x768 .bf16) (harg13 : arg13.IsWhole) (arg14 : Memref sig .tc .vmem S768x16 .f32) (harg14 : arg14.IsWhole) (arg15 : Memref sig .tc .vmem S512x768 .f32) (harg15 : arg15.IsWhole) (arg16 : Memref sig .tc .vmem S12x4x64x512 .bf16) (harg16 : arg16.IsWhole) (arg17 : Memref sig .tc .vmem S12x4x512x64 .bf16) (harg17 : arg17.IsWhole)
    (x0 : Vec Ideal S512x768 .f32) (x1 : Vec Ideal S1x768 .f32) (x2 : Vec Ideal S1x768 .f32) (x3 : Vec Ideal S512x64 .f32) (x4 : Vec Ideal S512x64 .f32) (x5 : Vec Ideal S64x768 .f32) (x6 : Vec Ideal S768x3072 .bf16) (x7 : Vec Ideal S8x768x768 .bf16) (x8 : Vec Ideal S768x8 .f32) (x9 : Vec Ideal S8x768x768 .bf16) (x10 : Vec Ideal S768x8 .f32) (x11 : Vec Ideal S8x768x256 .bf16) (x12 : Vec Ideal S8x256x768 .bf16) (x13 : Vec Ideal S768x16 .f32)

theorem joined_pt (y0 : Vec Ideal S12x4x64x512 .bf16) (y1 : Vec Ideal S12x4x512x64 .bf16) (r : Fin 512) (S : Fin 12 → ℕ → ℝ) (V : Fin 768 → ℕ → EReal)
    (hS : ∀ (h : Fin 12) (k : Fin 4), k.val ≤ (i 0).val → ∀ j : Fin 512, ∑ x : Fin 64, (bodyRun.sl.v35 c arg1 harg1 arg2 harg2 arg4 harg4 arg5 harg5 arg6 harg6 arg7 harg7 x0 x1 x3 x4 x5 x6) (ix2 r ⟨h.val * 64 + x.val, by omega⟩) * carK (i 0).val (bodyRun.sl.v45 c arg1 harg1 arg2 harg2 arg4 harg4 arg5 harg5 arg6 harg6 arg7 harg7 x0 x1 x3 x4 x5 x6) y0 (ix4 h k x j) = (S h (k.val * 512 + j.val) : EReal))
    (hV : ∀ (h : Fin 12) (k : Fin 4), k.val ≤ (i 0).val → ∀ (j : Fin 512) (d : Fin 64), carV (i 0).val (bodyRun.sl.v189 c arg1 harg1 arg2 harg2 arg8 harg8 arg9 harg9 x0 x1 x7 x8) y1 (ix4 h k j d) = V ⟨h.val * 64 + d.val, by omega⟩ (k.val * 512 + j.val))
    (l : Fin 768) :
    (bodyRun.sl.v354 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1) (ix2 r l) = mean (S ⟨l.val / 64, by omega⟩) ((i 0).val * 512 + r.val) (V l) := by
  unfold bodyRun.sl.v354
  rw [head_0, head_1, head_2, head_3, head_4, head_5, head_6, head_7, head_8, head_9, head_10, head_11]
  refine (cat12 _ _ _ _ _ _ _ _ _ _ _ _ _ r l).trans ?_
  obtain ⟨n, d, rfl⟩ : ∃ (n : Fin 12) (d : Fin 64), l = ⟨n.val * 64 + d.val, by omega⟩ := ⟨⟨l.val / 64, by omega⟩, ⟨l.val % 64, by omega⟩, Fin.ext (by show l.val = l.val / 64 * 64 + l.val % 64; omega)⟩
  have en : (⟨(n.val * 64 + d.val) / 64, by omega⟩ : Fin 12) = n := Fin.ext (by show (n.val * 64 + d.val) / 64 = n.val; omega)
  have ed : (⟨(n.val * 64 + d.val) % 64, by omega⟩ : Fin 64) = d := Fin.ext (by show (n.val * 64 + d.val) % 64 = d.val; omega)
  simp only [en, ed]
  have hq : ∀ (h : Fin 12) (q : FVec Ideal S512x64 .bf16), (∀ x : Fin 64, q (ix2 r x) = (bodyRun.sl.v35 c arg1 harg1 arg2 harg2 arg4 harg4 arg5 harg5 arg6 harg6 arg7 harg7 x0 x1 x3 x4 x5 x6) (ix2 r ⟨h.val * 64 + x.val, by omega⟩)) →
      hOut i q h (carK (i 0).val (bodyRun.sl.v45 c arg1 harg1 arg2 harg2 arg4 harg4 arg5 harg5 arg6 harg6 arg7 harg7 x0 x1 x3 x4 x5 x6) y0) (carV (i 0).val (bodyRun.sl.v189 c arg1 harg1 arg2 harg2 arg8 harg8 arg9 harg9 x0 x1 x7 x8) y1) (ix2 r d) = mean (S h) ((i 0).val * 512 + r.val) (V ⟨h.val * 64 + d.val, by omega⟩) := fun h q e =>
    head_at i q h _ _ r (S h) (fun d => V ⟨h.val * 64 + d.val, by omega⟩) (fun k hk j => by simp only [e]; exact hS h k hk j) (hV h) d
  fin_cases n
  · exact hq 0 (bodyRun.sl.v255 c arg1 harg1 arg2 harg2 arg4 harg4 arg5 harg5 arg6 harg6 arg7 harg7 x0 x1 x3 x4 x5 x6) (fun x => by pointwise [bodyRun.sl.v255])
  · exact hq 1 (bodyRun.sl.v256 c arg1 harg1 arg2 harg2 arg4 harg4 arg5 harg5 arg6 harg6 arg7 harg7 x0 x1 x3 x4 x5 x6) (fun x => by pointwise [bodyRun.sl.v256])
  · exact hq 2 (bodyRun.sl.v257 c arg1 harg1 arg2 harg2 arg4 harg4 arg5 harg5 arg6 harg6 arg7 harg7 x0 x1 x3 x4 x5 x6) (fun x => by pointwise [bodyRun.sl.v257])
  · exact hq 3 (bodyRun.sl.v258 c arg1 harg1 arg2 harg2 arg4 harg4 arg5 harg5 arg6 harg6 arg7 harg7 x0 x1 x3 x4 x5 x6) (fun x => by pointwise [bodyRun.sl.v258])
  · exact hq 4 (bodyRun.sl.v259 c arg1 harg1 arg2 harg2 arg4 harg4 arg5 harg5 arg6 harg6 arg7 harg7 x0 x1 x3 x4 x5 x6) (fun x => by pointwise [bodyRun.sl.v259])
  · exact hq 5 (bodyRun.sl.v260 c arg1 harg1 arg2 harg2 arg4 harg4 arg5 harg5 arg6 harg6 arg7 harg7 x0 x1 x3 x4 x5 x6) (fun x => by pointwise [bodyRun.sl.v260])
  · exact hq 6 (bodyRun.sl.r_1 c arg1 harg1 arg2 harg2 arg4 harg4 arg5 harg5 arg6 harg6 arg7 harg7 x0 x1 x3 x4 x5 x6) (fun x => by pointwise [bodyRun.sl.r_1, k1_pay166])
  · exact hq 7 (bodyRun.sl.r_2 c arg1 harg1 arg2 harg2 arg4 harg4 arg5 harg5 arg6 harg6 arg7 harg7 x0 x1 x3 x4 x5 x6) (fun x => by pointwise [bodyRun.sl.r_2, k1_pay167])
  · exact hq 8 (bodyRun.sl.r_3 c arg1 harg1 arg2 harg2 arg4 harg4 arg5 harg5 arg6 harg6 arg7 harg7 x0 x1 x3 x4 x5 x6) (fun x => by pointwise [bodyRun.sl.r_3, k1_pay168])
  · exact hq 9 (bodyRun.sl.r_4 c arg1 harg1 arg2 harg2 arg4 harg4 arg5 harg5 arg6 harg6 arg7 harg7 x0 x1 x3 x4 x5 x6) (fun x => by pointwise [bodyRun.sl.r_4, k1_pay169])
  · exact hq 10 (bodyRun.sl.r_5 c arg1 harg1 arg2 harg2 arg4 harg4 arg5 harg5 arg6 harg6 arg7 harg7 x0 x1 x3 x4 x5 x6) (fun x => by pointwise [bodyRun.sl.r_5, k1_pay170])
  · exact hq 11 (bodyRun.sl.r_6 c arg1 harg1 arg2 harg2 arg4 harg4 arg5 harg5 arg6 harg6 arg7 harg7 x0 x1 x3 x4 x5 x6) (fun x => by pointwise [bodyRun.sl.r_6, k1_pay171])

theorem proj_logit_pt (r : Fin 512) (e : Fin 8) : (bodyRun.sl.v356 c arg1 harg1 arg2 harg2 arg11 harg11 x0 x1 x10) (ix2 r e) = ∑ k, norm (fun j => x0 (ix2 r j)) (fun j => x1 (ix2 0 j)) k * x10 (ix2 k e) := by
  pointwise [bodyRun.sl.v356, bodyRun.sl.cst_152]
  simp only [h_pt]
  refine Finset.sum_congr rfl fun k _ => ?_
  congr 1
  exact load_pt harg11 x10 _ _ _ _ _ (fun a => by match a with | ⟨0, _⟩ => exact (Nat.zero_add _).symm | ⟨1, _⟩ => exact (Nat.zero_add _).symm)

theorem proj_gate_pt (r : Fin 512) (e : Fin 8) : (bodyRun.sl.v380 c arg1 harg1 arg2 harg2 arg11 harg11 x0 x1 x10) (ix2 r e)
    = gate 2 (fun e => ∑ k, norm (fun j => x0 (ix2 r j)) (fun j => x1 (ix2 0 j)) k * x10 (ix2 k e)) e := by
  pointwise [bodyRun.sl.v380, bodyRun.sl.v379, bodyRun.sl.v378, bodyRun.sl.v377, bodyRun.sl.v376, bodyRun.sl.v375, bodyRun.sl.v374, bodyRun.sl.v373, bodyRun.sl.v372, bodyRun.sl.v371, bodyRun.sl.v370, bodyRun.sl.v368, bodyRun.sl.v365, bodyRun.sl.v364, bodyRun.sl.v363, bodyRun.sl.v362, bodyRun.sl.v361, bodyRun.sl.v360, bodyRun.sl.v359, bodyRun.sl.v358, bodyRun.sl.v357, bodyRun.sl.cst_154]
  simp only [proj_logit_pt]
  exact Gates.kernel_gate (by decide) (fun e => ∑ k, norm (fun j => x0 (ix2 r j)) (fun j => x1 (ix2 0 j)) k * x10 (ix2 k e)) e _ 2 two

theorem wo0_pt (k l : Fin 768) : (bodyRun.sl.v383 c arg10 harg10 x9) (ix2 k l) = x9 (ix3 0 k l) := by
  pointwise [bodyRun.sl.v383]
  exact load_pt harg10 x9 _ _ _ _ _ (fun a => by match a with | ⟨0, _⟩ => rfl | ⟨1, _⟩ => exact (Nat.zero_add _).symm | ⟨2, _⟩ => exact (Nat.zero_add _).symm)

theorem wo1_pt (k l : Fin 768) : (bodyRun.sl.v390 c arg10 harg10 x9) (ix2 k l) = x9 (ix3 1 k l) := by
  pointwise [bodyRun.sl.v390]
  exact load_pt harg10 x9 _ _ _ _ _ (fun a => by match a with | ⟨0, _⟩ => rfl | ⟨1, _⟩ => exact (Nat.zero_add _).symm | ⟨2, _⟩ => exact (Nat.zero_add _).symm)

theorem wo2_pt (k l : Fin 768) : (bodyRun.sl.v397 c arg10 harg10 x9) (ix2 k l) = x9 (ix3 2 k l) := by
  pointwise [bodyRun.sl.v397]
  exact load_pt harg10 x9 _ _ _ _ _ (fun a => by match a with | ⟨0, _⟩ => rfl | ⟨1, _⟩ => exact (Nat.zero_add _).symm | ⟨2, _⟩ => exact (Nat.zero_add _).symm)

theorem wo3_pt (k l : Fin 768) : (bodyRun.sl.v404 c arg10 harg10 x9) (ix2 k l) = x9 (ix3 3 k l) := by
  pointwise [bodyRun.sl.v404]
  exact load_pt harg10 x9 _ _ _ _ _ (fun a => by match a with | ⟨0, _⟩ => rfl | ⟨1, _⟩ => exact (Nat.zero_add _).symm | ⟨2, _⟩ => exact (Nat.zero_add _).symm)

theorem wo4_pt (k l : Fin 768) : (bodyRun.sl.v411 c arg10 harg10 x9) (ix2 k l) = x9 (ix3 4 k l) := by
  pointwise [bodyRun.sl.v411]
  exact load_pt harg10 x9 _ _ _ _ _ (fun a => by match a with | ⟨0, _⟩ => rfl | ⟨1, _⟩ => exact (Nat.zero_add _).symm | ⟨2, _⟩ => exact (Nat.zero_add _).symm)

theorem wo5_pt (k l : Fin 768) : (bodyRun.sl.v418 c arg10 harg10 x9) (ix2 k l) = x9 (ix3 5 k l) := by
  pointwise [bodyRun.sl.v418]
  exact load_pt harg10 x9 _ _ _ _ _ (fun a => by match a with | ⟨0, _⟩ => rfl | ⟨1, _⟩ => exact (Nat.zero_add _).symm | ⟨2, _⟩ => exact (Nat.zero_add _).symm)

theorem wo6_pt (k l : Fin 768) : (bodyRun.sl.v425 c arg10 harg10 x9) (ix2 k l) = x9 (ix3 6 k l) := by
  pointwise [bodyRun.sl.v425]
  exact load_pt harg10 x9 _ _ _ _ _ (fun a => by match a with | ⟨0, _⟩ => rfl | ⟨1, _⟩ => exact (Nat.zero_add _).symm | ⟨2, _⟩ => exact (Nat.zero_add _).symm)

theorem wo7_pt (k l : Fin 768) : (bodyRun.sl.v432 c arg10 harg10 x9) (ix2 k l) = x9 (ix3 7 k l) := by
  pointwise [bodyRun.sl.v432]
  exact load_pt harg10 x9 _ _ _ _ _ (fun a => by match a with | ⟨0, _⟩ => rfl | ⟨1, _⟩ => exact (Nat.zero_add _).symm | ⟨2, _⟩ => exact (Nat.zero_add _).symm)

theorem zero_pt (r : Fin 512) (l : Fin 768) : bodyRun.sl.v381 (F := Ideal) (ix2 r l) = 0 := by
  pointwise [bodyRun.sl.v381, bodyRun.sl.cst_155]

variable (y0 : Vec Ideal S12x4x64x512 .bf16) (y1 : Vec Ideal S12x4x512x64 .bf16)

/-- The row after the output projection. -/
theorem mid_pt (r : Fin 512) (l : Fin 768) : (bodyRun.sl.v438 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 x9 x10 y0 y1) (ix2 r l)
    = x0 (ix2 r l) + routed (norm (fun j => x0 (ix2 r j)) (fun j => x1 (ix2 0 j))) (fun j => (bodyRun.sl.v354 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1) (ix2 r j)) (fun e k l => x9 (ix3 e k l)) (fun k e => x10 (ix2 k e)) l := by
  pointwise [bodyRun.sl.v388, bodyRun.sl.v387, bodyRun.sl.v386, bodyRun.sl.v385, bodyRun.sl.v384, bodyRun.sl.v395, bodyRun.sl.v394, bodyRun.sl.v393, bodyRun.sl.v392, bodyRun.sl.v391, bodyRun.sl.v402, bodyRun.sl.v401, bodyRun.sl.v400, bodyRun.sl.v399, bodyRun.sl.v398, bodyRun.sl.v409, bodyRun.sl.v408, bodyRun.sl.v407, bodyRun.sl.v406, bodyRun.sl.v405, bodyRun.sl.v416, bodyRun.sl.v415, bodyRun.sl.v414, bodyRun.sl.v413, bodyRun.sl.v412, bodyRun.sl.v423, bodyRun.sl.v422, bodyRun.sl.v421, bodyRun.sl.v420, bodyRun.sl.v419, bodyRun.sl.v430, bodyRun.sl.v429, bodyRun.sl.v428, bodyRun.sl.v427, bodyRun.sl.v426, bodyRun.sl.v438, bodyRun.sl.v437, bodyRun.sl.v436, bodyRun.sl.v435, bodyRun.sl.v434, bodyRun.sl.v433, bodyRun.sl.cst_159]
  simp only [proj_gate_pt, zero_pt, wo0_pt, wo1_pt, wo2_pt, wo3_pt, wo4_pt, wo5_pt, wo6_pt, wo7_pt, x_pt, zero_add]
  unfold routed
  rw [Fin.sum_univ_eight]
  simp only [mul_comm (gate _ _ _)]

theorem gf_pt (l : Fin 768) : (bodyRun.sl.v440 c arg3 harg3 x2) (ix2 0 l) = x2 (ix2 0 l) := by
  pointwise [bodyRun.sl.v440]
  exact load_pt harg3 x2 _ _ _ _ _ (fun a => by match a with | ⟨0, _⟩ => exact (Nat.zero_add _).symm | ⟨1, _⟩ => exact (Nat.zero_add _).symm)

theorem feed_row_pt (r : Fin 512) (l : Fin 768) : (bodyRun.sl.v452 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 y0 y1) (ix2 r l) = norm (fun j => (bodyRun.sl.v438 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 x9 x10 y0 y1) (ix2 r j)) (fun j => x2 (ix2 0 j)) l := by
  pointwise [bodyRun.sl.v452, bodyRun.sl.v451, bodyRun.sl.v450, bodyRun.sl.v449, bodyRun.sl.v448, bodyRun.sl.v447, bodyRun.sl.v446, bodyRun.sl.v445, bodyRun.sl.v444, bodyRun.sl.v443, bodyRun.sl.v442, bodyRun.sl.v441, bodyRun.sl.cst_191, bodyRun.sl.cst_192]
  simp only [gf_pt]
  rfl

theorem feed_rowb_pt (r : Fin 512) (l : Fin 768) : (bodyRun.sl.v453 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 y0 y1) (ix2 r l) = norm (fun j => (bodyRun.sl.v438 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 x9 x10 y0 y1) (ix2 r j)) (fun j => x2 (ix2 0 j)) l := by
  pointwise [bodyRun.sl.v453]
  rw [feed_row_pt]

theorem feed_logit_pt (r : Fin 512) (e : Fin 16) : (bodyRun.sl.v455 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x13 y0 y1) (ix2 r e) = ∑ k, norm (fun j => (bodyRun.sl.v438 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 x9 x10 y0 y1) (ix2 r j)) (fun j => x2 (ix2 0 j)) k * x13 (ix2 k e) := by
  pointwise [bodyRun.sl.v455, bodyRun.sl.cst_195]
  simp only [feed_row_pt]
  refine Finset.sum_congr rfl fun k _ => ?_
  congr 1
  exact load_pt harg14 x13 _ _ _ _ _ (fun a => by match a with | ⟨0, _⟩ => exact (Nat.zero_add _).symm | ⟨1, _⟩ => exact (Nat.zero_add _).symm)

theorem feed_gate_pt (r : Fin 512) (e : Fin 16) : (bodyRun.sl.v479 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x13 y0 y1) (ix2 r e)
    = gate 8 (fun e => ∑ k, norm (fun j => (bodyRun.sl.v438 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 x9 x10 y0 y1) (ix2 r j)) (fun j => x2 (ix2 0 j)) k * x13 (ix2 k e)) e := by
  pointwise [bodyRun.sl.v479, bodyRun.sl.v478, bodyRun.sl.v477, bodyRun.sl.v476, bodyRun.sl.v475, bodyRun.sl.v474, bodyRun.sl.v473, bodyRun.sl.v472, bodyRun.sl.v471, bodyRun.sl.v470, bodyRun.sl.v469, bodyRun.sl.v467, bodyRun.sl.v464, bodyRun.sl.v463, bodyRun.sl.v462, bodyRun.sl.v461, bodyRun.sl.v460, bodyRun.sl.v459, bodyRun.sl.v458, bodyRun.sl.v457, bodyRun.sl.v456, bodyRun.sl.cst_197]
  simp only [feed_logit_pt]
  exact Gates.kernel_gate (by decide) (fun e => ∑ k, norm (fun j => (bodyRun.sl.v438 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 x9 x10 y0 y1) (ix2 r j)) (fun j => x2 (ix2 0 j)) k * x13 (ix2 k e)) e _ 8 eight

theorem wa0_pt (k : Fin 768) (f : Fin 256) : (bodyRun.sl.v483 c arg12 harg12 x11) (ix2 k f) = x11 (ix3 0 k f) := by
  pointwise [bodyRun.sl.v483]
  exact load_pt harg12 x11 _ _ _ _ _ (fun a => by match a with | ⟨0, _⟩ => rfl | ⟨1, _⟩ => exact (Nat.zero_add _).symm | ⟨2, _⟩ => exact (Nat.zero_add _).symm)

theorem wb0_pt (f : Fin 256) (l : Fin 768) : (bodyRun.sl.v499 c arg13 harg13 x12) (ix2 f l) = x12 (ix3 0 f l) := by
  pointwise [bodyRun.sl.v499]
  exact load_pt harg13 x12 _ _ _ _ _ (fun a => by match a with | ⟨0, _⟩ => rfl | ⟨1, _⟩ => exact (Nat.zero_add _).symm | ⟨2, _⟩ => exact (Nat.zero_add _).symm)

theorem wa1_pt (k : Fin 768) (f : Fin 256) : (bodyRun.sl.v503 c arg12 harg12 x11) (ix2 k f) = x11 (ix3 1 k f) := by
  pointwise [bodyRun.sl.v503]
  exact load_pt harg12 x11 _ _ _ _ _ (fun a => by match a with | ⟨0, _⟩ => rfl | ⟨1, _⟩ => exact (Nat.zero_add _).symm | ⟨2, _⟩ => exact (Nat.zero_add _).symm)

theorem wb1_pt (f : Fin 256) (l : Fin 768) : (bodyRun.sl.v519 c arg13 harg13 x12) (ix2 f l) = x12 (ix3 1 f l) := by
  pointwise [bodyRun.sl.v519]
  exact load_pt harg13 x12 _ _ _ _ _ (fun a => by match a with | ⟨0, _⟩ => rfl | ⟨1, _⟩ => exact (Nat.zero_add _).symm | ⟨2, _⟩ => exact (Nat.zero_add _).symm)

theorem wa2_pt (k : Fin 768) (f : Fin 256) : (bodyRun.sl.v523 c arg12 harg12 x11) (ix2 k f) = x11 (ix3 2 k f) := by
  pointwise [bodyRun.sl.v523]
  exact load_pt harg12 x11 _ _ _ _ _ (fun a => by match a with | ⟨0, _⟩ => rfl | ⟨1, _⟩ => exact (Nat.zero_add _).symm | ⟨2, _⟩ => exact (Nat.zero_add _).symm)

theorem wb2_pt (f : Fin 256) (l : Fin 768) : (bodyRun.sl.v539 c arg13 harg13 x12) (ix2 f l) = x12 (ix3 2 f l) := by
  pointwise [bodyRun.sl.v539]
  exact load_pt harg13 x12 _ _ _ _ _ (fun a => by match a with | ⟨0, _⟩ => rfl | ⟨1, _⟩ => exact (Nat.zero_add _).symm | ⟨2, _⟩ => exact (Nat.zero_add _).symm)

theorem wa3_pt (k : Fin 768) (f : Fin 256) : (bodyRun.sl.v543 c arg12 harg12 x11) (ix2 k f) = x11 (ix3 3 k f) := by
  pointwise [bodyRun.sl.v543]
  exact load_pt harg12 x11 _ _ _ _ _ (fun a => by match a with | ⟨0, _⟩ => rfl | ⟨1, _⟩ => exact (Nat.zero_add _).symm | ⟨2, _⟩ => exact (Nat.zero_add _).symm)

theorem wb3_pt (f : Fin 256) (l : Fin 768) : (bodyRun.sl.v559 c arg13 harg13 x12) (ix2 f l) = x12 (ix3 3 f l) := by
  pointwise [bodyRun.sl.v559]
  exact load_pt harg13 x12 _ _ _ _ _ (fun a => by match a with | ⟨0, _⟩ => rfl | ⟨1, _⟩ => exact (Nat.zero_add _).symm | ⟨2, _⟩ => exact (Nat.zero_add _).symm)

theorem wa4_pt (k : Fin 768) (f : Fin 256) : (bodyRun.sl.v563 c arg12 harg12 x11) (ix2 k f) = x11 (ix3 4 k f) := by
  pointwise [bodyRun.sl.v563]
  exact load_pt harg12 x11 _ _ _ _ _ (fun a => by match a with | ⟨0, _⟩ => rfl | ⟨1, _⟩ => exact (Nat.zero_add _).symm | ⟨2, _⟩ => exact (Nat.zero_add _).symm)

theorem wb4_pt (f : Fin 256) (l : Fin 768) : (bodyRun.sl.v579 c arg13 harg13 x12) (ix2 f l) = x12 (ix3 4 f l) := by
  pointwise [bodyRun.sl.v579]
  exact load_pt harg13 x12 _ _ _ _ _ (fun a => by match a with | ⟨0, _⟩ => rfl | ⟨1, _⟩ => exact (Nat.zero_add _).symm | ⟨2, _⟩ => exact (Nat.zero_add _).symm)

theorem wa5_pt (k : Fin 768) (f : Fin 256) : (bodyRun.sl.v583 c arg12 harg12 x11) (ix2 k f) = x11 (ix3 5 k f) := by
  pointwise [bodyRun.sl.v583]
  exact load_pt harg12 x11 _ _ _ _ _ (fun a => by match a with | ⟨0, _⟩ => rfl | ⟨1, _⟩ => exact (Nat.zero_add _).symm | ⟨2, _⟩ => exact (Nat.zero_add _).symm)

theorem wb5_pt (f : Fin 256) (l : Fin 768) : (bodyRun.sl.v599 c arg13 harg13 x12) (ix2 f l) = x12 (ix3 5 f l) := by
  pointwise [bodyRun.sl.v599]
  exact load_pt harg13 x12 _ _ _ _ _ (fun a => by match a with | ⟨0, _⟩ => rfl | ⟨1, _⟩ => exact (Nat.zero_add _).symm | ⟨2, _⟩ => exact (Nat.zero_add _).symm)

theorem wa6_pt (k : Fin 768) (f : Fin 256) : (bodyRun.sl.v603 c arg12 harg12 x11) (ix2 k f) = x11 (ix3 6 k f) := by
  pointwise [bodyRun.sl.v603]
  exact load_pt harg12 x11 _ _ _ _ _ (fun a => by match a with | ⟨0, _⟩ => rfl | ⟨1, _⟩ => exact (Nat.zero_add _).symm | ⟨2, _⟩ => exact (Nat.zero_add _).symm)

theorem wb6_pt (f : Fin 256) (l : Fin 768) : (bodyRun.sl.v619 c arg13 harg13 x12) (ix2 f l) = x12 (ix3 6 f l) := by
  pointwise [bodyRun.sl.v619]
  exact load_pt harg13 x12 _ _ _ _ _ (fun a => by match a with | ⟨0, _⟩ => rfl | ⟨1, _⟩ => exact (Nat.zero_add _).symm | ⟨2, _⟩ => exact (Nat.zero_add _).symm)

theorem wa7_pt (k : Fin 768) (f : Fin 256) : (bodyRun.sl.v623 c arg12 harg12 x11) (ix2 k f) = x11 (ix3 7 k f) := by
  pointwise [bodyRun.sl.v623]
  exact load_pt harg12 x11 _ _ _ _ _ (fun a => by match a with | ⟨0, _⟩ => rfl | ⟨1, _⟩ => exact (Nat.zero_add _).symm | ⟨2, _⟩ => exact (Nat.zero_add _).symm)

theorem wb7_pt (f : Fin 256) (l : Fin 768) : (bodyRun.sl.v639 c arg13 harg13 x12) (ix2 f l) = x12 (ix3 7 f l) := by
  pointwise [bodyRun.sl.v639]
  exact load_pt harg13 x12 _ _ _ _ _ (fun a => by match a with | ⟨0, _⟩ => rfl | ⟨1, _⟩ => exact (Nat.zero_add _).symm | ⟨2, _⟩ => exact (Nat.zero_add _).symm)

/-- The stored result. -/
theorem store_pt (r : Fin 512) (l : Fin 768) (W1 : Fin 16 → Fin 768 → Fin 128 → EReal) (W2 : Fin 16 → Fin 128 → Fin 768 → EReal)
    (a0 : ∀ (p : Fin 8) (k : Fin 768) (f : Fin 128), x11 (ix3 p k ⟨f.val, by omega⟩) = W1 ⟨2 * p.val, by omega⟩ k f)
    (a1 : ∀ (p : Fin 8) (k : Fin 768) (f : Fin 128), x11 (ix3 p k ⟨128 + f.val, by omega⟩) = W1 ⟨2 * p.val + 1, by omega⟩ k f)
    (b0 : ∀ (p : Fin 8) (f : Fin 128) (l : Fin 768), x12 (ix3 p ⟨f.val, by omega⟩ l) = W2 ⟨2 * p.val, by omega⟩ f l)
    (b1 : ∀ (p : Fin 8) (f : Fin 128) (l : Fin 768), x12 (ix3 p ⟨128 + f.val, by omega⟩ l) = W2 ⟨2 * p.val + 1, by omega⟩ f l) :
    k1_pay1 (bodyRun.sl.v438 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 x9 x10 y0 y1) (bodyRun.sl.v621 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y0 y1) (bodyRun.sl.v637 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x13 y0 y1) (bodyRun.sl.v639 c arg13 harg13 x12) (ix2 r l)
      = out (fun j => x0 (ix2 r j)) (fun j => (bodyRun.sl.v354 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1) (ix2 r j)) (fun j => x1 (ix2 0 j)) (fun j => x2 (ix2 0 j))
          (fun e k l => x9 (ix3 e k l)) (fun k e => x10 (ix2 k e)) W1 W2 (fun k e => x13 (ix2 k e)) l := by
  obtain ⟨N, eN⟩ : ∃ N : Fin 768 → EReal, N = norm (fun j => x0 (ix2 r j) + routed (norm (fun j => x0 (ix2 r j)) (fun j => x1 (ix2 0 j))) (fun j => (bodyRun.sl.v354 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 y0 y1) (ix2 r j)) (fun e k l => x9 (ix3 e k l)) (fun k e => x10 (ix2 k e)) j) (fun j => x2 (ix2 0 j)) := ⟨_, rfl⟩
  obtain ⟨G, eG⟩ : ∃ G : Fin 16 → EReal, G = gate 8 (fun e => ∑ k, N k * x13 (ix2 k e)) := ⟨_, rfl⟩
  have hN : ∀ k, (bodyRun.sl.v453 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 y0 y1) (ix2 r k) = N k := fun k => by simp only [feed_rowb_pt, mid_pt, eN]
  have hG : ∀ e, (bodyRun.sl.v479 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x13 y0 y1) (ix2 r e) = G e := fun e => by simp only [feed_gate_pt, mid_pt, eG, eN]
  have hp : ∀ (e : Fin 16) (u w : Fin 128 → EReal), ∑ f, u f * G e * w f = G e * ∑ f, u f * w f := fun e u w => by rw [eG]; exact pull_gate 8 _ e u w
  pointwise [k1_pay1, bodyRun.sl.v497, bodyRun.sl.v496, bodyRun.sl.v495, bodyRun.sl.v494, bodyRun.sl.v493, bodyRun.sl.v492, bodyRun.sl.v491, bodyRun.sl.v490, bodyRun.sl.v489, bodyRun.sl.v487, bodyRun.sl.v486, bodyRun.sl.v485, bodyRun.sl.v484, bodyRun.sl.v501, bodyRun.sl.v500, bodyRun.sl.v517, bodyRun.sl.v516, bodyRun.sl.v515, bodyRun.sl.v514, bodyRun.sl.v513, bodyRun.sl.v512, bodyRun.sl.v511, bodyRun.sl.v510, bodyRun.sl.v509, bodyRun.sl.v506, bodyRun.sl.v504, bodyRun.sl.v521, bodyRun.sl.v520, bodyRun.sl.v537, bodyRun.sl.v536, bodyRun.sl.v535, bodyRun.sl.v534, bodyRun.sl.v533, bodyRun.sl.v532, bodyRun.sl.v531, bodyRun.sl.v530, bodyRun.sl.v529, bodyRun.sl.v526, bodyRun.sl.v524, bodyRun.sl.v541, bodyRun.sl.v540, bodyRun.sl.v557, bodyRun.sl.v556, bodyRun.sl.v555, bodyRun.sl.v554, bodyRun.sl.v553, bodyRun.sl.v552, bodyRun.sl.v551, bodyRun.sl.v550, bodyRun.sl.v549, bodyRun.sl.v546, bodyRun.sl.v544, bodyRun.sl.v561, bodyRun.sl.v560, bodyRun.sl.v577, bodyRun.sl.v576, bodyRun.sl.v575, bodyRun.sl.v574, bodyRun.sl.v573, bodyRun.sl.v572, bodyRun.sl.v571, bodyRun.sl.v570, bodyRun.sl.v569, bodyRun.sl.v566, bodyRun.sl.v564, bodyRun.sl.v581, bodyRun.sl.v580, bodyRun.sl.v597, bodyRun.sl.v596, bodyRun.sl.v595, bodyRun.sl.v594, bodyRun.sl.v593, bodyRun.sl.v592, bodyRun.sl.v591, bodyRun.sl.v590, bodyRun.sl.v589, bodyRun.sl.v586, bodyRun.sl.v584, bodyRun.sl.v601, bodyRun.sl.v600, bodyRun.sl.v617, bodyRun.sl.v616, bodyRun.sl.v615, bodyRun.sl.v614, bodyRun.sl.v613, bodyRun.sl.v612, bodyRun.sl.v611, bodyRun.sl.v610, bodyRun.sl.v609, bodyRun.sl.v606, bodyRun.sl.v604, bodyRun.sl.v621, bodyRun.sl.v620, bodyRun.sl.v637, bodyRun.sl.v636, bodyRun.sl.v635, bodyRun.sl.v634, bodyRun.sl.v633, bodyRun.sl.v632, bodyRun.sl.v631, bodyRun.sl.v630, bodyRun.sl.v629, bodyRun.sl.v626, bodyRun.sl.v624, bodyRun.sl.v481, bodyRun.sl.v485, bodyRun.sl.cst_155, bodyRun.sl.cst_202, bodyRun.sl.cst_159]
  simp only [hG, hN, zero_pt, wa0_pt, wb0_pt, wa1_pt, wb1_pt, wa2_pt, wb2_pt, wa3_pt, wb3_pt, wa4_pt, wb4_pt, wa5_pt, wb5_pt, wa6_pt, wb6_pt, wa7_pt, wb7_pt, halves, pick_left, pick_right, a0, a1, b0, b1, mid_pt, hp, zero_add]
  unfold out feed
  rw [sixteen]
  simp only [eG, eN]
  rfl

/-- The body stores its result once. -/
theorem piece_eq : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y0 y1).1.1 = [⟨Rect.unit ![0, 0] S512x768.size inb_S512x768_S512x768_0_0, k1_pay1 (bodyRun.sl.v438 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x3 x4 x5 x6 x7 x8 x9 x10 y0 y1) (bodyRun.sl.v621 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y0 y1) (bodyRun.sl.v637 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x13 y0 y1) (bodyRun.sl.v639 c arg13 harg13 x12)⟩] := by
  delta bodyRun; rfl

end Cert.KernelIdeal.Hand
-- ==== Proof.A.Prep.lean ====
/- The first call's packed weights, read one element at a time. -/
module

public import proofs.«01_k».proof.Proof.KernelIdeal.Region0
public import proofs.«01_k».proof.Proof.A.Rope

@[expose] public section

set_option maxRecDepth 16384

noncomputable section

namespace Cert.KernelIdeal.Hand

open Idealize.ShloMosaic Idealize.ShloMosaic.TcCoe Idealize.SL.Sem Cert.KernelIdeal.Gen Cert.Spec Cert.Soft

/-- A weight with the halves of every head's lanes exchanged and the upper half negated. -/
def rot (w : Vec Ideal S768x768 .f32) (k l : Fin 768) : EReal :=
  if h : l.val % 64 < 32 then 0 - w (ix2 k ⟨l.val + 32, by omega⟩) else w (ix2 k ⟨l.val - 32, by omega⟩)

/-- Twenty-four pieces of thirty-two columns side by side. -/
theorem cat24 (p0 p1 p2 p3 p4 p5 p6 p7 p8 p9 p10 p11 p12 p13 p14 p15 p16 p17 p18 p19 p20 p21 p22 p23 : FVec Ideal S768x32 .f32) (h) (k l : Fin 768) :
    concatenate S768x768 1 [⟨S768x32, p0⟩, ⟨S768x32, p1⟩, ⟨S768x32, p2⟩, ⟨S768x32, p3⟩, ⟨S768x32, p4⟩, ⟨S768x32, p5⟩, ⟨S768x32, p6⟩, ⟨S768x32, p7⟩, ⟨S768x32, p8⟩, ⟨S768x32, p9⟩, ⟨S768x32, p10⟩, ⟨S768x32, p11⟩, ⟨S768x32, p12⟩, ⟨S768x32, p13⟩, ⟨S768x32, p14⟩, ⟨S768x32, p15⟩, ⟨S768x32, p16⟩, ⟨S768x32, p17⟩, ⟨S768x32, p18⟩, ⟨S768x32, p19⟩, ⟨S768x32, p20⟩, ⟨S768x32, p21⟩, ⟨S768x32, p22⟩, ⟨S768x32, p23⟩] h (ix2 k l)
      = (![p0, p1, p2, p3, p4, p5, p6, p7, p8, p9, p10, p11, p12, p13, p14, p15, p16, p17, p18, p19, p20, p21, p22, p23] : Fin 24 → FVec Ideal S768x32 .f32) ⟨l.val / 32, by omega⟩ (ix2 k ⟨l.val % 32, by omega⟩) := by
  refine concatenate_ofFn_apply (t := S768x768) (s₁ := S768x32) (1 : Fin 2) (![p0, p1, p2, p3, p4, p5, p6, p7, p8, p9, p10, p11, p12, p13, p14, p15, p16, p17, p18, p19, p20, p21, p22, p23] : Fin 24 → FVec Ideal S768x32 .f32) h rfl 32 rfl (ix2 k l) ⟨l.val / 32, by omega⟩ rfl (ix2 k ⟨l.val % 32, by omega⟩) rfl ?_
  intro b hb
  fin_cases b
  · rfl
  · exact absurd rfl hb

/-- Four parts of 768 columns side by side. -/
theorem cat4 (p0 p1 p2 p3 : FVec Ideal S768x768 .f32) (h) (k : Fin 768) (n : Fin 4) (l : Fin 768) :
    concatenate S768x3072 1 [⟨S768x768, p0⟩, ⟨S768x768, p1⟩, ⟨S768x768, p2⟩, ⟨S768x768, p3⟩] h (ix2 k ⟨n.val * 768 + l.val, by omega⟩)
      = (![p0, p1, p2, p3] : Fin 4 → FVec Ideal S768x768 .f32) n (ix2 k l) := by
  refine concatenate_ofFn_apply (t := S768x3072) (s₁ := S768x768) (1 : Fin 2) (![p0, p1, p2, p3] : Fin 4 → FVec Ideal S768x768 .f32) h rfl 768 rfl (ix2 k ⟨n.val * 768 + l.val, by omega⟩) n (show (n.val * 768 + l.val) / 768 = n.val by omega) (ix2 k l) (show l.val = (n.val * 768 + l.val) % 768 by omega) ?_
  intro b hb
  fin_cases b
  · rfl
  · exact absurd rfl hb

theorem rot_even (w : Vec Ideal S768x768 .f32) (k : Fin 768) (n : Nat) (hn : n < 12) (d : Fin 32) (l l' : Fin 768) (hl : l.val = n * 64 + d.val) (hl' : l'.val = n * 64 + 32 + d.val) :
    rot w k l = 0 - w (ix2 k l') := by
  have e : l.val % 64 < 32 := by omega
  unfold rot
  rw [dif_pos e, show (⟨l.val + 32, by omega⟩ : Fin 768) = l' from Fin.ext (by show l.val + 32 = _; omega)]

theorem rot_odd (w : Vec Ideal S768x768 .f32) (k : Fin 768) (n : Nat) (hn : n < 12) (d : Fin 32) (l l' : Fin 768) (hl : l.val = n * 64 + 32 + d.val) (hl' : l'.val = n * 64 + d.val) :
    rot w k l = w (ix2 k l') := by
  have e : ¬ l.val % 64 < 32 := by omega
  unfold rot
  rw [dif_neg e, show (⟨l.val - 32, by omega⟩ : Fin 768) = l' from Fin.ext (by show l.val - 32 = _; omega)]

theorem ofBits_zero : (Scalar.ofBits .f32 0x00000000#32 : Ideal .f32) = 0 := by pointwise

set_option maxHeartbeats 4000000 in
theorem rotk_piece (w : Vec Ideal S768x768 .f32) (k : Fin 768) (n : Fin 24) (d : Fin 32) :
    (![(k0_pay27 w), (k0_pay28 w), (k0_pay29 w), (k0_pay30 w), (k0_pay31 w), (k0_pay32 w), (k0_pay33 w), (k0_pay34 w), (k0_pay35 w), (k0_pay36 w), (k0_pay37 w), (k0_pay38 w), (k0_pay39 w), (k0_pay40 w), (k0_pay41 w), (k0_pay42 w), (k0_pay43 w), (k0_pay44 w), (k0_pay1 (k0_pay45 w) (Scalar.ofBits .f32 0x00000000#32)), (extractStridedSlice S768x32 ![0, 576] w slices_S768x768_o0_576_S768x32 : FVec Ideal S768x32 .f32), (subf (broadcast S768x32 (Scalar.ofBits .f32 0x00000000#32)) (extractStridedSlice S768x32 ![0, 672] w slices_S768x768_o0_672_S768x32 : FVec Ideal S768x32 .f32) : FVec Ideal S768x32 .f32), (extractStridedSlice S768x32 ![0, 640] w slices_S768x768_o0_640_S768x32 : FVec Ideal S768x32 .f32), (subf (broadcast S768x32 (Scalar.ofBits .f32 0x00000000#32)) (extractStridedSlice S768x32 ![0, 736] w slices_S768x768_o0_736_S768x32 : FVec Ideal S768x32 .f32) : FVec Ideal S768x32 .f32), (extractStridedSlice S768x32 ![0, 704] w slices_S768x768_o0_704_S768x32 : FVec Ideal S768x32 .f32)] : Fin 24 → FVec Ideal S768x32 .f32) n (ix2 k d) = rot w k ⟨n.val * 32 + d.val, by omega⟩ := by
  fin_cases n
  · refine Eq.trans ?_ (rot_even w k 0 (by omega) d _ ⟨32 + d.val, by omega⟩ (by show 0 * 32 + d.val = _; omega) (by show 32 + d.val = _; omega)).symm
    show (k0_pay27 w) (ix2 k d) = _
    pointwise [k0_pay27]
  · refine Eq.trans ?_ (rot_odd w k 0 (by omega) d _ ⟨0 + d.val, by omega⟩ (by show 1 * 32 + d.val = _; omega) (by show 0 + d.val = _; omega)).symm
    show (k0_pay28 w) (ix2 k d) = _
    pointwise [k0_pay28]
  · refine Eq.trans ?_ (rot_even w k 1 (by omega) d _ ⟨96 + d.val, by omega⟩ (by show 2 * 32 + d.val = _; omega) (by show 96 + d.val = _; omega)).symm
    show (k0_pay29 w) (ix2 k d) = _
    pointwise [k0_pay29]
  · refine Eq.trans ?_ (rot_odd w k 1 (by omega) d _ ⟨64 + d.val, by omega⟩ (by show 3 * 32 + d.val = _; omega) (by show 64 + d.val = _; omega)).symm
    show (k0_pay30 w) (ix2 k d) = _
    pointwise [k0_pay30]
  · refine Eq.trans ?_ (rot_even w k 2 (by omega) d _ ⟨160 + d.val, by omega⟩ (by show 4 * 32 + d.val = _; omega) (by show 160 + d.val = _; omega)).symm
    show (k0_pay31 w) (ix2 k d) = _
    pointwise [k0_pay31]
  · refine Eq.trans ?_ (rot_odd w k 2 (by omega) d _ ⟨128 + d.val, by omega⟩ (by show 5 * 32 + d.val = _; omega) (by show 128 + d.val = _; omega)).symm
    show (k0_pay32 w) (ix2 k d) = _
    pointwise [k0_pay32]
  · refine Eq.trans ?_ (rot_even w k 3 (by omega) d _ ⟨224 + d.val, by omega⟩ (by show 6 * 32 + d.val = _; omega) (by show 224 + d.val = _; omega)).symm
    show (k0_pay33 w) (ix2 k d) = _
    pointwise [k0_pay33]
  · refine Eq.trans ?_ (rot_odd w k 3 (by omega) d _ ⟨192 + d.val, by omega⟩ (by show 7 * 32 + d.val = _; omega) (by show 192 + d.val = _; omega)).symm
    show (k0_pay34 w) (ix2 k d) = _
    pointwise [k0_pay34]
  · refine Eq.trans ?_ (rot_even w k 4 (by omega) d _ ⟨288 + d.val, by omega⟩ (by show 8 * 32 + d.val = _; omega) (by show 288 + d.val = _; omega)).symm
    show (k0_pay35 w) (ix2 k d) = _
    pointwise [k0_pay35]
  · refine Eq.trans ?_ (rot_odd w k 4 (by omega) d _ ⟨256 + d.val, by omega⟩ (by show 9 * 32 + d.val = _; omega) (by show 256 + d.val = _; omega)).symm
    show (k0_pay36 w) (ix2 k d) = _
    pointwise [k0_pay36]
  · refine Eq.trans ?_ (rot_even w k 5 (by omega) d _ ⟨352 + d.val, by omega⟩ (by show 10 * 32 + d.val = _; omega) (by show 352 + d.val = _; omega)).symm
    show (k0_pay37 w) (ix2 k d) = _
    pointwise [k0_pay37]
  · refine Eq.trans ?_ (rot_odd w k 5 (by omega) d _ ⟨320 + d.val, by omega⟩ (by show 11 * 32 + d.val = _; omega) (by show 320 + d.val = _; omega)).symm
    show (k0_pay38 w) (ix2 k d) = _
    pointwise [k0_pay38]
  · refine Eq.trans ?_ (rot_even w k 6 (by omega) d _ ⟨416 + d.val, by omega⟩ (by show 12 * 32 + d.val = _; omega) (by show 416 + d.val = _; omega)).symm
    show (k0_pay39 w) (ix2 k d) = _
    pointwise [k0_pay39]
  · refine Eq.trans ?_ (rot_odd w k 6 (by omega) d _ ⟨384 + d.val, by omega⟩ (by show 13 * 32 + d.val = _; omega) (by show 384 + d.val = _; omega)).symm
    show (k0_pay40 w) (ix2 k d) = _
    pointwise [k0_pay40]
  · refine Eq.trans ?_ (rot_even w k 7 (by omega) d _ ⟨480 + d.val, by omega⟩ (by show 14 * 32 + d.val = _; omega) (by show 480 + d.val = _; omega)).symm
    show (k0_pay41 w) (ix2 k d) = _
    pointwise [k0_pay41]
  · refine Eq.trans ?_ (rot_odd w k 7 (by omega) d _ ⟨448 + d.val, by omega⟩ (by show 15 * 32 + d.val = _; omega) (by show 448 + d.val = _; omega)).symm
    show (k0_pay42 w) (ix2 k d) = _
    pointwise [k0_pay42]
  · refine Eq.trans ?_ (rot_even w k 8 (by omega) d _ ⟨544 + d.val, by omega⟩ (by show 16 * 32 + d.val = _; omega) (by show 544 + d.val = _; omega)).symm
    show (k0_pay43 w) (ix2 k d) = _
    pointwise [k0_pay43]
  · refine Eq.trans ?_ (rot_odd w k 8 (by omega) d _ ⟨512 + d.val, by omega⟩ (by show 17 * 32 + d.val = _; omega) (by show 512 + d.val = _; omega)).symm
    show (k0_pay44 w) (ix2 k d) = _
    pointwise [k0_pay44]
  · refine Eq.trans ?_ (rot_even w k 9 (by omega) d _ ⟨608 + d.val, by omega⟩ (by show 18 * 32 + d.val = _; omega) (by show 608 + d.val = _; omega)).symm
    show (k0_pay1 (k0_pay45 w) (Scalar.ofBits .f32 0x00000000#32)) (ix2 k d) = _
    pointwise [k0_pay1, k0_pay45]
  · refine Eq.trans ?_ (rot_odd w k 9 (by omega) d _ ⟨576 + d.val, by omega⟩ (by show 19 * 32 + d.val = _; omega) (by show 576 + d.val = _; omega)).symm
    show (extractStridedSlice S768x32 ![0, 576] w slices_S768x768_o0_576_S768x32 : FVec Ideal S768x32 .f32) (ix2 k d) = _
    pointwise []
  · refine Eq.trans ?_ (rot_even w k 10 (by omega) d _ ⟨672 + d.val, by omega⟩ (by show 20 * 32 + d.val = _; omega) (by show 672 + d.val = _; omega)).symm
    show (subf (broadcast S768x32 (Scalar.ofBits .f32 0x00000000#32)) (extractStridedSlice S768x32 ![0, 672] w slices_S768x768_o0_672_S768x32 : FVec Ideal S768x32 .f32) : FVec Ideal S768x32 .f32) (ix2 k d) = _
    pointwise []
  · refine Eq.trans ?_ (rot_odd w k 10 (by omega) d _ ⟨640 + d.val, by omega⟩ (by show 21 * 32 + d.val = _; omega) (by show 640 + d.val = _; omega)).symm
    show (extractStridedSlice S768x32 ![0, 640] w slices_S768x768_o0_640_S768x32 : FVec Ideal S768x32 .f32) (ix2 k d) = _
    pointwise []
  · refine Eq.trans ?_ (rot_even w k 11 (by omega) d _ ⟨736 + d.val, by omega⟩ (by show 22 * 32 + d.val = _; omega) (by show 736 + d.val = _; omega)).symm
    show (subf (broadcast S768x32 (Scalar.ofBits .f32 0x00000000#32)) (extractStridedSlice S768x32 ![0, 736] w slices_S768x768_o0_736_S768x32 : FVec Ideal S768x32 .f32) : FVec Ideal S768x32 .f32) (ix2 k d) = _
    pointwise []
  · refine Eq.trans ?_ (rot_odd w k 11 (by omega) d _ ⟨704 + d.val, by omega⟩ (by show 23 * 32 + d.val = _; omega) (by show 704 + d.val = _; omega)).symm
    show (extractStridedSlice S768x32 ![0, 704] w slices_S768x768_o0_704_S768x32 : FVec Ideal S768x32 .f32) (ix2 k d) = _
    pointwise []

set_option maxHeartbeats 4000000 in
theorem rotq_piece (w : Vec Ideal S768x768 .f32) (k : Fin 768) (n : Fin 24) (d : Fin 32) :
    (![(k0_pay5 w), (k0_pay6 w), (k0_pay7 w), (k0_pay8 w), (k0_pay9 w), (k0_pay10 w), (k0_pay11 w), (k0_pay12 w), (k0_pay13 w), (k0_pay14 w), (k0_pay15 w), (k0_pay16 w), (k0_pay17 w), (k0_pay18 w), (k0_pay19 w), (k0_pay20 w), (k0_pay21 w), (k0_pay22 w), (k0_pay23 w), (k0_pay24 w), (subf (broadcast S768x32 (Scalar.ofBits .f32 0x00000000#32)) (k0_pay25 w)), (extractStridedSlice S768x32 ![0, 640] w slices_S768x768_o0_640_S768x32 : FVec Ideal S768x32 .f32), (subf (broadcast S768x32 (Scalar.ofBits .f32 0x00000000#32)) (extractStridedSlice S768x32 ![0, 736] w slices_S768x768_o0_736_S768x32 : FVec Ideal S768x32 .f32) : FVec Ideal S768x32 .f32), (extractStridedSlice S768x32 ![0, 704] w slices_S768x768_o0_704_S768x32 : FVec Ideal S768x32 .f32)] : Fin 24 → FVec Ideal S768x32 .f32) n (ix2 k d) = rot w k ⟨n.val * 32 + d.val, by omega⟩ := by
  fin_cases n
  · refine Eq.trans ?_ (rot_even w k 0 (by omega) d _ ⟨32 + d.val, by omega⟩ (by show 0 * 32 + d.val = _; omega) (by show 32 + d.val = _; omega)).symm
    show (k0_pay5 w) (ix2 k d) = _
    pointwise [k0_pay5]
  · refine Eq.trans ?_ (rot_odd w k 0 (by omega) d _ ⟨0 + d.val, by omega⟩ (by show 1 * 32 + d.val = _; omega) (by show 0 + d.val = _; omega)).symm
    show (k0_pay6 w) (ix2 k d) = _
    pointwise [k0_pay6]
  · refine Eq.trans ?_ (rot_even w k 1 (by omega) d _ ⟨96 + d.val, by omega⟩ (by show 2 * 32 + d.val = _; omega) (by show 96 + d.val = _; omega)).symm
    show (k0_pay7 w) (ix2 k d) = _
    pointwise [k0_pay7]
  · refine Eq.trans ?_ (rot_odd w k 1 (by omega) d _ ⟨64 + d.val, by omega⟩ (by show 3 * 32 + d.val = _; omega) (by show 64 + d.val = _; omega)).symm
    show (k0_pay8 w) (ix2 k d) = _
    pointwise [k0_pay8]
  · refine Eq.trans ?_ (rot_even w k 2 (by omega) d _ ⟨160 + d.val, by omega⟩ (by show 4 * 32 + d.val = _; omega) (by show 160 + d.val = _; omega)).symm
    show (k0_pay9 w) (ix2 k d) = _
    pointwise [k0_pay9]
  · refine Eq.trans ?_ (rot_odd w k 2 (by omega) d _ ⟨128 + d.val, by omega⟩ (by show 5 * 32 + d.val = _; omega) (by show 128 + d.val = _; omega)).symm
    show (k0_pay10 w) (ix2 k d) = _
    pointwise [k0_pay10]
  · refine Eq.trans ?_ (rot_even w k 3 (by omega) d _ ⟨224 + d.val, by omega⟩ (by show 6 * 32 + d.val = _; omega) (by show 224 + d.val = _; omega)).symm
    show (k0_pay11 w) (ix2 k d) = _
    pointwise [k0_pay11]
  · refine Eq.trans ?_ (rot_odd w k 3 (by omega) d _ ⟨192 + d.val, by omega⟩ (by show 7 * 32 + d.val = _; omega) (by show 192 + d.val = _; omega)).symm
    show (k0_pay12 w) (ix2 k d) = _
    pointwise [k0_pay12]
  · refine Eq.trans ?_ (rot_even w k 4 (by omega) d _ ⟨288 + d.val, by omega⟩ (by show 8 * 32 + d.val = _; omega) (by show 288 + d.val = _; omega)).symm
    show (k0_pay13 w) (ix2 k d) = _
    pointwise [k0_pay13]
  · refine Eq.trans ?_ (rot_odd w k 4 (by omega) d _ ⟨256 + d.val, by omega⟩ (by show 9 * 32 + d.val = _; omega) (by show 256 + d.val = _; omega)).symm
    show (k0_pay14 w) (ix2 k d) = _
    pointwise [k0_pay14]
  · refine Eq.trans ?_ (rot_even w k 5 (by omega) d _ ⟨352 + d.val, by omega⟩ (by show 10 * 32 + d.val = _; omega) (by show 352 + d.val = _; omega)).symm
    show (k0_pay15 w) (ix2 k d) = _
    pointwise [k0_pay15]
  · refine Eq.trans ?_ (rot_odd w k 5 (by omega) d _ ⟨320 + d.val, by omega⟩ (by show 11 * 32 + d.val = _; omega) (by show 320 + d.val = _; omega)).symm
    show (k0_pay16 w) (ix2 k d) = _
    pointwise [k0_pay16]
  · refine Eq.trans ?_ (rot_even w k 6 (by omega) d _ ⟨416 + d.val, by omega⟩ (by show 12 * 32 + d.val = _; omega) (by show 416 + d.val = _; omega)).symm
    show (k0_pay17 w) (ix2 k d) = _
    pointwise [k0_pay17]
  · refine Eq.trans ?_ (rot_odd w k 6 (by omega) d _ ⟨384 + d.val, by omega⟩ (by show 13 * 32 + d.val = _; omega) (by show 384 + d.val = _; omega)).symm
    show (k0_pay18 w) (ix2 k d) = _
    pointwise [k0_pay18]
  · refine Eq.trans ?_ (rot_even w k 7 (by omega) d _ ⟨480 + d.val, by omega⟩ (by show 14 * 32 + d.val = _; omega) (by show 480 + d.val = _; omega)).symm
    show (k0_pay19 w) (ix2 k d) = _
    pointwise [k0_pay19]
  · refine Eq.trans ?_ (rot_odd w k 7 (by omega) d _ ⟨448 + d.val, by omega⟩ (by show 15 * 32 + d.val = _; omega) (by show 448 + d.val = _; omega)).symm
    show (k0_pay20 w) (ix2 k d) = _
    pointwise [k0_pay20]
  · refine Eq.trans ?_ (rot_even w k 8 (by omega) d _ ⟨544 + d.val, by omega⟩ (by show 16 * 32 + d.val = _; omega) (by show 544 + d.val = _; omega)).symm
    show (k0_pay21 w) (ix2 k d) = _
    pointwise [k0_pay21]
  · refine Eq.trans ?_ (rot_odd w k 8 (by omega) d _ ⟨512 + d.val, by omega⟩ (by show 17 * 32 + d.val = _; omega) (by show 512 + d.val = _; omega)).symm
    show (k0_pay22 w) (ix2 k d) = _
    pointwise [k0_pay22]
  · refine Eq.trans ?_ (rot_even w k 9 (by omega) d _ ⟨608 + d.val, by omega⟩ (by show 18 * 32 + d.val = _; omega) (by show 608 + d.val = _; omega)).symm
    show (k0_pay23 w) (ix2 k d) = _
    pointwise [k0_pay23]
  · refine Eq.trans ?_ (rot_odd w k 9 (by omega) d _ ⟨576 + d.val, by omega⟩ (by show 19 * 32 + d.val = _; omega) (by show 576 + d.val = _; omega)).symm
    show (k0_pay24 w) (ix2 k d) = _
    pointwise [k0_pay24]
  · refine Eq.trans ?_ (rot_even w k 10 (by omega) d _ ⟨672 + d.val, by omega⟩ (by show 20 * 32 + d.val = _; omega) (by show 672 + d.val = _; omega)).symm
    show (subf (broadcast S768x32 (Scalar.ofBits .f32 0x00000000#32)) (k0_pay25 w)) (ix2 k d) = _
    pointwise [k0_pay25]
  · refine Eq.trans ?_ (rot_odd w k 10 (by omega) d _ ⟨640 + d.val, by omega⟩ (by show 21 * 32 + d.val = _; omega) (by show 640 + d.val = _; omega)).symm
    show (extractStridedSlice S768x32 ![0, 640] w slices_S768x768_o0_640_S768x32 : FVec Ideal S768x32 .f32) (ix2 k d) = _
    pointwise []
  · refine Eq.trans ?_ (rot_even w k 11 (by omega) d _ ⟨736 + d.val, by omega⟩ (by show 22 * 32 + d.val = _; omega) (by show 736 + d.val = _; omega)).symm
    show (subf (broadcast S768x32 (Scalar.ofBits .f32 0x00000000#32)) (extractStridedSlice S768x32 ![0, 736] w slices_S768x768_o0_736_S768x32 : FVec Ideal S768x32 .f32) : FVec Ideal S768x32 .f32) (ix2 k d) = _
    pointwise []
  · refine Eq.trans ?_ (rot_odd w k 11 (by omega) d _ ⟨704 + d.val, by omega⟩ (by show 23 * 32 + d.val = _; omega) (by show 704 + d.val = _; omega)).symm
    show (extractStridedSlice S768x32 ![0, 704] w slices_S768x768_o0_704_S768x32 : FVec Ideal S768x32 .f32) (ix2 k d) = _
    pointwise []

theorem rotk_pt (w : Vec Ideal S768x768 .f32) (k l : Fin 768) :
    k0_pay2 w (k0_pay27 w) (k0_pay28 w) (k0_pay29 w) (k0_pay30 w) (k0_pay31 w) (k0_pay32 w) (k0_pay33 w) (k0_pay34 w) (k0_pay35 w) (k0_pay36 w) (k0_pay37 w) (k0_pay38 w) (k0_pay39 w) (k0_pay40 w) (k0_pay41 w) (k0_pay42 w) (k0_pay43 w) (k0_pay44 w) (k0_pay1 (k0_pay45 w) (Scalar.ofBits .f32 0x00000000#32)) (ix2 k l) = rot w k l := by
  refine (cat24 (k0_pay27 w) (k0_pay28 w) (k0_pay29 w) (k0_pay30 w) (k0_pay31 w) (k0_pay32 w) (k0_pay33 w) (k0_pay34 w) (k0_pay35 w) (k0_pay36 w) (k0_pay37 w) (k0_pay38 w) (k0_pay39 w) (k0_pay40 w) (k0_pay41 w) (k0_pay42 w) (k0_pay43 w) (k0_pay44 w) (k0_pay1 (k0_pay45 w) (Scalar.ofBits .f32 0x00000000#32)) (extractStridedSlice S768x32 ![0, 576] w slices_S768x768_o0_576_S768x32 : FVec Ideal S768x32 .f32) (subf (broadcast S768x32 (Scalar.ofBits .f32 0x00000000#32)) (extractStridedSlice S768x32 ![0, 672] w slices_S768x768_o0_672_S768x32 : FVec Ideal S768x32 .f32) : FVec Ideal S768x32 .f32) (extractStridedSlice S768x32 ![0, 640] w slices_S768x768_o0_640_S768x32 : FVec Ideal S768x32 .f32) (subf (broadcast S768x32 (Scalar.ofBits .f32 0x00000000#32)) (extractStridedSlice S768x32 ![0, 736] w slices_S768x768_o0_736_S768x32 : FVec Ideal S768x32 .f32) : FVec Ideal S768x32 .f32) (extractStridedSlice S768x32 ![0, 704] w slices_S768x768_o0_704_S768x32 : FVec Ideal S768x32 .f32) concatenates_S768x32_S768x32_S768x32_S768x32_S768x32_S768x32_S768x32_S768x32_S768x32_S768x32_S768x32_S768x32_S768x32_S768x32_S768x32_S768x32_S768x32_S768x32_S768x32_S768x32_S768x32_S768x32_S768x32_S768x32_S768x768_d1 k l).trans ?_
  rw [rotk_piece]
  congr 1
  exact Fin.ext (by show l.val / 32 * 32 + l.val % 32 = _; omega)

theorem rotq_pt (w : Vec Ideal S768x768 .f32) (k l : Fin 768) :
    k0_pay26 w (k0_pay5 w) (k0_pay6 w) (k0_pay7 w) (k0_pay8 w) (k0_pay9 w) (k0_pay10 w) (k0_pay11 w) (k0_pay12 w) (k0_pay13 w) (k0_pay14 w) (k0_pay15 w) (k0_pay16 w) (k0_pay17 w) (k0_pay18 w) (k0_pay19 w) (k0_pay20 w) (k0_pay21 w) (k0_pay22 w) (k0_pay23 w) (k0_pay24 w) (k0_pay25 w) (ix2 k l) = rot w k l * (Scalar.ofBits .f32 0x3E000000#32 : Ideal .f32) := by
  refine (congrArg (· * (Scalar.ofBits .f32 0x3E000000#32 : Ideal .f32)) (cat24 (k0_pay5 w) (k0_pay6 w) (k0_pay7 w) (k0_pay8 w) (k0_pay9 w) (k0_pay10 w) (k0_pay11 w) (k0_pay12 w) (k0_pay13 w) (k0_pay14 w) (k0_pay15 w) (k0_pay16 w) (k0_pay17 w) (k0_pay18 w) (k0_pay19 w) (k0_pay20 w) (k0_pay21 w) (k0_pay22 w) (k0_pay23 w) (k0_pay24 w) (subf (broadcast S768x32 (Scalar.ofBits .f32 0x00000000#32)) (k0_pay25 w)) (extractStridedSlice S768x32 ![0, 640] w slices_S768x768_o0_640_S768x32 : FVec Ideal S768x32 .f32) (subf (broadcast S768x32 (Scalar.ofBits .f32 0x00000000#32)) (extractStridedSlice S768x32 ![0, 736] w slices_S768x768_o0_736_S768x32 : FVec Ideal S768x32 .f32) : FVec Ideal S768x32 .f32) (extractStridedSlice S768x32 ![0, 704] w slices_S768x768_o0_704_S768x32 : FVec Ideal S768x32 .f32) concatenates_S768x32_S768x32_S768x32_S768x32_S768x32_S768x32_S768x32_S768x32_S768x32_S768x32_S768x32_S768x32_S768x32_S768x32_S768x32_S768x32_S768x32_S768x32_S768x32_S768x32_S768x32_S768x32_S768x32_S768x32_S768x768_d1 k l)).trans ?_
  show _ * _ = _
  rw [rotq_piece]
  congr 2
  exact Fin.ext (by show l.val / 32 * 32 + l.val % 32 = _; omega)

/-- The packed projections: the query weight and its rotation, an eighth of each, then the key
    weight and its rotation. -/
theorem wqk_pt (q w : Vec Ideal S768x768 .f32) (k : Fin 768) (n : Fin 4) (l : Fin 768) :
    wqkPay q w (ix2 k ⟨n.val * 768 + l.val, by omega⟩)
      = (![q (ix2 k l) * (Scalar.ofBits .f32 0x3E000000#32 : Ideal .f32), rot q k l * (Scalar.ofBits .f32 0x3E000000#32 : Ideal .f32), w (ix2 k l), rot w k l] : Fin 4 → EReal) n := by
  unfold wqkPay
  refine (cat4 _ _ _ _ concatenates_S768x768_S768x768_S768x768_S768x768_S768x3072_d1 k n l).trans ?_
  fin_cases n
  · show k0_pay4 q (ix2 k l) = _
    pointwise [k0_pay4]
  · exact rotq_pt q k l
  · rfl
  · exact rotk_pt w k l

end Cert.KernelIdeal.Hand
-- ==== Proof.A.Turn.lean ====
/- A packed projection with its rotated twin gives a head's rotated row. -/
module

public import proofs.«01_k».proof.Proof.A.Prep

@[expose] public section

set_option maxRecDepth 16384

noncomputable section

namespace Cert.KernelIdeal.Hand

open Idealize.ShloMosaic Idealize.ShloMosaic.TcCoe Idealize.SL.Sem Cert.KernelIdeal.Gen Cert.Spec Cert.Soft

/-- The rotated weight over the reals. -/
def rotR (W : Fin 768 → Fin 768 → ℝ) (k l : Fin 768) : ℝ :=
  if h : l.val % 64 < 32 then -W k ⟨l.val + 32, by omega⟩ else W k ⟨l.val - 32, by omega⟩

theorem rot_coe (w : Vec Ideal S768x768 .f32) (W : Fin 768 → Fin 768 → ℝ) (hw : ∀ k l, w (ix2 k l) = (W k l : EReal)) (k l : Fin 768) :
    rot w k l = (rotR W k l : EReal) := by
  unfold rot rotR
  split
  · rw [hw, ← EReal.coe_zero, ← EReal.coe_sub, zero_sub]
  · rw [hw]

/-- Multiplying by a column of the repeated identity picks the table's entry of the column's lane. -/
theorem pick_table (T : Fin 64 → EReal) (E : Fin 64 → EReal) (n : Fin 64) (hE : ∀ d, E d = if d.val = n.val then (1 : EReal) else 0) :
    ∑ d, T d * E d = T n := by
  rw [Finset.sum_eq_single n]
  · rw [hE, if_pos rfl, mul_one]
  · intro d _ hd
    rw [hE, if_neg (fun h => hd (Fin.ext h)), mul_zero]
  · intro h
    exact absurd (Finset.mem_univ n) h

/-- The real sum of a row's products with a scaled weight's column and its rotated twin's is the rotated row, scaled. -/
theorem rope_packed (x : Fin 768 → ℝ) (W : Fin 768 → Fin 768 → ℝ) (z : ℝ) (c s : ℕ → ℝ) (h : Fin 12) (d : Fin 64) :
    (∑ k, x k * (W k ⟨h.val * 64 + d.val, by omega⟩ * z)) * c (d.val % 32) + (∑ k, x k * (rotR W k ⟨h.val * 64 + d.val, by omega⟩ * z)) * s (d.val % 32)
      = z * Rope.rope (fun l => ∑ k, x k * W k l) c s h d := by
  have e : ∀ f : Fin 768 → ℝ, ∑ k, x k * (f k * z) = z * ∑ k, x k * f k := fun f => by
    rw [Finset.mul_sum]
    exact Finset.sum_congr rfl fun k _ => by ring
  rw [e (fun k => W k ⟨h.val * 64 + d.val, by omega⟩), e (fun k => rotR W k ⟨h.val * 64 + d.val, by omega⟩)]
  unfold Rope.rope
  by_cases hd : d.val < 32
  · have er : ∀ k, rotR W k ⟨h.val * 64 + d.val, by omega⟩ = -W k ⟨h.val * 64 + (32 + d.val), by omega⟩ := fun k => by
      unfold rotR
      rw [dif_pos (show (h.val * 64 + d.val) % 64 < 32 by omega)]
      exact congrArg (fun l => -W k l) (Fin.ext (by show h.val * 64 + d.val + 32 = h.val * 64 + (32 + d.val); omega))
    rw [dif_pos hd, show d.val % 32 = d.val by omega]
    simp only [er, mul_neg, Finset.sum_neg_distrib]
    ring
  · have er : ∀ k, rotR W k ⟨h.val * 64 + d.val, by omega⟩ = W k ⟨h.val * 64 + (d.val - 32), by omega⟩ := fun k => by
      unfold rotR
      rw [dif_neg (show ¬(h.val * 64 + d.val) % 64 < 32 by omega)]
      exact congrArg (fun l => W k l) (Fin.ext (by show h.val * 64 + d.val - 32 = h.val * 64 + (d.val - 32); omega))
    have el : (⟨h.val * 64 + (32 + (d.val - 32)), by omega⟩ : Fin 768) = ⟨h.val * 64 + d.val, by omega⟩ := Fin.ext (by show _ + (32 + (d.val - 32)) = _ + d.val; omega)
    rw [dif_neg hd, show d.val % 32 = d.val - 32 by omega, el]
    simp only [er]
    ring

/-- The same of extended reals that are all real. -/
theorem turn_packed (x : Fin 768 → EReal) (xr : Fin 768 → ℝ) (hx : ∀ k, x k = (xr k : EReal)) (W : Fin 768 → Fin 768 → ℝ) (z : ℝ) (c s : ℕ → ℝ)
    (C S : EReal) (A B : Fin 768 → EReal) (h : Fin 12) (d : Fin 64)
    (hC : C = (c (d.val % 32) : EReal)) (hS : S = (s (d.val % 32) : EReal))
    (hA : ∀ k, A k = ((W k ⟨h.val * 64 + d.val, by omega⟩ * z : ℝ) : EReal))
    (hB : ∀ k, B k = ((rotR W k ⟨h.val * 64 + d.val, by omega⟩ * z : ℝ) : EReal)) :
    (∑ k, x k * A k) * C + (∑ k, x k * B k) * S = ((z * Rope.rope (fun l => ∑ k, xr k * W k l) c s h d : ℝ) : EReal) := by
  rw [← rope_packed, Rope.coe_dot _ _ _ _ hx hA, Rope.coe_dot _ _ _ _ hx hB, hC, hS, ← EReal.coe_mul, ← EReal.coe_mul, ← EReal.coe_add]

end Cert.KernelIdeal.Hand
-- ==== Proof.A.Packs.lean ====
/- The five arrays the first call leaves, from the weights it packs. -/
module

public import proofs.«01_k».proof.Proof.A.Prep

@[expose] public section

set_option maxRecDepth 16384

noncomputable section

namespace Cert.KernelIdeal.Hand

open Idealize.ShloMosaic Idealize.ShloMosaic.TcCoe Idealize.SL.Sem Cert.KernelIdeal.Gen Cert.Spec Cert.Soft

variable (V : (c : Dev nD) → (b : Ref sig .tc) → Buf (Elt Ideal) ((c : Thread nD τ).loc b)) (c : Dev nD)

theorem idx0 : ∀ t : Fin cfg0.N, win0_0.index t = ![0, 0] ∧ win0_1.index t = ![0, 0] ∧ win0_2.index t = ![t.val, 0, 0]
    ∧ win0_3.index t = ![t.val, 0, 0] ∧ win0_4.index t = ![t.val, 0, 0] ∧ win0_5.index t = ![t.val, 0, 0] ∧ win0_6.index t = ![0, 0]
    ∧ win0_7.index t = ![t.val, 0, 0] ∧ win0_8.index t = ![t.val, 0, 0] ∧ win0_9.index t = ![t.val, 0, 0] ∧ win0_10.index t = ![t.val, 0, 0] := by
  decide +kernel

theorem blk_wq (t : Fin cfg0.N) (k l : Fin 768) : iblk0 V c 0 t (ix2 k l) = V c main_arg3 (ix2 k l) := by
  blk_point [iblk0, idx0 t]

theorem blk_wk (t : Fin cfg0.N) (k l : Fin 768) : iblk0 V c 1 t (ix2 k l) = V c main_arg4 (ix2 k l) := by
  blk_point [iblk0, idx0 t]

theorem arr6 : (dat0 V c).arrAt 6 cfg0.N = fun y => wqkPay (F := Ideal) (V c main_arg3) (V c main_arg4) y := by
  refine (dat0 V c).arrAt_eq_of_covers 6 _ (by decide +kernel) fun t hf y => ?_
  blk_simp
  rw [after0_6]
  unfold wqk0 out0_6
  have e0 : ∀ t, iblk0 V c 0 t = V c main_arg3 := fun t => by
    funext y
    obtain ⟨k, l, rfl⟩ : ∃ k l, y = ix2 k l := ⟨y 0, y 1, by funext a; match a with | ⟨0, _⟩ => rfl | ⟨1, _⟩ => rfl⟩
    exact blk_wq V c t k l
  have e1 : ∀ t, iblk0 V c 1 t = V c main_arg4 := fun t => by
    funext y
    obtain ⟨k, l, rfl⟩ : ∃ k l, y = ix2 k l := ⟨y 0, y 1, by funext a; match a with | ⟨0, _⟩ => rfl | ⟨1, _⟩ => rfl⟩
    exact blk_wk V c t k l
  rw [e0, e1]
  frame_out
  obtain ⟨k, l, rfl⟩ : ∃ k l, y = ix2 k l := ⟨y 0, y 1, by funext a; match a with | ⟨0, _⟩ => rfl | ⟨1, _⟩ => rfl⟩
  congr 1
  blk_point [idx0 t]

theorem arr7 : (dat0 V c).arrAt 7 cfg0.N = fun y : S8x768x768.Idx => V c main_arg5 y := by
  refine (dat0 V c).arrAt_eq_of_covers 7 _ (by decide +kernel) fun t hf y => ?_
  blk_simp
  rw [after0_7]
  frame_out
  obtain ⟨e, k, l, rfl⟩ : ∃ e k l, y = ix3 e k l := ⟨y 0, y 1, y 2, by funext a; match a with | ⟨0, _⟩ => rfl | ⟨1, _⟩ => rfl | ⟨2, _⟩ => rfl⟩
  pointwise [k0_pay46]
  blk_point [iblk0, idx0 t]

theorem arr8 : (dat0 V c).arrAt 8 cfg0.N = fun y : S8x768x768.Idx => V c main_arg6 y := by
  refine (dat0 V c).arrAt_eq_of_covers 8 _ (by decide +kernel) fun t hf y => ?_
  blk_simp
  rw [after0_8]
  frame_out
  obtain ⟨e, k, l, rfl⟩ : ∃ e k l, y = ix3 e k l := ⟨y 0, y 1, y 2, by funext a; match a with | ⟨0, _⟩ => rfl | ⟨1, _⟩ => rfl | ⟨2, _⟩ => rfl⟩
  pointwise [k0_pay47]
  blk_point [iblk0, idx0 t]

/-- The first weights of a pair of experts side by side. -/
def pairA (W : Vec Ideal S16x768x128 .f32) (y : S8x768x256.Idx) : EReal :=
  if h : (y 2).val < 128 then W (ix3 (⟨2 * (y 0).val, by have : (y 0).val < 8 := (y 0).isLt; omega⟩ : Fin 16) (y 1) (⟨(y 2).val, h⟩ : Fin 128))
  else W (ix3 (⟨2 * (y 0).val + 1, by have : (y 0).val < 8 := (y 0).isLt; omega⟩ : Fin 16) (y 1) (⟨(y 2).val - 128, by have : (y 2).val < 256 := (y 2).isLt; omega⟩ : Fin 128))

/-- The second weights of a pair of experts, one above the other. -/
def pairB (W : Vec Ideal S16x128x768 .f32) (y : S8x256x768.Idx) : EReal :=
  if h : (y 1).val < 128 then W (ix3 (⟨2 * (y 0).val, by have : (y 0).val < 8 := (y 0).isLt; omega⟩ : Fin 16) (⟨(y 1).val, h⟩ : Fin 128) (y 2))
  else W (ix3 (⟨2 * (y 0).val + 1, by have : (y 0).val < 8 := (y 0).isLt; omega⟩ : Fin 16) (⟨(y 1).val - 128, by have : (y 1).val < 256 := (y 1).isLt; omega⟩ : Fin 128) (y 2))

theorem arr9 : (dat0 V c).arrAt 9 cfg0.N = fun y : S8x768x256.Idx => pairA (V c main_arg9) y := by
  refine (dat0 V c).arrAt_eq_of_covers 9 _ (by decide +kernel) fun t hf y => ?_
  blk_simp
  rw [after0_9]
  frame_out
  obtain ⟨e, k, l, rfl⟩ : ∃ e k l, y = ix3 e k l := ⟨y 0, y 1, y 2, by funext a; match a with | ⟨0, _⟩ => rfl | ⟨1, _⟩ => rfl | ⟨2, _⟩ => rfl⟩
  have e2 : (((View.whole main_v29_3).slice (win0_9.rect t)).emb (ix3 e k l) 2).val = l.val := by blk_simp [idx0 t]
  pointwise [k0_pay48, pairA]
  blk_point [iblk0, idx0 t]
  all_goals (exfalso; omega)

theorem arr10 : (dat0 V c).arrAt 10 cfg0.N = fun y : S8x256x768.Idx => pairB (V c main_arg10) y := by
  refine (dat0 V c).arrAt_eq_of_covers 10 _ (by decide +kernel) fun t hf y => ?_
  blk_simp
  rw [after0_10]
  frame_out
  obtain ⟨e, k, l, rfl⟩ : ∃ e k l, y = ix3 e k l := ⟨y 0, y 1, y 2, by funext a; match a with | ⟨0, _⟩ => rfl | ⟨1, _⟩ => rfl | ⟨2, _⟩ => rfl⟩
  have e2 : (((View.whole main_v29_4).slice (win0_10.rect t)).emb (ix3 e k l) 1).val = k.val := by blk_simp [idx0 t]
  pointwise [k0_pay49, pairB]
  blk_point [iblk0, idx0 t]
  all_goals (exfalso; omega)

end Cert.KernelIdeal.Hand
-- ==== Proof.A.Tables.lean ====
/- What the host operations before the first call leave: the rows, the gains, the two tables and the repeated identity. -/
module

public import proofs.«01_k».proof.Proof.KernelIdeal.Frame
public import proofs.«01_k».proof.Proof.A.Rope

@[expose] public section

set_option maxRecDepth 16384

noncomputable section

namespace Cert.KernelIdeal.Hand

open Idealize.ShloMosaic Idealize.ShloMosaic.TcCoe Idealize.SL.Sem Cert.KernelIdeal.Gen Cert.Spec Cert.Soft

variable (m : (ℓ : Loc nD τ sig) → Buf (Elt Ideal) ℓ) (ρ : Dev nD → PrngReg) (c : Dev nD)

theorem host_x (q : S2048x768.Idx) : V1 m ρ c main_v0 q = m ((c : Thread nD τ).loc main_arg0) (ix3 0 (q 0) (q 1)) := by
  simp only [V1, W1, hostOps0, List.flatten_cons, List.flatten_nil, List.append_nil, List.cons_append, List.nil_append]
  after_results
  pointwise [W0]

theorem host_ga (q : S1x768.Idx) : V1 m ρ c main_v27 q = m ((c : Thread nD τ).loc main_arg1) (ix1 (q 1)) := by
  simp only [V1, W1, hostOps0, List.flatten_cons, List.flatten_nil, List.append_nil, List.cons_append, List.nil_append]
  after_results
  pointwise [W0]

theorem host_gf (q : S1x768.Idx) : V1 m ρ c main_v28 q = m ((c : Thread nD τ).loc main_arg2) (ix1 (q 1)) := by
  simp only [V1, W1, hostOps0, List.flatten_cons, List.flatten_nil, List.append_nil, List.cons_append, List.nil_append]
  after_results
  pointwise [W0]

theorem host_cos (r : Fin 2048) (d : Fin 64) : V1 m ρ c main_v16 (ix2 r d) = (Rope.cosR r.val (d.val % 32) : EReal) := by
  rw [← Rope.cos_eq]
  simp only [V1, W1, hostOps0, List.flatten_cons, List.flatten_nil, List.append_nil, List.cons_append, List.nil_append]
  after_results
  pointwise [W0]
  split
  · rw [show d.val % 32 = d.val by omega]
    rfl
  · rw [show d.val % 32 = d.val - 32 by omega]
    rfl

theorem host_sin (r : Fin 2048) (d : Fin 64) : V1 m ρ c main_v17 (ix2 r d) = (Rope.sinR r.val (d.val % 32) : EReal) := by
  rw [← Rope.sin_eq]
  simp only [V1, W1, hostOps0, List.flatten_cons, List.flatten_nil, List.append_nil, List.cons_append, List.nil_append]
  after_results
  pointwise [W0]
  split
  · rw [show d.val % 32 = d.val by omega]
    rfl
  · rw [show d.val % 32 = d.val - 32 by omega]
    rfl

theorem host_eye (d : Fin 64) (l : Fin 768) : V1 m ρ c main_v26 (ix2 d l) = (if d.val = l.val % 64 then (1 : EReal) else 0) := by
  simp only [V1, W1, hostOps0, List.flatten_cons, List.flatten_nil, List.append_nil, List.cons_append, List.nil_append]
  after_results
  pointwise [W0]
  have e : ∀ a b : Fin 64, IntOp.cmpi CmpIPredicate.eq (IntOp.addi (BitVec.ofNat 32 a.val) 0#32) (BitVec.ofNat 32 b.val) = if a.val = b.val then 1#1 else 0#1 := by
    decide +kernel
  rw [e d ⟨l.val % 64, by omega⟩]
  split
  · show (((1#1 : BitVec 1).toNat : ℝ) : EReal) = 1
    simp
  · show (((0#1 : BitVec 1).toNat : ℝ) : EReal) = 0
    simp

end Cert.KernelIdeal.Hand
-- ==== Proof.A.Blocks.lean ====
/- The blocks the second call reads, from the arguments. -/
module

public import proofs.«01_k».proof.Proof.A.Packs
public import proofs.«01_k».proof.Proof.A.Tables

@[expose] public section

set_option maxRecDepth 16384

noncomputable section

namespace Cert.KernelIdeal.Hand

open Idealize.ShloMosaic Idealize.ShloMosaic.TcCoe Idealize.SL.Sem Cert.KernelIdeal.Gen Cert.Spec Cert.Soft

variable (m : (ℓ : Loc nD τ sig) → Buf (Elt Ideal) ℓ) (ρ : Dev nD → PrngReg) (c : Dev nD)

theorem idx1 : ∀ t : Fin cfg1.N, win1_0.index t = ![t.val, 0] ∧ win1_1.index t = ![0, 0] ∧ win1_2.index t = ![0, 0]
    ∧ win1_3.index t = ![t.val, 0] ∧ win1_4.index t = ![t.val, 0] ∧ win1_5.index t = ![0, 0] ∧ win1_6.index t = ![0, 0]
    ∧ win1_7.index t = ![0, 0, 0] ∧ win1_8.index t = ![0, 0] ∧ win1_9.index t = ![0, 0, 0] ∧ win1_10.index t = ![0, 0]
    ∧ win1_11.index t = ![0, 0, 0] ∧ win1_12.index t = ![0, 0, 0] ∧ win1_13.index t = ![0, 0] ∧ win1_14.index t = ![t.val, 0] := by
  decide +kernel

theorem entry_v0 : V2 m ρ c main_v0 = V1 m ρ c main_v0 := W2_of m ρ c main_v0 (by decide +kernel)
theorem entry_v27 : V2 m ρ c main_v27 = V1 m ρ c main_v27 := W2_of m ρ c main_v27 (by decide +kernel)
theorem entry_v28 : V2 m ρ c main_v28 = V1 m ρ c main_v28 := W2_of m ρ c main_v28 (by decide +kernel)
theorem entry_v16 : V2 m ρ c main_v16 = V1 m ρ c main_v16 := W2_of m ρ c main_v16 (by decide +kernel)
theorem entry_v17 : V2 m ρ c main_v17 = V1 m ρ c main_v17 := W2_of m ρ c main_v17 (by decide +kernel)
theorem entry_v26 : V2 m ρ c main_v26 = V1 m ρ c main_v26 := W2_of m ρ c main_v26 (by decide +kernel)
theorem entry_v29_0 : V2 m ρ c main_v29_0 = (dat0 (V1 m ρ) c).arrAt 6 cfg0.N := W2_arr m ρ c 6
theorem entry_v29_1 : V2 m ρ c main_v29_1 = (dat0 (V1 m ρ) c).arrAt 7 cfg0.N := W2_arr m ρ c 7
theorem entry_v29_2 : V2 m ρ c main_v29_2 = (dat0 (V1 m ρ) c).arrAt 8 cfg0.N := W2_arr m ρ c 8
theorem entry_v29_3 : V2 m ρ c main_v29_3 = (dat0 (V1 m ρ) c).arrAt 9 cfg0.N := W2_arr m ρ c 9
theorem entry_v29_4 : V2 m ρ c main_v29_4 = (dat0 (V1 m ρ) c).arrAt 10 cfg0.N := W2_arr m ρ c 10
theorem entry_arg7 : V2 m ρ c main_arg7 = m ((c : Thread nD τ).loc main_arg7) := W2_args m ρ c main_arg7 (by decide)
theorem entry_arg8 : V2 m ρ c main_arg8 = m ((c : Thread nD τ).loc main_arg8) := W2_args m ρ c main_arg8 (by decide)
theorem entry_arg11 : V2 m ρ c main_arg11 = m ((c : Thread nD τ).loc main_arg11) := W2_args m ρ c main_arg11 (by decide)
theorem first_arg3 : V1 m ρ c main_arg3 = m ((c : Thread nD τ).loc main_arg3) := W1_args m ρ c main_arg3 (by decide)
theorem first_arg4 : V1 m ρ c main_arg4 = m ((c : Thread nD τ).loc main_arg4) := W1_args m ρ c main_arg4 (by decide)
theorem first_arg5 : V1 m ρ c main_arg5 = m ((c : Thread nD τ).loc main_arg5) := W1_args m ρ c main_arg5 (by decide)
theorem first_arg6 : V1 m ρ c main_arg6 = m ((c : Thread nD τ).loc main_arg6) := W1_args m ρ c main_arg6 (by decide)
theorem first_arg9 : V1 m ρ c main_arg9 = m ((c : Thread nD τ).loc main_arg9) := W1_args m ρ c main_arg9 (by decide)
theorem first_arg10 : V1 m ρ c main_arg10 = m ((c : Thread nD τ).loc main_arg10) := W1_args m ρ c main_arg10 (by decide)

/-- Row `r` of block `t`. -/
def rowOf (t : Fin cfg1.N) (r : Fin 512) : Fin 2048 := ⟨t.val * 512 + r.val, by have : t.val < 4 := t.isLt; omega⟩

variable (t : Fin cfg1.N)

theorem blk_x (r : Fin 512) (j : Fin 768) : iblk1 (V2 m ρ) c 0 t (ix2 r j) = m ((c : Thread nD τ).loc main_arg0) (ix3 0 (rowOf t r) j) := by
  change V2 m ρ c main_v0 ((win1_0.blk t).view.emb (ix2 r j)) = _
  rw [entry_v0, host_x]
  blk_point [idx1 t, rowOf]

theorem blk_ga (j : Fin 768) : iblk1 (V2 m ρ) c 1 t (ix2 0 j) = m ((c : Thread nD τ).loc main_arg1) (ix1 j) := by
  change V2 m ρ c main_v27 ((win1_1.blk t).view.emb (ix2 0 j)) = _
  rw [entry_v27, host_ga]
  blk_point [idx1 t]

theorem blk_gf (j : Fin 768) : iblk1 (V2 m ρ) c 2 t (ix2 0 j) = m ((c : Thread nD τ).loc main_arg2) (ix1 j) := by
  change V2 m ρ c main_v28 ((win1_2.blk t).view.emb (ix2 0 j)) = _
  rw [entry_v28, host_gf]
  blk_point [idx1 t]

theorem blk_cos (r : Fin 512) (d : Fin 64) : iblk1 (V2 m ρ) c 3 t (ix2 r d) = (Rope.cosR (rowOf t r).val (d.val % 32) : EReal) := by
  change V2 m ρ c main_v16 ((win1_3.blk t).view.emb (ix2 r d)) = _
  rw [entry_v16, show (win1_3.blk t).view.emb (ix2 r d) = ix2 (rowOf t r) d from by blk_point [idx1 t, rowOf]]
  exact host_cos m ρ c (rowOf t r) d

theorem blk_sin (r : Fin 512) (d : Fin 64) : iblk1 (V2 m ρ) c 4 t (ix2 r d) = (Rope.sinR (rowOf t r).val (d.val % 32) : EReal) := by
  change V2 m ρ c main_v17 ((win1_4.blk t).view.emb (ix2 r d)) = _
  rw [entry_v17, show (win1_4.blk t).view.emb (ix2 r d) = ix2 (rowOf t r) d from by blk_point [idx1 t, rowOf]]
  exact host_sin m ρ c (rowOf t r) d

theorem blk_eye (d : Fin 64) (l : Fin 768) : iblk1 (V2 m ρ) c 5 t (ix2 d l) = (if d.val = l.val % 64 then (1 : EReal) else 0) := by
  change V2 m ρ c main_v26 ((win1_5.blk t).view.emb (ix2 d l)) = _
  rw [entry_v26, show (win1_5.blk t).view.emb (ix2 d l) = ix2 d l from by blk_point [idx1 t]]
  exact host_eye m ρ c d l

theorem blk_wqk (k : Fin 768) (l : Fin 3072) : iblk1 (V2 m ρ) c 6 t (ix2 k l)
    = wqkPay (F := Ideal) (m ((c : Thread nD τ).loc main_arg3)) (m ((c : Thread nD τ).loc main_arg4)) (ix2 k l) := by
  change V2 m ρ c main_v29_0 ((win1_6.blk t).view.emb (ix2 k l)) = _
  rw [entry_v29_0, arr6, first_arg3, first_arg4, show (win1_6.blk t).view.emb (ix2 k l) = ix2 k l from by blk_point [idx1 t]]

theorem blk_wv (e : Fin 8) (k l : Fin 768) : iblk1 (V2 m ρ) c 7 t (ix3 e k l) = m ((c : Thread nD τ).loc main_arg5) (ix3 e k l) := by
  change V2 m ρ c main_v29_1 ((win1_7.blk t).view.emb (ix3 e k l)) = _
  rw [entry_v29_1, arr7, first_arg5, show (win1_7.blk t).view.emb (ix3 e k l) = ix3 e k l from by blk_point [idx1 t]]

theorem blk_selv (k : Fin 768) (e : Fin 8) : iblk1 (V2 m ρ) c 8 t (ix2 k e) = m ((c : Thread nD τ).loc main_arg7) (ix2 k e) := by
  change V2 m ρ c main_arg7 ((win1_8.blk t).view.emb (ix2 k e)) = _
  rw [entry_arg7, show (win1_8.blk t).view.emb (ix2 k e) = ix2 k e from by blk_point [idx1 t]]

theorem blk_wo (e : Fin 8) (k l : Fin 768) : iblk1 (V2 m ρ) c 9 t (ix3 e k l) = m ((c : Thread nD τ).loc main_arg6) (ix3 e k l) := by
  change V2 m ρ c main_v29_2 ((win1_9.blk t).view.emb (ix3 e k l)) = _
  rw [entry_v29_2, arr8, first_arg6, show (win1_9.blk t).view.emb (ix3 e k l) = ix3 e k l from by blk_point [idx1 t]]

theorem blk_selo (k : Fin 768) (e : Fin 8) : iblk1 (V2 m ρ) c 10 t (ix2 k e) = m ((c : Thread nD τ).loc main_arg8) (ix2 k e) := by
  change V2 m ρ c main_arg8 ((win1_10.blk t).view.emb (ix2 k e)) = _
  rw [entry_arg8, show (win1_10.blk t).view.emb (ix2 k e) = ix2 k e from by blk_point [idx1 t]]

theorem blk_w1 (e : Fin 8) (k : Fin 768) (l : Fin 256) : iblk1 (V2 m ρ) c 11 t (ix3 e k l) = pairA (m ((c : Thread nD τ).loc main_arg9)) (ix3 e k l) := by
  change V2 m ρ c main_v29_3 ((win1_11.blk t).view.emb (ix3 e k l)) = _
  rw [entry_v29_3, arr9, first_arg9, show (win1_11.blk t).view.emb (ix3 e k l) = ix3 e k l from by blk_point [idx1 t]]

theorem blk_w2 (e : Fin 8) (k : Fin 256) (l : Fin 768) : iblk1 (V2 m ρ) c 12 t (ix3 e k l) = pairB (m ((c : Thread nD τ).loc main_arg10)) (ix3 e k l) := by
  change V2 m ρ c main_v29_4 ((win1_12.blk t).view.emb (ix3 e k l)) = _
  rw [entry_v29_4, arr10, first_arg10, show (win1_12.blk t).view.emb (ix3 e k l) = ix3 e k l from by blk_point [idx1 t]]

theorem blk_self (k : Fin 768) (e : Fin 16) : iblk1 (V2 m ρ) c 13 t (ix2 k e) = m ((c : Thread nD τ).loc main_arg11) (ix2 k e) := by
  change V2 m ρ c main_arg11 ((win1_13.blk t).view.emb (ix2 k e)) = _
  rw [entry_arg11, show (win1_13.blk t).view.emb (ix2 k e) = ix2 k e from by blk_point [idx1 t]]

theorem pairA_left (W : Vec Ideal S16x768x128 .f32) (p : Fin 8) (k : Fin 768) (f : Fin 128) :
    pairA W (ix3 p k ⟨f.val, by omega⟩) = W (ix3 ⟨2 * p.val, by omega⟩ k f) := by
  exact dif_pos f.isLt

theorem pairA_right (W : Vec Ideal S16x768x128 .f32) (p : Fin 8) (k : Fin 768) (f : Fin 128) :
    pairA W (ix3 p k ⟨128 + f.val, by omega⟩) = W (ix3 ⟨2 * p.val + 1, by omega⟩ k f) := by
  refine (dif_neg (show ¬128 + f.val < 128 by omega)).trans ?_
  exact congrArg (fun f => W (ix3 _ k f)) (Fin.ext (by show 128 + f.val - 128 = f.val; omega))

theorem pairB_left (W : Vec Ideal S16x128x768 .f32) (p : Fin 8) (f : Fin 128) (l : Fin 768) :
    pairB W (ix3 p ⟨f.val, by omega⟩ l) = W (ix3 ⟨2 * p.val, by omega⟩ f l) := by
  exact dif_pos f.isLt

theorem pairB_right (W : Vec Ideal S16x128x768 .f32) (p : Fin 8) (f : Fin 128) (l : Fin 768) :
    pairB W (ix3 p ⟨128 + f.val, by omega⟩ l) = W (ix3 ⟨2 * p.val + 1, by omega⟩ f l) := by
  refine (dif_neg (show ¬128 + f.val < 128 by omega)).trans ?_
  exact congrArg (fun f => W (ix3 _ f l)) (Fin.ext (by show 128 + f.val - 128 = f.val; omega))

end Cert.KernelIdeal.Hand
-- ==== Proof.A.Final.lean ====
/- The second call's result array, and the program's result, from the arguments. -/
module

public import Idealize.ShloMosaic.Lib.VecWindow
public import proofs.«01_k».proof.Proof.A.Out
public import proofs.«01_k».proof.Proof.A.Turn
public import proofs.«01_k».proof.Proof.A.Blocks

@[expose] public section

set_option maxRecDepth 16384

noncomputable section

namespace Cert.KernelIdeal.Hand

open Idealize.ShloMosaic Idealize.ShloMosaic.TcCoe Idealize.SL.Sem Cert.KernelIdeal.Gen Cert.Spec Cert.Soft

variable (m : (ℓ : Loc nD τ sig) → Buf (Elt Ideal) ℓ) (ρ : Dev nD → PrngReg) (c : Dev nD) (t : Fin cfg1.N)

theorem row_blk (r : Fin 512) : norm (fun j => iblk1 (V2 m ρ) c 0 t (ix2 r j)) (fun j => iblk1 (V2 m ρ) c 1 t (ix2 0 j))
    = norm (fun j => (m ((c : Thread nD τ).loc main_arg0)) (ix3 0 (rowOf t r) j)) (fun j => (m ((c : Thread nD τ).loc main_arg1)) (ix1 j)) := by
  simp only [blk_x, blk_ga]

theorem wqk_blk (k : Fin 768) (n : Fin 4) (l : Fin 768) (l' : Fin 3072) (hl : l'.val = n.val * 768 + l.val) :
    iblk1 (V2 m ρ) c 6 t (ix2 k l') = (![HMul.hMul (α := EReal) (β := EReal) (γ := EReal) ((m ((c : Thread nD τ).loc main_arg3)) (ix2 k l)) (Ideal.ofBits FTy.f32 0x3E000000#32), rot (m ((c : Thread nD τ).loc main_arg3)) k l * Ideal.ofBits FTy.f32 0x3E000000#32, (m ((c : Thread nD τ).loc main_arg4)) (ix2 k l), rot (m ((c : Thread nD τ).loc main_arg4)) k l] : Fin 4 → EReal) n := by
  rw [show l' = ⟨n.val * 768 + l.val, by omega⟩ from Fin.ext hl]
  exact (blk_wqk m ρ c t k _).trans (wqk_pt (m ((c : Thread nD τ).loc main_arg3)) (m ((c : Thread nD τ).loc main_arg4)) k n l)

theorem cos_col (r : Fin 512) (h : Fin 12) (d : Fin 64) :
    ∑ d' : Fin 64, HMul.hMul (α := EReal) (β := EReal) (γ := EReal) (iblk1 (V2 m ρ) c 3 t (ix2 r d')) (iblk1 (V2 m ρ) c 5 t (ix2 d' ⟨h.val * 64 + d.val, by omega⟩)) = (Rope.cosR (rowOf t r).val (d.val % 32) : EReal) :=
  (pick_table (fun d' => iblk1 (V2 m ρ) c 3 t (ix2 r d')) (fun d' => iblk1 (V2 m ρ) c 5 t (ix2 d' ⟨h.val * 64 + d.val, by omega⟩)) d (fun d' => by
    rw [blk_eye, show (h.val * 64 + d.val) % 64 = d.val by omega])).trans (blk_cos m ρ c t r d)

theorem sin_col (r : Fin 512) (h : Fin 12) (d : Fin 64) :
    ∑ d' : Fin 64, HMul.hMul (α := EReal) (β := EReal) (γ := EReal) (iblk1 (V2 m ρ) c 4 t (ix2 r d')) (iblk1 (V2 m ρ) c 5 t (ix2 d' ⟨h.val * 64 + d.val, by omega⟩)) = (Rope.sinR (rowOf t r).val (d.val % 32) : EReal) :=
  (pick_table (fun d' => iblk1 (V2 m ρ) c 4 t (ix2 r d')) (fun d' => iblk1 (V2 m ρ) c 5 t (ix2 d' ⟨h.val * 64 + d.val, by omega⟩)) d (fun d' => by
    rw [blk_eye, show (h.val * 64 + d.val) % 64 = d.val by omega])).trans (blk_sin m ρ c t r d)

/-- The values: every row's routed projection. -/
def valRow (r : Fin 2048) : Fin 768 → EReal :=
  routed (norm (fun j => (m ((c : Thread nD τ).loc main_arg0)) (ix3 0 r j)) (fun j => (m ((c : Thread nD τ).loc main_arg1)) (ix1 j))) (norm (fun j => (m ((c : Thread nD τ).loc main_arg0)) (ix3 0 r j)) (fun j => (m ((c : Thread nD τ).loc main_arg1)) (ix1 j)))
    (fun e k l => (m ((c : Thread nD τ).loc main_arg5)) (ix3 e k l)) (fun k e => (m ((c : Thread nD τ).loc main_arg7)) (ix2 k e))

theorem v_val (j : Fin 512) (l : Fin 768) : vAt (V2 m ρ) c t (ix2 j l) = valRow m c (rowOf t j) l := by
  unfold vAt
  rw [v_pt]
  simp only [row_blk, blk_wv, blk_selv]
  rfl

theorem kt_at (h : Fin 12) (k : Fin 4) (x : Fin 64) (j : Fin 512) :
    KT (V2 m ρ) c (ix4 h k x j) = kAt (V2 m ρ) c k (ix2 ⟨h.val * 64 + x.val, by omega⟩ j) := by
  unfold KT kNew
  congr 1
  funext a
  match a with
  | ⟨0, _⟩ => rfl
  | ⟨1, _⟩ => rfl

theorem vt_at (h : Fin 12) (k : Fin 4) (j : Fin 512) (d : Fin 64) :
    VT (V2 m ρ) c (ix4 h k j d) = vAt (V2 m ρ) c k (ix2 j ⟨h.val * 64 + d.val, by omega⟩) := by
  unfold VT vNew
  congr 1
  funext a
  match a with
  | ⟨0, _⟩ => rfl
  | ⟨1, _⟩ => rfl

theorem carK_at (h : Fin 12) (k : Fin 4) (x : Fin 64) (j : Fin 512) :
    carK (grid1.coords t 0).val (kAt (V2 m ρ) c t) (KT (V2 m ρ) c) (ix4 h k x j) = kAt (V2 m ρ) c k (ix2 ⟨h.val * 64 + x.val, by omega⟩ j) := by
  rw [← kt_at]
  unfold carK
  split
  · rename_i e
    exact (KT_of (V2 m ρ) c t _ (e.trans (coords1 t))).symm
  · rfl

theorem carV_at (h : Fin 12) (k : Fin 4) (j : Fin 512) (d : Fin 64) :
    carV (grid1.coords t 0).val (vAt (V2 m ρ) c t) (VT (V2 m ρ) c) (ix4 h k j d) = vAt (V2 m ρ) c k (ix2 j ⟨h.val * 64 + d.val, by omega⟩) := by
  rw [← vt_at]
  unfold carV
  split
  · rename_i e
    exact (VT_of (V2 m ρ) c t _ (e.trans (coords1 t))).symm
  · rfl

section real

variable (X : Fin 2048 → Fin 768 → ℝ) (Q K : Fin 768 → Fin 768 → ℝ)
  (hX : ∀ r k, norm (fun j => (m ((c : Thread nD τ).loc main_arg0)) (ix3 0 r j)) (fun j => (m ((c : Thread nD τ).loc main_arg1)) (ix1 j)) k = (X r k : EReal))
  (hQ : ∀ k l, (m ((c : Thread nD τ).loc main_arg3)) (ix2 k l) = (Q k l : EReal)) (hK : ∀ k l, (m ((c : Thread nD τ).loc main_arg4)) (ix2 k l) = (K k l : EReal))

include hX hQ in
theorem q_val (r : Fin 512) (h : Fin 12) (d : Fin 64) :
    (bodyRun.sl.v35 c (ms1_0 t) (hs1_0 t) (ms1_1 t) (hs1_1 t) (ms1_3 t) (hs1_3 t) (ms1_4 t) (hs1_4 t) (ms1_5 t) (hs1_5 t) (ms1_6 t) (hs1_6 t) (iblk1 (V2 m ρ) c 0 t) (iblk1 (V2 m ρ) c 1 t) (iblk1 (V2 m ρ) c 3 t) (iblk1 (V2 m ρ) c 4 t) (iblk1 (V2 m ρ) c 5 t) (iblk1 (V2 m ρ) c 6 t)) (ix2 r ⟨h.val * 64 + d.val, by omega⟩) = ((1 / 8 * Rope.turn X Q (rowOf t r) h d : ℝ) : EReal) := by
  rw [q_pt]
  refine turn_packed _ (X (rowOf t r)) (fun k => ?_) Q (1 / 8) (Rope.cosR (rowOf t r).val) (Rope.sinR (rowOf t r).val) _ _ _ _ h d (cos_col m ρ c t r h d) (sin_col m ρ c t r h d) (fun k => ?_) (fun k => ?_)
  · rw [row_blk]
    exact hX _ k
  · rw [wqk_blk m ρ c t k 0 ⟨h.val * 64 + d.val, by omega⟩ _ (by show _ = 0 * 768 + _; simp)]
    show HMul.hMul (α := EReal) (β := EReal) (γ := EReal) ((m ((c : Thread nD τ).loc main_arg3)) (ix2 k _)) (Ideal.ofBits FTy.f32 0x3E000000#32) = _
    rw [hQ, Rope.eighth_eq, ← EReal.coe_mul]
  · rw [wqk_blk m ρ c t k 1 ⟨h.val * 64 + d.val, by omega⟩ _ (by show _ = 1 * 768 + _; simp)]
    show rot (m ((c : Thread nD τ).loc main_arg3)) k _ * Ideal.ofBits FTy.f32 0x3E000000#32 = _
    rw [rot_coe (m ((c : Thread nD τ).loc main_arg3)) Q hQ, Rope.eighth_eq, ← EReal.coe_mul]

include hX hK in
theorem k_val (j : Fin 512) (h : Fin 12) (d : Fin 64) :
    kAt (V2 m ρ) c t (ix2 ⟨h.val * 64 + d.val, by omega⟩ j) = ((Rope.turn X K (rowOf t j) h d : ℝ) : EReal) := by
  unfold kAt
  rw [k_pt]
  refine (turn_packed _ (X (rowOf t j)) (fun k => ?_) K 1 (Rope.cosR (rowOf t j).val) (Rope.sinR (rowOf t j).val) _ _ _ _ h d (cos_col m ρ c t j h d) (sin_col m ρ c t j h d) (fun k => ?_) (fun k => ?_)).trans ?_
  · rw [row_blk]
    exact hX _ k
  · rw [wqk_blk m ρ c t k 2 ⟨h.val * 64 + d.val, by omega⟩ _ (by show _ = 2 * 768 + _; simp)]
    show (m ((c : Thread nD τ).loc main_arg4)) (ix2 k _) = _
    rw [hK, mul_one]
  · rw [wqk_blk m ρ c t k 3 ⟨h.val * 64 + d.val, by omega⟩ _ (by show _ = 3 * 768 + (h.val * 64 + d.val); simp only []; omega)]
    show rot (m ((c : Thread nD τ).loc main_arg4)) k _ = _
    rw [rot_coe (m ((c : Thread nD τ).loc main_arg4)) K hK, mul_one]
  · rw [one_mul]
    rfl

include hX hQ hK in
theorem ctx_val (r : Fin 512) (l : Fin 768) : (bodyRun.sl.v354 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (iblk1 (V2 m ρ) c 0 t) (iblk1 (V2 m ρ) c 1 t) (iblk1 (V2 m ρ) c 3 t) (iblk1 (V2 m ρ) c 4 t) (iblk1 (V2 m ρ) c 5 t) (iblk1 (V2 m ρ) c 6 t) (iblk1 (V2 m ρ) c 7 t) (iblk1 (V2 m ρ) c 8 t) (KT (V2 m ρ) c) (VT (V2 m ρ) c)) (ix2 r l) = Rope.ctx X Q K (valRow m c) (rowOf t r) l := by
  refine (joined_pt  c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (iblk1 (V2 m ρ) c 0 t) (iblk1 (V2 m ρ) c 1 t) (iblk1 (V2 m ρ) c 3 t) (iblk1 (V2 m ρ) c 4 t) (iblk1 (V2 m ρ) c 5 t) (iblk1 (V2 m ρ) c 6 t) (iblk1 (V2 m ρ) c 7 t) (iblk1 (V2 m ρ) c 8 t) (KT (V2 m ρ) c) (VT (V2 m ρ) c)  r (Rope.score X Q K (rowOf t r)) (fun l => Rope.val (valRow m c) l) (fun h k hk j => ?_) (fun h k hk j d => ?_) l).trans ?_
  · have hlt : k.val * 512 + j.val < 2048 := by omega
    refine (Rope.coe_dot _ _ (fun x => 1 / 8 * Rope.turn X Q (rowOf t r) h x) (fun x => Rope.turn X K (rowOf k j) h x)
      (fun x => q_val m ρ c t X Q hX hQ r h x) (fun x => (carK_at m ρ c t h k x j).trans (k_val m ρ c k X K hX hK j h x))).trans ?_
    refine congrArg _ ?_
    unfold Rope.score
    rw [dif_pos hlt, Finset.sum_div]
    refine Finset.sum_congr rfl fun x _ => ?_
    show 1 / 8 * Rope.turn X Q (rowOf t r) h x * Rope.turn X K (rowOf k j) h x = Rope.turn X Q (rowOf t r) h x * Rope.turn X K (rowOf k j) h x / 8
    ring
  · have hlt : k.val * 512 + j.val < 2048 := by omega
    refine (carV_at m ρ c t h k j d).trans ((v_val m ρ c k j _).trans ?_)
    unfold Rope.val
    rw [dif_pos hlt]
    rfl
  · unfold Rope.ctx
    rw [coords1]
    rfl

/-- The result at a row and a column. -/
def wholeAt (r : Fin 2048) (l : Fin 768) : EReal :=
  out (fun j => (m ((c : Thread nD τ).loc main_arg0)) (ix3 0 r j)) (Rope.ctx X Q K (valRow m c) r) (fun j => (m ((c : Thread nD τ).loc main_arg1)) (ix1 j)) (fun j => (m ((c : Thread nD τ).loc main_arg2)) (ix1 j))
    (fun e k l => (m ((c : Thread nD τ).loc main_arg6)) (ix3 e k l)) (fun k e => (m ((c : Thread nD τ).loc main_arg8)) (ix2 k e)) (fun e k f => (m ((c : Thread nD τ).loc main_arg9)) (ix3 e k f)) (fun e f l => (m ((c : Thread nD τ).loc main_arg10)) (ix3 e f l))
    (fun k e => (m ((c : Thread nD τ).loc main_arg11)) (ix2 k e)) l

include hX hQ hK in
theorem outs_val (r : Fin 512) (l : Fin 768) : outsAt1 (V2 m ρ) c t (ix2 r l) = wholeAt m c X Q K (rowOf t r) l := by
  unfold outsAt1
  rw [piece_eq, View.read_writes_full]
  refine (store_pt  c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) (iblk1 (V2 m ρ) c 7 t) (iblk1 (V2 m ρ) c 8 t) (iblk1 (V2 m ρ) c 9 t) (iblk1 (V2 m ρ) c 10 t) (iblk1 (V2 m ρ) c 11 t) (iblk1 (V2 m ρ) c 12 t) (iblk1 (V2 m ρ) c 13 t) (KT (V2 m ρ) c) (VT (V2 m ρ) c)  r l (fun e k f => (m ((c : Thread nD τ).loc main_arg9)) (ix3 e k f)) (fun e f l => (m ((c : Thread nD τ).loc main_arg10)) (ix3 e f l))
    (fun p k f => (blk_w1 m ρ c t p k _).trans (pairA_left _ p k f)) (fun p k f => (blk_w1 m ρ c t p k _).trans (pairA_right _ p k f))
    (fun p f l => (blk_w2 m ρ c t p _ l).trans (pairB_left _ p f l)) (fun p f l => (blk_w2 m ρ c t p _ l).trans (pairB_right _ p f l))).trans ?_
  simp only [blk_x, blk_ga, blk_gf, blk_wo, blk_selo, blk_self, ctx_val m ρ c t X Q K hX hQ hK]
  rfl

include hX hQ hK in
theorem final : (dat1 (V2 m ρ) c).arrAt 14 cfg1.N = fun y : S2048x768.Idx => wholeAt m c X Q K (y 0) (y 1) := by
  refine (dat1 (V2 m ρ) c).arrAt_eq_of_covers 14 _ (by decide +kernel) fun t hf y => ?_
  blk_simp
  rw [after1_14]
  obtain ⟨r, l, rfl⟩ : ∃ r l, y = ix2 r l := ⟨y 0, y 1, by funext a; match a with | ⟨0, _⟩ => rfl | ⟨1, _⟩ => rfl⟩
  rw [outs_val m ρ c t X Q K hX hQ hK]
  have h0 : (win1_14.blk t).view.emb (ix2 r l) 0 = rowOf t r := by
    apply Fin.ext
    blk_simp [idx1 t, rowOf]
  have h1 : (win1_14.blk t).view.emb (ix2 r l) 1 = l := by
    apply Fin.ext
    blk_simp [idx1 t]
  exact congrArg₂ (wholeAt m c X Q K) h0.symm h1.symm

include hX hQ hK in
theorem result_eq (r : Fin 2048) (l : Fin 768) : W4 m ρ c (Proc.devRef .tc main_v31) (ix3 0 r l) = wholeAt m c X Q K r l := by
  have hA := congrFun ((W3_arr m ρ c 14).trans (final m ρ c X Q K hX hQ hK)) (ix2 r l)
  refine Eq.trans ?_ hA
  simp only [W4, hostOps2]
  after_results
  generalize W3 m ρ c = W
  pointwise

end real

end Cert.KernelIdeal.Hand
-- ==== Proof.A.Ref.lean ====
/- The reference read one element at a time: the attention's context over the reals, and the block's result from it. -/
module

public import proofs.«01_k».proof.Proof.Gen.ReferenceIdeal.Read
public import proofs.«01_k».proof.Proof.A.Rope

@[expose] public section

set_option maxRecDepth 16384

noncomputable section

namespace Cert.ReferenceIdeal.Hand

open Idealize.ShloMosaic Idealize.SL.Sem Cert.ReferenceIdeal Cert.ReferenceIdeal.Value
open Cert.ReferenceIdeal.Read Cert.Spec Cert.Soft

variable (x0 : (⟨S1x2048x768, .f32⟩ : BufTy).Contents (Elt Ideal)) (x1 x2 : (⟨S768, .f32⟩ : BufTy).Contents (Elt Ideal))
  (x3 x4 : (⟨S768x768, .f32⟩ : BufTy).Contents (Elt Ideal)) (x5 x6 : (⟨S8x768x768, .f32⟩ : BufTy).Contents (Elt Ideal))
  (x7 x8 : (⟨S768x8, .f32⟩ : BufTy).Contents (Elt Ideal)) (x9 : (⟨S16x768x128, .f32⟩ : BufTy).Contents (Elt Ideal))
  (x10 : (⟨S16x128x768, .f32⟩ : BufTy).Contents (Elt Ideal)) (x11 : (⟨S768x16, .f32⟩ : BufTy).Contents (Elt Ideal))

theorem h_apply (r : Fin 2048) (l : Fin 768) :
    val_main_v12 x0 x1 (ix3 0 r l) = norm (fun j => x0 (ix3 0 r j)) (fun j => x1 (ix1 j)) l := by
  pointwise [val_main_v12, val_main_v11, val_main_v10, val_main_v9, val_main_v8, val_main_v7, val_main_v6, val_main_v5, val_main_v4, val_main_v3, val_main_v2, val_main_v1, val_main_v0]
  rw [show val_main_cst (F := Ideal) (Shape.Idx.first Gen.h_S_) = 0 from Ideal.ofBits_zero FTy.f32, zero_add]
  rfl

/-! ## Values -/

theorem score_apply (r : Fin 2048) (e : Fin 8) :
    val_main_v68 x0 x1 x7 (ix3 0 r e) = Ideal.logistic (∑ k, norm (fun j => x0 (ix3 0 r j)) (fun j => x1 (ix1 j)) k * x7 (ix2 k e)) := by
  pointwise [val_main_v68, val_main_v67, val_main_v66, val_main_v65, val_main_v64, val_main_v63, val_main_v62, val_main_cst_5, val_main_cst_6]
  simp only [h_apply]
  rfl

theorem gate_apply (r : Fin 2048) (e : Fin 8) :
    val_main_v73 x0 x1 x7 (ix3 0 r e) = gate 2 (fun e => ∑ k, norm (fun j => x0 (ix3 0 r j)) (fun j => x1 (ix1 j)) k * x7 (ix2 k e)) e := by
  pointwise [val_main_v73, val_main_v72, val_main_v71, val_main_v70, val_main_v69, val_main_call0_v4, val_main_call0_v3, val_main_call0_v2, val_main_call0_v1, val_main_call0_v0]
  rw [show val_main_cst_7 (F := Ideal) (Shape.Idx.first Gen.h_S_) = 0 from Ideal.ofBits_zero FTy.f32, zero_add]
  exact Gates.reference_gate (by decide) (by decide) (val_main_v68 x0 x1 x7) _ r _ (score_apply x0 x1 x7 r) e

/-- A row's normalized entries. -/
abbrev row (r : Fin 2048) : Fin 768 → EReal := norm (fun j => x0 (ix3 0 r j)) (fun j => x1 (ix1 j))

/-- A row's routed values. -/
abbrev vals (r : Fin 2048) : Fin 768 → EReal := routed (row x0 x1 r) (row x0 x1 r) (fun e k l => x5 (ix3 e k l)) (fun k e => x7 (ix2 k e))

theorem vals_apply (r : Fin 2048) (l : Fin 768) : val_main_v75 x0 x1 x5 x7 (ix3 0 r l) = vals x0 x1 x5 x7 r l := by
  pointwise [val_main_v75, val_main_v74]
  simp only [gate_apply, h_apply]
  rfl

theorem vals_head (r : Fin 2048) (h : Fin 12) (d : Fin 64) :
    val_main_v77 x0 x1 x5 x7 (ix4 0 h r d) = val_main_v75 x0 x1 x5 x7 (ix3 0 r ⟨h.val * 64 + d.val, by omega⟩) := by
  pointwise [val_main_v77, val_main_v76]

/-! ## Queries and keys -/

theorem query_apply (r : Fin 2048) (h : Fin 12) (d : Fin 64) :
    val_main_v15 x0 x1 x3 (ix4 0 h r d) = ∑ k, row x0 x1 r k * x3 (ix2 k ⟨h.val * 64 + d.val, by omega⟩) := by
  pointwise [val_main_v15, val_main_v14, val_main_v13]
  simp only [h_apply]

theorem key_apply (r : Fin 2048) (h : Fin 12) (d : Fin 64) :
    val_main_v18 x0 x1 x4 (ix4 0 h r d) = ∑ k, row x0 x1 r k * x4 (ix2 k ⟨h.val * 64 + d.val, by omega⟩) := by
  pointwise [val_main_v18, val_main_v17, val_main_v16]
  simp only [h_apply]

theorem cos_apply (r : Fin 2048) (d : Fin 32) : val_main_v32 (F := Ideal) (ix2 r d) = (Rope.cosR r.val d.val : EReal) := by
  pointwise [val_main_v32, val_main_v31, val_main_v30, val_main_v29, val_main_v28, val_main_v27, val_main_v26, val_main_v25, val_main_v24, val_main_v23, val_main_v22, val_main_v21, val_main_v20, val_main_v19, val_main_cst_2, val_main_cst_3, val_main_cst_4]
  exact Rope.cos_eq r.val d.val

theorem sin_apply (r : Fin 2048) (d : Fin 32) : val_main_v34 (F := Ideal) (ix2 r d) = (Rope.sinR r.val d.val : EReal) := by
  pointwise [val_main_v34, val_main_v31, val_main_v30, val_main_v29, val_main_v28, val_main_v27, val_main_v26, val_main_v25, val_main_v24, val_main_v23, val_main_v22, val_main_v21, val_main_v20, val_main_v19, val_main_cst_2, val_main_cst_3, val_main_cst_4]
  exact Rope.sin_eq r.val d.val

variable (X : Fin 2048 → Fin 768 → ℝ) (Q K : Fin 768 → Fin 768 → ℝ)
  (hX : ∀ r k, row x0 x1 r k = (X r k : EReal)) (hQ : ∀ k l, x3 (ix2 k l) = (Q k l : EReal)) (hK : ∀ k l, x4 (ix2 k l) = (K k l : EReal))

include hX hQ in
theorem rotq_apply (r : Fin 2048) (h : Fin 12) (d : Fin 64) :
    val_main_v48 x0 x1 x3 (ix4 0 h r d) = (Rope.turn X Q r h d : EReal) := by
  pointwise [val_main_v48, val_main_v47, val_main_v46, val_main_v45, val_main_v44, val_main_v43, val_main_v42, val_main_v41, val_main_v40, val_main_v39, val_main_v38, val_main_v37, val_main_v36, val_main_v35, val_main_v33]
  have hp : ∀ l : Fin 768, ∑ k, row x0 x1 r k * x3 (ix2 k l) = (Rope.proj X Q r l : EReal) := fun l => Rope.coe_dot _ _ (X r) (fun k => Q k l) (hX r) (fun k => hQ k l)
  unfold Rope.turn Rope.rope
  split
  · rw [query_apply, query_apply, cos_apply, sin_apply, hp, hp, ← EReal.coe_mul, ← EReal.coe_mul, ← EReal.coe_sub]
  · rw [query_apply, query_apply, cos_apply, sin_apply, hp, hp, ← EReal.coe_mul, ← EReal.coe_mul, ← EReal.coe_add]

include hX hK in
theorem rotk_apply (r : Fin 2048) (h : Fin 12) (d : Fin 64) :
    val_main_v61 x0 x1 x4 (ix4 0 h r d) = (Rope.turn X K r h d : EReal) := by
  pointwise [val_main_v61, val_main_v60, val_main_v59, val_main_v58, val_main_v57, val_main_v56, val_main_v55, val_main_v54, val_main_v53, val_main_v52, val_main_v51, val_main_v50, val_main_v49, val_main_v35, val_main_v33]
  have hp : ∀ l : Fin 768, ∑ k, row x0 x1 r k * x4 (ix2 k l) = (Rope.proj X K r l : EReal) := fun l => Rope.coe_dot _ _ (X r) (fun k => K k l) (hX r) (fun k => hK k l)
  unfold Rope.turn Rope.rope
  split
  · rw [key_apply, key_apply, cos_apply, sin_apply, hp, hp, ← EReal.coe_mul, ← EReal.coe_mul, ← EReal.coe_sub]
  · rw [key_apply, key_apply, cos_apply, sin_apply, hp, hp, ← EReal.coe_mul, ← EReal.coe_mul, ← EReal.coe_add]

theorem bot_eq : Ideal.ofBits FTy.f32 4286578688#32 = ⊥ := by
  simp [Ideal.ofBits, Ideal.ieee]

/-- The comparison of two positions, as a bit. -/
theorem sge_ofNat (a b : Fin 2048) :
    IntOp.cmpi CmpIPredicate.sge (IntOp.addi (BitVec.ofNat 32 a.val) 0#32) (BitVec.ofNat 32 b.val) = BitVec.ofBool (decide (b.val ≤ a.val)) := by
  have ha : (BitVec.ofNat 32 a.val).toInt = a.val := by rw [BitVec.toInt_ofNat']; norm_num [Int.bmod]; omega
  have hb : (BitVec.ofNat 32 b.val).toInt = b.val := by rw [BitVec.toInt_ofNat']; norm_num [Int.bmod]; omega
  simp [IntOp.cmpi, IntOp.addi, BitVec.sle, ha, hb]

theorem logit_apply (r j : Fin 2048) (h : Fin 12) :
    val_main_v85 x0 x1 x3 x4 (ix4 0 h r j)
      = Scalar.select (Scalar.select (IntOp.cmpi CmpIPredicate.sge (IntOp.addi (BitVec.ofNat 32 r.val) 0#32) (BitVec.ofNat 32 j.val)) 1#1 0#1)
          (Ideal.div (∑ x, val_main_v48 x0 x1 x3 (ix4 0 h r x) * val_main_v61 x0 x1 x4 (ix4 0 h j x)) (Ideal.sqrt (Ideal.ofBits FTy.f32 1115684864#32)))
          (id (constant (F := Ideal) S_ FTy.f32 4286578688#32) ix0) := by
  pointwise [val_main_v85, val_main_v84, val_main_v83, val_main_v82, val_main_v81, val_main_v80, val_main_v79, val_main_v78, val_main_call1_v0, val_main_call1_v1, val_main_call1_v2, val_main_call1_v3, val_main_call1_v4, val_main_call1_v5, val_main_call1_c, val_main_call1_c_0, val_main_call2_v0, val_main_call2_v1, val_main_call2_v2, val_main_c, val_main_cst_8, val_main_cst_9]

theorem select_masked (b : Bool) (s : ℝ) : Scalar.select (Scalar.select (BitVec.ofBool b) 1#1 0#1) (s : EReal) ⊥ = if b = true then (s : EReal) else ⊥ := by
  cases b <;> rfl

theorem scaled (s : ℝ) : Ideal.div (s : EReal) (Ideal.sqrt (Ideal.ofBits FTy.f32 1115684864#32)) = ((s / 8 : ℝ) : EReal) := by
  rw [Rope.root_eq, Ideal.div_coe (by norm_num : (8 : ℝ) ≠ 0), ← EReal.coe_mul, mul_one_div]

theorem fill_bot : id (constant (F := Ideal) S_ FTy.f32 4286578688#32) ix0 = ⊥ := by
  pointwise
  exact bot_eq

include hX hQ hK in
theorem dot_apply (r j : Fin 2048) (h : Fin 12) :
    ∑ x, val_main_v48 x0 x1 x3 (ix4 0 h r x) * val_main_v61 x0 x1 x4 (ix4 0 h j x) = ((∑ d, Rope.turn X Q r h d * Rope.turn X K j h d : ℝ) : EReal) := by
  rw [coe_sum]
  exact Finset.sum_congr rfl fun d _ => by rw [rotq_apply x0 x1 x3 X Q hX hQ, rotk_apply x0 x1 x4 X K hX hK, ← EReal.coe_mul]

theorem masked_of (S : ℕ → ℝ) (r j : Fin 2048) (s : EReal) (hs : s = (S j.val : EReal)) :
    Scalar.select (Scalar.select (IntOp.cmpi CmpIPredicate.sge (IntOp.addi (BitVec.ofNat 32 r.val) 0#32) (BitVec.ofNat 32 j.val)) 1#1 0#1) s ⊥
      = masked S r.val j.val := by
  rw [hs, sge_ofNat, select_masked]
  unfold masked
  simp only [decide_eq_true_eq]

theorem score_eq (r j : Fin 2048) (h : Fin 12) :
    (∑ d, Rope.turn X Q r h d * Rope.turn X K j h d) / 8 = Rope.score X Q K r h j.val := by
  unfold Rope.score
  rw [dif_pos j.isLt]

include hX hQ hK in
theorem masked_apply (r j : Fin 2048) (h : Fin 12) :
    val_main_v85 x0 x1 x3 x4 (ix4 0 h r j) = masked (Rope.score X Q K r h) r.val j.val := by
  rw [logit_apply, fill_bot]
  refine masked_of _ r j _ ?_
  rw [dot_apply x0 x1 x3 x4 X Q K hX hQ hK, scaled, score_eq]

/-- A row's largest entry. -/
theorem peak_apply (y : (⟨S1x12x2048x2048, .f32⟩ : BufTy).Contents (Elt Ideal)) (b : (⟨S_, .f32⟩ : BufTy).Contents (Elt Ideal)) (h : Fin 12) (r : Fin 2048) :
    Host.reduce (FloatOps.maximumf (F := Ideal) (φ := .f32)) y b Gen.reducesTo_S1x12x2048x2048_S1x12x2048_d3 Gen.h_S_ (ix3 0 h r)
      = Finset.fold max (b (Shape.Idx.first Gen.h_S_)) (fun x => y (ix4 0 h r x)) Finset.univ := by
  pointwise []

theorem shift_apply (r j : Fin 2048) (h : Fin 12) : val_main_v92 x0 x1 x3 x4 (ix4 0 h r j)
      = Ideal.exp (val_main_v85 x0 x1 x3 x4 (ix4 0 h r j) - val_main_v88 x0 x1 x3 x4 (ix3 0 h r)) := by
  have e1 : idx_main_v90 (ix4 0 h r j) = ix4 0 h r 0 := by funext a; match a with | ⟨0, _⟩ => rfl | ⟨1, _⟩ => rfl | ⟨2, _⟩ => rfl | ⟨3, _⟩ => rfl
  have e2 : idx_main_v89 (ix4 0 h r 0) = ix3 0 h r := by funext a; match a with | ⟨0, _⟩ => rfl | ⟨1, _⟩ => rfl | ⟨2, _⟩ => rfl
  rw [val_main_v92_apply, val_main_v91_apply, val_main_v90_apply, e1, val_main_v89_apply, e2]
  rfl

theorem sum_apply (r j : Fin 2048) (h : Fin 12) : val_main_v95 x0 x1 x3 x4 (ix4 0 h r j) = ∑ x, val_main_v92 x0 x1 x3 x4 (ix4 0 h r x) := by
  have e1 : idx_main_v95 (ix4 0 h r j) = ix4 0 h r 0 := by funext a; match a with | ⟨0, _⟩ => rfl | ⟨1, _⟩ => rfl | ⟨2, _⟩ => rfl | ⟨3, _⟩ => rfl
  have e2 : idx_main_v94 (ix4 0 h r 0) = ix3 0 h r := by funext a; match a with | ⟨0, _⟩ => rfl | ⟨1, _⟩ => rfl | ⟨2, _⟩ => rfl
  have e3 : ∀ x, idx_main_v93 (ix3 0 h r) x = ix4 0 h r x := fun x => by funext a; match a with | ⟨0, _⟩ => rfl | ⟨1, _⟩ => rfl | ⟨2, _⟩ => rfl | ⟨3, _⟩ => rfl
  rw [val_main_v95_apply, e1, val_main_v94_apply, e2, val_main_v93_apply, show val_main_cst_12 (F := Ideal) (Shape.Idx.first Gen.h_S_) = 0 from Ideal.ofBits_zero FTy.f32, zero_add]
  simp only [e3]

theorem max_apply (r : Fin 2048) (h : Fin 12) : val_main_v88 x0 x1 x3 x4 (ix3 0 h r)
      = max (Ideal.ofBits FTy.f32 4286578688#32)
          (Finset.fold max (Ideal.ofBits FTy.f32 4286578688#32) (fun x => val_main_v85 x0 x1 x3 x4 (ix4 0 h r x)) Finset.univ) := by
  rw [val_main_v88_apply, val_main_v87_apply]
  unfold val_main_v86
  generalize val_main_v85 x0 x1 x3 x4 = y
  rw [peak_apply]
  rfl

theorem prob_apply (r j : Fin 2048) (h : Fin 12) :
    val_main_v96 x0 x1 x3 x4 (ix4 0 h r j) = Ideal.div (Ideal.exp (val_main_v85 x0 x1 x3 x4 (ix4 0 h r j) -
          max (Ideal.ofBits FTy.f32 4286578688#32)
            (Finset.fold max (Ideal.ofBits FTy.f32 4286578688#32) (fun x => val_main_v85 x0 x1 x3 x4 (ix4 0 h r x)) Finset.univ)))
      (∑ x, Ideal.exp (val_main_v85 x0 x1 x3 x4 (ix4 0 h r x) -
            max (Ideal.ofBits FTy.f32 4286578688#32)
              (Finset.fold max (Ideal.ofBits FTy.f32 4286578688#32) (fun x => val_main_v85 x0 x1 x3 x4 (ix4 0 h r x)) Finset.univ))) := by
  rw [val_main_v96_apply, sum_apply]
  simp only [shift_apply, max_apply]
  rfl

/-- The largest masked score of a row is finite: its own position is not masked. -/
theorem top_fin (S : ℕ → ℝ) (r : Fin 2048) : Fin' (max ⊥ (Finset.fold max ⊥ (fun x : Fin 2048 => masked S r.val x.val) Finset.univ)) := by
  have h0 : (S r.val : EReal) ≤ Finset.fold max ⊥ (fun x : Fin 2048 => masked S r.val x.val) Finset.univ :=
    (Finset.le_fold_max _).mpr (Or.inr ⟨r, Finset.mem_univ _, by unfold masked; rw [if_pos le_rfl]⟩)
  have h1 := max_real ⟨S r.val, rfl⟩ (fun x : Fin 2048 => masked S r.val x.val) (fun x => masked_lt S r.val _)
  rw [max_eq_right h0] at h1
  rwa [max_eq_right bot_le]

theorem ctx_head (r : Fin 2048) (h : Fin 12) (d : Fin 64) : val_main_v97 x0 x1 x3 x4 x5 x7 (ix4 0 h r d)
      = ∑ x, val_main_v96 x0 x1 x3 x4 (ix4 0 h r x) * val_main_v77 x0 x1 x5 x7 (ix4 0 h x d) := by
  pointwise [val_main_v97]

theorem ctx_flat (r : Fin 2048) (l : Fin 768) : val_main_v99 x0 x1 x3 x4 x5 x7 (ix3 0 r l)
      = val_main_v97 x0 x1 x3 x4 x5 x7 (ix4 0 ⟨l.val / 64, by omega⟩ r ⟨l.val % 64, by omega⟩) := by
  pointwise [val_main_v99, val_main_v98]

/-- The context row of the reference. -/
abbrev ctxRow (r : Fin 2048) : Fin 768 → EReal := Rope.ctx X Q K (vals x0 x1 x5 x7) r

include hX hQ hK in
theorem ctx_apply (r : Fin 2048) (l : Fin 768) : val_main_v99 x0 x1 x3 x4 x5 x7 (ix3 0 r l) = ctxRow x0 x1 x5 x7 X Q K r l := by
  rw [ctx_flat, ctx_head]
  simp only [prob_apply, bot_eq, masked_apply x0 x1 x3 x4 X Q K hX hQ hK, vals_head, vals_apply]
  unfold ctxRow Rope.ctx
  rw [← softmax_mean _ _ (Rope.val (vals x0 x1 x5 x7) l) (top_fin (Rope.score X Q K r ⟨l.val / 64, by omega⟩) r)]
  refine Finset.sum_congr rfl fun j _ => ?_
  congr 1
  unfold Rope.val
  rw [dif_pos j.isLt]
  exact congrArg _ (Fin.ext (Nat.div_add_mod' l.val 64))

/-! ## The block's result from the context -/

theorem scoreo_apply (r : Fin 2048) (e : Fin 8) :
    val_main_v106 x0 x1 x8 (ix3 0 r e) = Ideal.logistic (∑ k, row x0 x1 r k * x8 (ix2 k e)) := by
  pointwise [val_main_v106, val_main_v105, val_main_v104, val_main_v103, val_main_v102, val_main_v101, val_main_v100, val_main_cst_13, val_main_cst_14]
  simp only [h_apply]
  rfl

theorem gateo_apply (r : Fin 2048) (e : Fin 8) :
    val_main_v111 x0 x1 x8 (ix3 0 r e) = gate 2 (fun e => ∑ k, row x0 x1 r k * x8 (ix2 k e)) e := by
  pointwise [val_main_v111, val_main_v110, val_main_v109, val_main_v108, val_main_v107, val_main_call3_v4, val_main_call3_v3, val_main_call3_v2, val_main_call3_v1, val_main_call3_v0]
  rw [show val_main_cst_17 (F := Ideal) (Shape.Idx.first Gen.h_S_) = 0 from Ideal.ofBits_zero FTy.f32, zero_add]
  exact Gates.reference_gate (by decide) (by decide) (val_main_v106 x0 x1 x8) _ r _ (scoreo_apply x0 x1 x8 r) e

/-- The row after the output projection. -/
def mid (r : Fin 2048) (l : Fin 768) : EReal :=
  x0 (ix3 0 r l) + routed (row x0 x1 r) (ctxRow x0 x1 x5 x7 X Q K r) (fun e k l => x6 (ix3 e k l)) (fun k e => x8 (ix2 k e)) l

include hX hQ hK in
theorem mid_apply (r : Fin 2048) (l : Fin 768) :
    val_main_v114 x0 x1 x3 x4 x5 x6 x7 x8 (ix3 0 r l) = mid x0 x1 x5 x6 x7 x8 X Q K r l := by
  pointwise [val_main_v114, val_main_v113, val_main_v112]
  simp only [gateo_apply, ctx_apply x0 x1 x3 x4 x5 x7 X Q K hX hQ hK]
  rfl

include hX hQ hK in
theorem h2_apply (r : Fin 2048) (l : Fin 768) :
    val_main_v127 x0 x1 x2 x3 x4 x5 x6 x7 x8 (ix3 0 r l) = norm (mid x0 x1 x5 x6 x7 x8 X Q K r) (fun j => x2 (ix1 j)) l := by
  pointwise [val_main_v127, val_main_v126, val_main_v125, val_main_v124, val_main_v123, val_main_v122, val_main_v121, val_main_v120, val_main_v119, val_main_v118, val_main_v117, val_main_v116, val_main_v115]
  rw [show val_main_cst_18 (F := Ideal) (Shape.Idx.first Gen.h_S_) = 0 from Ideal.ofBits_zero FTy.f32, zero_add]
  simp only [mid_apply x0 x1 x3 x4 x5 x6 x7 x8 X Q K hX hQ hK]
  rfl

include hX hQ hK in
theorem score2_apply (r : Fin 2048) (e : Fin 16) :
    val_main_v134 x0 x1 x2 x3 x4 x5 x6 x7 x8 x11 (ix3 0 r e)
      = Ideal.logistic (∑ k, norm (mid x0 x1 x5 x6 x7 x8 X Q K r) (fun j => x2 (ix1 j)) k * x11 (ix2 k e)) := by
  pointwise [val_main_v134, val_main_v133, val_main_v132, val_main_v131, val_main_v130, val_main_v129, val_main_v128, val_main_cst_21, val_main_cst_22]
  simp only [h2_apply x0 x1 x2 x3 x4 x5 x6 x7 x8 X Q K hX hQ hK]
  rfl

include hX hQ hK in
theorem gate2_apply (r : Fin 2048) (e : Fin 16) :
    val_main_v139 x0 x1 x2 x3 x4 x5 x6 x7 x8 x11 (ix3 0 r e)
      = gate 8 (fun e => ∑ k, norm (mid x0 x1 x5 x6 x7 x8 X Q K r) (fun j => x2 (ix1 j)) k * x11 (ix2 k e)) e := by
  pointwise [val_main_v139, val_main_v138, val_main_v137, val_main_v136, val_main_v135, val_main_call4_v4, val_main_call4_v3, val_main_call4_v2, val_main_call4_v1, val_main_call4_v0]
  rw [show val_main_cst_25 (F := Ideal) (Shape.Idx.first Gen.h_S_) = 0 from Ideal.ofBits_zero FTy.f32, zero_add]
  exact Gates.reference_gate (by decide) (by decide) (val_main_v134 x0 x1 x2 x3 x4 x5 x6 x7 x8 x11) _ r _
    (score2_apply x0 x1 x2 x3 x4 x5 x6 x7 x8 x11 X Q K hX hQ hK r) e

include hX hQ hK in
theorem result_apply (r : Fin 2048) (l : Fin 768) : val_main_v145 x0 x1 x2 x3 x4 x5 x6 x7 x8 x9 x10 x11 (ix3 0 r l)
      = out (fun j => x0 (ix3 0 r j)) (ctxRow x0 x1 x5 x7 X Q K r) (fun j => x1 (ix1 j)) (fun j => x2 (ix1 j))
          (fun e k l => x6 (ix3 e k l)) (fun k e => x8 (ix2 k e)) (fun e k f => x9 (ix3 e k f)) (fun e f l => x10 (ix3 e f l))
          (fun k e => x11 (ix2 k e)) l := by
  pointwise [val_main_v145, val_main_v144, val_main_v143, val_main_v142, val_main_v141, val_main_v140, val_main_call5_v0, val_main_call5_cst]
  simp only [gate2_apply x0 x1 x2 x3 x4 x5 x6 x7 x8 x11 X Q K hX hQ hK, h2_apply x0 x1 x2 x3 x4 x5 x6 x7 x8 X Q K hX hQ hK,
    mid_apply x0 x1 x3 x4 x5 x6 x7 x8 X Q K hX hQ hK]
  simp only [mul_comm (x10 _)]
  rfl

end Cert.ReferenceIdeal.Hand
-- ==== Proof.A.Finite.lean ====
/- The precondition read: the three arrays it names hold finite numbers. -/
module

public import proofs.«01_k».proof.Pre_finite
public import proofs.«01_k».proof.Proof.A.Softmax
public import Idealize.ShloMosaic.Lib.ReduceAll
public import Idealize.ShloMosaic.Lib.Decide

@[expose] public section

set_option maxRecDepth 16384

noncomputable section

namespace Cert.Pre_finite.Hand

open Idealize.ShloMosaic Cert.Soft

theorem facts : Cert.Pre_finite.Facts where
  h_S_ := by decide
  bcast_S_S768 := by decide
  reducesTo_S768_S_d0 := by decide
  bcast_S_S768x768 := by decide
  reducesTo_S768x768_S_d0_1 := by decide

/-- A number whose magnitude is below infinity is a real number. -/
theorem fin_of_abs (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  unfold Ideal.cmp at h
  induction x with
  | bot => simp at h
  | top => simp at h
  | coe y => exact ⟨y, rfl⟩

instance : Subsingleton S_.Idx := ⟨fun a b => funext fun i => i.elim0⟩

local instance : Cert.Pre_finite.Facts := facts

theorem finite_of (a0 : FVec Ideal S1x2048x768 .f32) (a1 a2 : FVec Ideal S768 .f32) (a3 a4 : FVec Ideal S768x768 .f32)
    (a5 a6 : FVec Ideal S8x768x768 .f32) (a7 a8 : FVec Ideal S768x8 .f32) (a9 : FVec Ideal S16x768x128 .f32)
    (a10 : FVec Ideal S16x128x768 .f32) (a11 : FVec Ideal S768x16 .f32)
    (h : fn (F := Ideal) a0 a1 a2 a3 a4 a5 a6 a7 a8 a9 a10 a11 = fun _ => 1#1) :
    (∀ i, Fin' (a1 i)) ∧ (∀ i, Fin' (a3 i)) ∧ (∀ i, Fin' (a4 i)) := by
  have h0 := congrFun h (fun a => a.elim0)
  dsimp only [fn] at h0
  obtain ⟨h1, p4⟩ := IntOp.andi_eq_one.1 h0
  obtain ⟨p1, p3⟩ := IntOp.andi_eq_one.1 h1
  exact ⟨fun i => fin_of_abs _ (Host.reduce_andi_all _ _ _ _ _ p1 i),
    fun i => fin_of_abs _ (Host.reduce_andi_all _ _ _ _ _ p3 i), fun i => fin_of_abs _ (Host.reduce_andi_all _ _ _ _ _ p4 i)⟩

end Cert.Pre_finite.Hand
-- ==== Proof.A.Claim.lean ====
/- The whole kernel and the whole reference leave the same array when the attention norm's weights and the query and key
   weights are finite. -/
module

public import proofs.«01_k».proof.Proof.A.Final
public import proofs.«01_k».proof.Proof.A.Ref
public import proofs.«01_k».proof.Proof.A.Finite
public import proofs.«01_k».proof.Proof.Gen.ReferenceIdeal.Run
public import proofs.«01_k».proof.Defs

@[expose] public section

set_option maxRecDepth 16384

noncomputable section

namespace Cert.Hand.A

open Idealize.ShloMosaic Idealize.ShloMosaic.TcCoe Idealize.SL.Sem

local instance : Cert.KernelIdeal.Facts := Cert.KernelIdeal.Gen.facts
local instance : Cert.ReferenceIdeal.Facts := Cert.ReferenceIdeal.Gen.facts
local instance : Cert.Pre_finite.Facts := Cert.Pre_finite.Hand.facts

theorem algebraic : Cert.algebraic_KernelIdeal_ReferenceIdeal_pre_finite := by
  intro m g m' g' hpre hagree
  refine ⟨fun c => Cert.KernelIdeal.Hand.W4 m g c (Proc.devRef .tc Cert.KernelIdeal.main_v31), ?_, ?_⟩
  · refine θ_run_mono (Cert.KernelIdeal.Hand.run_value (F := Ideal) m g) (fun r h c => ?_)
    obtain ⟨h0, h1, h2, h3, h4, h5, h6, h7, h8, h9, h10, h11, hv⟩ := h.1 c
    exact ⟨hv, h0, h1, h2, h3, h4, h5, h6, h7, h8, h9, h10, h11⟩
  · refine θ_run_mono (Cert.ReferenceIdeal.Value.run m' g') (fun r h c => ⟨(h c).1.trans ?_, (h c).2⟩)
    clear h r
    funext y
    obtain ⟨b, r, l, rfl⟩ : ∃ b r l, y = ix3 b r l := ⟨y 0, y 1, y 2, by funext a; match a with | ⟨0, _⟩ => rfl | ⟨1, _⟩ => rfl | ⟨2, _⟩ => rfl⟩
    obtain rfl : b = 0 := Subsingleton.elim _ _
    obtain ⟨a0, a1, a2, a3, a4, a5, a6, a7, a8, a9, a10, a11⟩ := hagree c
    obtain ⟨f1, f3, f4⟩ := Cert.Pre_finite.Hand.finite_of _ _ _ _ _ _ _ _ _ _ _ _ (hpre c)
    have hX := fun (r : Fin 2048) (k : Fin 768) => Rope.fin_toReal (Rope.norm_fin (fun j => m ((c.tc : Thread Cert.KernelIdeal.nD Cert.KernelIdeal.τ).loc Cert.KernelIdeal.main_arg0) (ix3 0 r j)) _ (fun j => f1 (ix1 j)) k)
    have hQ := fun (k l : Fin 768) => Rope.fin_toReal (f3 (ix2 k l))
    have hK := fun (k l : Fin 768) => Rope.fin_toReal (f4 (ix2 k l))
    refine (congrFun (Cert.ReferenceIdeal.Read.val_main_v145_eq (F := Ideal) (StableHlo.launchContents m' c)) (ix3 0 r l)).trans ?_
    show Cert.ReferenceIdeal.Read.val_main_v145 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (ix3 0 r l) = _
    rw [a0, a1, a2, a3, a4, a5, a6, a7, a8, a9, a10, a11]
    exact (Cert.ReferenceIdeal.Hand.result_apply _ _ _ _ _ _ _ _ _ _ _ _ _ _ _ hX hQ hK r l).trans
      (Cert.KernelIdeal.Hand.result_eq m g c _ _ _ hX hQ hK r l).symm

end Cert.Hand.A
-- ==== Proof.lean ====
/- The proof of the claims, assembled from the modules beside it. -/
module

public import proofs.«01_k».proof.Defs
public import proofs.«01_k».proof.Proof.Bits
public import proofs.«01_k».proof.Proof.KernelIdeal.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.A.Claim
public import Idealize.ShloMosaic.Lib.Quiescent

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite.Hand.facts,
  Cert.Hand.frame_Kernel, fun m g _ => Cert.KernelIdeal.Hand.frame (F := Ideal) m g,
  fun m g _ => Cert.KernelIdeal.Hand.frame (F := Ideal) m g,
  fun m g _ => (θ_run Cert.ReferenceIdeal.defs _ _).mono (fun r h => ⟨fun c => (h c).2, sem_eq_zero_of_no_sems (by decide) r.2⟩)
    (Cert.ReferenceIdeal.Value.run (F := Ideal) m g),
  fun m g _ => (θ_run Cert.ReferenceIdeal.defs _ _).mono (fun r h => ⟨fun c => (h c).2, sem_eq_zero_of_no_sems (by decide) r.2⟩)
    (Cert.ReferenceIdeal.Value.run (F := Ideal) m g),
  IdealRules.named_const.statement Cert.KernelIdeal.κ "mask" .f32 0xCE6E6B28#32 ⊥ rfl,
  Cert.Hand.A.algebraic⟩

end Cert.Proof

end
